-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Ples (m : (ℓ : Loc Cert.Ples.nD Cert.Ples.τ Cert.Ples.sig) → Buf (Elt Bits) ℓ) : Prop :=
  True

def Pre_PlesIdeal (m : (ℓ : Loc Cert.PlesIdeal.nD Cert.PlesIdeal.τ Cert.PlesIdeal.sig) → Buf (Elt Ideal) ℓ) : Prop :=
  True

def Pre_PlesRefIdeal (m : (ℓ : Loc Cert.PlesRefIdeal.nD Cert.PlesRefIdeal.τ Cert.PlesRefIdeal.sig) → Buf (Elt Ideal) ℓ) : Prop :=
  True

def Pre_Inps (m : (ℓ : Loc Cert.Inps.nD Cert.Inps.τ Cert.Inps.sig) → Buf (Elt Bits) ℓ) : Prop :=
  True

def Pre_InpsIdeal (m : (ℓ : Loc Cert.InpsIdeal.nD Cert.InpsIdeal.τ Cert.InpsIdeal.sig) → Buf (Elt Ideal) ℓ) : Prop :=
  True

def Pre_InpsRefIdeal (m : (ℓ : Loc Cert.InpsRefIdeal.nD Cert.InpsRefIdeal.τ Cert.InpsRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Preps (m : (ℓ : Loc Cert.Preps.nD Cert.Preps.τ Cert.Preps.sig) → Buf (Elt Bits) ℓ) : Prop :=
  True

def Pre_PrepsIdeal (m : (ℓ : Loc Cert.PrepsIdeal.nD Cert.PrepsIdeal.τ Cert.PrepsIdeal.sig) → Buf (Elt Ideal) ℓ) : Prop :=
  True

def Pre_PrepsRefIdeal (m : (ℓ : Loc Cert.PrepsRefIdeal.nD Cert.PrepsRefIdeal.τ Cert.PrepsRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3))
      ∧ r.2.sem = fun _ => 0)

def quiescent_Ples [hPles : Cert.Ples.Facts] : Prop :=
  ∀ (m : (ℓ : Loc Cert.Ples.nD Cert.Ples.τ Cert.Ples.sig) → Buf (Elt Bits) ℓ) (g : Dev Cert.Ples.nD → PrngReg), Pre_Ples m →
    θ_run (Cert.Ples.defs (F := Bits)) (onTc (τ := Cert.Ples.τ) (Cert.Ples.main (F := Bits))) ⟨m, fun _ => 0, g⟩ (fun r => (∀ c : Dev Cert.Ples.nD,
      r.2.mem ((c.tc : Thread Cert.Ples.nD Cert.Ples.τ).loc Cert.Ples.main_arg0) = m ((c.tc : Thread Cert.Ples.nD Cert.Ples.τ).loc Cert.Ples.main_arg0)
      ∧ r.2.mem ((c.tc : Thread Cert.Ples.nD Cert.Ples.τ).loc Cert.Ples.main_arg1) = m ((c.tc : Thread Cert.Ples.nD Cert.Ples.τ).loc Cert.Ples.main_arg1)
      ∧ r.2.mem ((c.tc : Thread Cert.Ples.nD Cert.Ples.τ).loc Cert.Ples.main_arg2) = m ((c.tc : Thread Cert.Ples.nD Cert.Ples.τ).loc Cert.Ples.main_arg2)
      ∧ r.2.mem ((c.tc : Thread Cert.Ples.nD Cert.Ples.τ).loc Cert.Ples.main_arg3) = m ((c.tc : Thread Cert.Ples.nD Cert.Ples.τ).loc Cert.Ples.main_arg3)
      ∧ r.2.mem ((c.tc : Thread Cert.Ples.nD Cert.Ples.τ).loc Cert.Ples.main_arg4) = m ((c.tc : Thread Cert.Ples.nD Cert.Ples.τ).loc Cert.Ples.main_arg4)
      ∧ r.2.mem ((c.tc : Thread Cert.Ples.nD Cert.Ples.τ).loc Cert.Ples.main_arg5) = m ((c.tc : Thread Cert.Ples.nD Cert.Ples.τ).loc Cert.Ples.main_arg5)
      ∧ r.2.mem ((c.tc : Thread Cert.Ples.nD Cert.Ples.τ).loc Cert.Ples.main_arg6) = m ((c.tc : Thread Cert.Ples.nD Cert.Ples.τ).loc Cert.Ples.main_arg6))
      ∧ r.2.sem = fun _ => 0)

def quiescent_PlesIdeal [hPlesIdeal : Cert.PlesIdeal.Facts] : Prop :=
  ∀ (m : (ℓ : Loc Cert.PlesIdeal.nD Cert.PlesIdeal.τ Cert.PlesIdeal.sig) → Buf (Elt Ideal) ℓ) (g : Dev Cert.PlesIdeal.nD → PrngReg), Pre_PlesIdeal m →
    θ_run (Cert.PlesIdeal.defs (F := Ideal)) (onTc (τ := Cert.PlesIdeal.τ) (Cert.PlesIdeal.main (F := Ideal))) ⟨m, fun _ => 0, g⟩ (fun r => (∀ c : Dev Cert.PlesIdeal.nD,
      r.2.mem ((c.tc : Thread Cert.PlesIdeal.nD Cert.PlesIdeal.τ).loc Cert.PlesIdeal.main_arg0) = m ((c.tc : Thread Cert.PlesIdeal.nD Cert.PlesIdeal.τ).loc Cert.PlesIdeal.main_arg0)
      ∧ r.2.mem ((c.tc : Thread Cert.PlesIdeal.nD Cert.PlesIdeal.τ).loc Cert.PlesIdeal.main_arg1) = m ((c.tc : Thread Cert.PlesIdeal.nD Cert.PlesIdeal.τ).loc Cert.PlesIdeal.main_arg1)
      ∧ r.2.mem ((c.tc : Thread Cert.PlesIdeal.nD Cert.PlesIdeal.τ).loc Cert.PlesIdeal.main_arg2) = m ((c.tc : Thread Cert.PlesIdeal.nD Cert.PlesIdeal.τ).loc Cert.PlesIdeal.main_arg2)
      ∧ r.2.mem ((c.tc : Thread Cert.PlesIdeal.nD Cert.PlesIdeal.τ).loc Cert.PlesIdeal.main_arg3) = m ((c.tc : Thread Cert.PlesIdeal.nD Cert.PlesIdeal.τ).loc Cert.PlesIdeal.main_arg3)
      ∧ r.2.mem ((c.tc : Thread Cert.PlesIdeal.nD Cert.PlesIdeal.τ).loc Cert.PlesIdeal.main_arg4) = m ((c.tc : Thread Cert.PlesIdeal.nD Cert.PlesIdeal.τ).loc Cert.PlesIdeal.main_arg4)
      ∧ r.2.mem ((c.tc : Thread Cert.PlesIdeal.nD Cert.PlesIdeal.τ).loc Cert.PlesIdeal.main_arg5) = m ((c.tc : Thread Cert.PlesIdeal.nD Cert.PlesIdeal.τ).loc Cert.PlesIdeal.main_arg5)
      ∧ r.2.mem ((c.tc : Thread Cert.PlesIdeal.nD Cert.PlesIdeal.τ).loc Cert.PlesIdeal.main_arg6) = m ((c.tc : Thread Cert.PlesIdeal.nD Cert.PlesIdeal.τ).loc Cert.PlesIdeal.main_arg6))
      ∧ r.2.sem = fun _ => 0)

def quiescent_PlesRefIdeal [hPlesRefIdeal : Cert.PlesRefIdeal.Facts] : Prop :=
  ∀ (m : (ℓ : Loc Cert.PlesRefIdeal.nD Cert.PlesRefIdeal.τ Cert.PlesRefIdeal.sig) → Buf (Elt Ideal) ℓ) (g : Dev Cert.PlesRefIdeal.nD → PrngReg), Pre_PlesRefIdeal m →
    θ_run (Cert.PlesRefIdeal.defs (F := Ideal)) (onTc (τ := Cert.PlesRefIdeal.τ) (Cert.PlesRefIdeal.main (F := Ideal))) ⟨m, fun _ => 0, g⟩ (fun r => (∀ c : Dev Cert.PlesRefIdeal.nD,
      r.2.mem ((c.tc : Thread Cert.PlesRefIdeal.nD Cert.PlesRefIdeal.τ).loc Cert.PlesRefIdeal.main_arg0) = m ((c.tc : Thread Cert.PlesRefIdeal.nD Cert.PlesRefIdeal.τ).loc Cert.PlesRefIdeal.main_arg0)
      ∧ r.2.mem ((c.tc : Thread Cert.PlesRefIdeal.nD Cert.PlesRefIdeal.τ).loc Cert.PlesRefIdeal.main_arg1) = m ((c.tc : Thread Cert.PlesRefIdeal.nD Cert.PlesRefIdeal.τ).loc Cert.PlesRefIdeal.main_arg1)
      ∧ r.2.mem ((c.tc : Thread Cert.PlesRefIdeal.nD Cert.PlesRefIdeal.τ).loc Cert.PlesRefIdeal.main_arg2) = m ((c.tc : Thread Cert.PlesRefIdeal.nD Cert.PlesRefIdeal.τ).loc Cert.PlesRefIdeal.main_arg2)
      ∧ r.2.mem ((c.tc : Thread Cert.PlesRefIdeal.nD Cert.PlesRefIdeal.τ).loc Cert.PlesRefIdeal.main_arg3) = m ((c.tc : Thread Cert.PlesRefIdeal.nD Cert.PlesRefIdeal.τ).loc Cert.PlesRefIdeal.main_arg3)
      ∧ r.2.mem ((c.tc : Thread Cert.PlesRefIdeal.nD Cert.PlesRefIdeal.τ).loc Cert.PlesRefIdeal.main_arg4) = m ((c.tc : Thread Cert.PlesRefIdeal.nD Cert.PlesRefIdeal.τ).loc Cert.PlesRefIdeal.main_arg4)
      ∧ r.2.mem ((c.tc : Thread Cert.PlesRefIdeal.nD Cert.PlesRefIdeal.τ).loc Cert.PlesRefIdeal.main_arg5) = m ((c.tc : Thread Cert.PlesRefIdeal.nD Cert.PlesRefIdeal.τ).loc Cert.PlesRefIdeal.main_arg5)
      ∧ r.2.mem ((c.tc : Thread Cert.PlesRefIdeal.nD Cert.PlesRefIdeal.τ).loc Cert.PlesRefIdeal.main_arg6) = m ((c.tc : Thread Cert.PlesRefIdeal.nD Cert.PlesRefIdeal.τ).loc Cert.PlesRefIdeal.main_arg6))
      ∧ r.2.sem = fun _ => 0)

def quiescent_Inps [hInps : Cert.Inps.Facts] : Prop :=
  ∀ (m : (ℓ : Loc Cert.Inps.nD Cert.Inps.τ Cert.Inps.sig) → Buf (Elt Bits) ℓ) (g : Dev Cert.Inps.nD → PrngReg), Pre_Inps m →
    θ_run (Cert.Inps.defs (F := Bits)) (onTc (τ := Cert.Inps.τ) (Cert.Inps.main (F := Bits))) ⟨m, fun _ => 0, g⟩ (fun r => (∀ c : Dev Cert.Inps.nD,
      r.2.mem ((c.tc : Thread Cert.Inps.nD Cert.Inps.τ).loc Cert.Inps.main_arg0) = m ((c.tc : Thread Cert.Inps.nD Cert.Inps.τ).loc Cert.Inps.main_arg0)
      ∧ r.2.mem ((c.tc : Thread Cert.Inps.nD Cert.Inps.τ).loc Cert.Inps.main_arg1) = m ((c.tc : Thread Cert.Inps.nD Cert.Inps.τ).loc Cert.Inps.main_arg1)
      ∧ r.2.mem ((c.tc : Thread Cert.Inps.nD Cert.Inps.τ).loc Cert.Inps.main_arg2) = m ((c.tc : Thread Cert.Inps.nD Cert.Inps.τ).loc Cert.Inps.main_arg2)
      ∧ r.2.mem ((c.tc : Thread Cert.Inps.nD Cert.Inps.τ).loc Cert.Inps.main_arg3) = m ((c.tc : Thread Cert.Inps.nD Cert.Inps.τ).loc Cert.Inps.main_arg3))
      ∧ r.2.sem = fun _ => 0)

def quiescent_InpsIdeal [hInpsIdeal : Cert.InpsIdeal.Facts] : Prop :=
  ∀ (m : (ℓ : Loc Cert.InpsIdeal.nD Cert.InpsIdeal.τ Cert.InpsIdeal.sig) → Buf (Elt Ideal) ℓ) (g : Dev Cert.InpsIdeal.nD → PrngReg), Pre_InpsIdeal m →
    θ_run (Cert.InpsIdeal.defs (F := Ideal)) (onTc (τ := Cert.InpsIdeal.τ) (Cert.InpsIdeal.main (F := Ideal))) ⟨m, fun _ => 0, g⟩ (fun r => (∀ c : Dev Cert.InpsIdeal.nD,
      r.2.mem ((c.tc : Thread Cert.InpsIdeal.nD Cert.InpsIdeal.τ).loc Cert.InpsIdeal.main_arg0) = m ((c.tc : Thread Cert.InpsIdeal.nD Cert.InpsIdeal.τ).loc Cert.InpsIdeal.main_arg0)
      ∧ r.2.mem ((c.tc : Thread Cert.InpsIdeal.nD Cert.InpsIdeal.τ).loc Cert.InpsIdeal.main_arg1) = m ((c.tc : Thread Cert.InpsIdeal.nD Cert.InpsIdeal.τ).loc Cert.InpsIdeal.main_arg1)
      ∧ r.2.mem ((c.tc : Thread Cert.InpsIdeal.nD Cert.InpsIdeal.τ).loc Cert.InpsIdeal.main_arg2) = m ((c.tc : Thread Cert.InpsIdeal.nD Cert.InpsIdeal.τ).loc Cert.InpsIdeal.main_arg2)
      ∧ r.2.mem ((c.tc : Thread Cert.InpsIdeal.nD Cert.InpsIdeal.τ).loc Cert.InpsIdeal.main_arg3) = m ((c.tc : Thread Cert.InpsIdeal.nD Cert.InpsIdeal.τ).loc Cert.InpsIdeal.main_arg3))
      ∧ r.2.sem = fun _ => 0)

def quiescent_InpsRefIdeal [hInpsRefIdeal : Cert.InpsRefIdeal.Facts] : Prop :=
  ∀ (m : (ℓ : Loc Cert.InpsRefIdeal.nD Cert.InpsRefIdeal.τ Cert.InpsRefIdeal.sig) → Buf (Elt Ideal) ℓ) (g : Dev Cert.InpsRefIdeal.nD → PrngReg), Pre_InpsRefIdeal m →
    θ_run (Cert.InpsRefIdeal.defs (F := Ideal)) (onTc (τ := Cert.InpsRefIdeal.τ) (Cert.InpsRefIdeal.main (F := Ideal))) ⟨m, fun _ => 0, g⟩ (fun r => (∀ c : Dev Cert.InpsRefIdeal.nD,
      r.2.mem ((c.tc : Thread Cert.InpsRefIdeal.nD Cert.InpsRefIdeal.τ).loc Cert.InpsRefIdeal.main_arg0) = m ((c.tc : Thread Cert.InpsRefIdeal.nD Cert.InpsRefIdeal.τ).loc Cert.InpsRefIdeal.main_arg0)
      ∧ r.2.mem ((c.tc : Thread Cert.InpsRefIdeal.nD Cert.InpsRefIdeal.τ).loc Cert.InpsRefIdeal.main_arg1) = m ((c.tc : Thread Cert.InpsRefIdeal.nD Cert.InpsRefIdeal.τ).loc Cert.InpsRefIdeal.main_arg1)
      ∧ r.2.mem ((c.tc : Thread Cert.InpsRefIdeal.nD Cert.InpsRefIdeal.τ).loc Cert.InpsRefIdeal.main_arg2) = m ((c.tc : Thread Cert.InpsRefIdeal.nD Cert.InpsRefIdeal.τ).loc Cert.InpsRefIdeal.main_arg2)
      ∧ r.2.mem ((c.tc : Thread Cert.InpsRefIdeal.nD Cert.InpsRefIdeal.τ).loc Cert.InpsRefIdeal.main_arg3) = m ((c.tc : Thread Cert.InpsRefIdeal.nD Cert.InpsRefIdeal.τ).loc Cert.InpsRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_Preps [hPreps : Cert.Preps.Facts] : Prop :=
  ∀ (m : (ℓ : Loc Cert.Preps.nD Cert.Preps.τ Cert.Preps.sig) → Buf (Elt Bits) ℓ) (g : Dev Cert.Preps.nD → PrngReg), Pre_Preps m →
    θ_run (Cert.Preps.defs (F := Bits)) (onTc (τ := Cert.Preps.τ) (Cert.Preps.main (F := Bits))) ⟨m, fun _ => 0, g⟩ (fun r => (∀ c : Dev Cert.Preps.nD,
      r.2.mem ((c.tc : Thread Cert.Preps.nD Cert.Preps.τ).loc Cert.Preps.main_arg0) = m ((c.tc : Thread Cert.Preps.nD Cert.Preps.τ).loc Cert.Preps.main_arg0)
      ∧ r.2.mem ((c.tc : Thread Cert.Preps.nD Cert.Preps.τ).loc Cert.Preps.main_arg1) = m ((c.tc : Thread Cert.Preps.nD Cert.Preps.τ).loc Cert.Preps.main_arg1))
      ∧ r.2.sem = fun _ => 0)

def quiescent_PrepsIdeal [hPrepsIdeal : Cert.PrepsIdeal.Facts] : Prop :=
  ∀ (m : (ℓ : Loc Cert.PrepsIdeal.nD Cert.PrepsIdeal.τ Cert.PrepsIdeal.sig) → Buf (Elt Ideal) ℓ) (g : Dev Cert.PrepsIdeal.nD → PrngReg), Pre_PrepsIdeal m →
    θ_run (Cert.PrepsIdeal.defs (F := Ideal)) (onTc (τ := Cert.PrepsIdeal.τ) (Cert.PrepsIdeal.main (F := Ideal))) ⟨m, fun _ => 0, g⟩ (fun r => (∀ c : Dev Cert.PrepsIdeal.nD,
      r.2.mem ((c.tc : Thread Cert.PrepsIdeal.nD Cert.PrepsIdeal.τ).loc Cert.PrepsIdeal.main_arg0) = m ((c.tc : Thread Cert.PrepsIdeal.nD Cert.PrepsIdeal.τ).loc Cert.PrepsIdeal.main_arg0)
      ∧ r.2.mem ((c.tc : Thread Cert.PrepsIdeal.nD Cert.PrepsIdeal.τ).loc Cert.PrepsIdeal.main_arg1) = m ((c.tc : Thread Cert.PrepsIdeal.nD Cert.PrepsIdeal.τ).loc Cert.PrepsIdeal.main_arg1))
      ∧ r.2.sem = fun _ => 0)

def quiescent_PrepsRefIdeal [hPrepsRefIdeal : Cert.PrepsRefIdeal.Facts] : Prop :=
  ∀ (m : (ℓ : Loc Cert.PrepsRefIdeal.nD Cert.PrepsRefIdeal.τ Cert.PrepsRefIdeal.sig) → Buf (Elt Ideal) ℓ) (g : Dev Cert.PrepsRefIdeal.nD → PrngReg), Pre_PrepsRefIdeal m →
    θ_run (Cert.PrepsRefIdeal.defs (F := Ideal)) (onTc (τ := Cert.PrepsRefIdeal.τ) (Cert.PrepsRefIdeal.main (F := Ideal))) ⟨m, fun _ => 0, g⟩ (fun r => (∀ c : Dev Cert.PrepsRefIdeal.nD,
      r.2.mem ((c.tc : Thread Cert.PrepsRefIdeal.nD Cert.PrepsRefIdeal.τ).loc Cert.PrepsRefIdeal.main_arg0) = m ((c.tc : Thread Cert.PrepsRefIdeal.nD Cert.PrepsRefIdeal.τ).loc Cert.PrepsRefIdeal.main_arg0)
      ∧ r.2.mem ((c.tc : Thread Cert.PrepsRefIdeal.nD Cert.PrepsRefIdeal.τ).loc Cert.PrepsRefIdeal.main_arg1) = m ((c.tc : Thread Cert.PrepsRefIdeal.nD Cert.PrepsRefIdeal.τ).loc Cert.PrepsRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v50) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Inp_InpIdeal : Prop :=
  IdealRules.named_const.Statement Cert.InpIdeal.κ "scale_a" .f32 0x3E0293EE#32 (((Real.sqrt 128)⁻¹ * (Real.log 2)⁻¹ : ℝ) : EReal)
  ∧ IdealRules.named_const.Statement Cert.InpIdeal.κ "scale_b" .f32 0x3DB504F3#32 (((Real.sqrt 128)⁻¹ : ℝ) : EReal)

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)) →
    ∃ (v0 : (c : Dev Cert.InpIdeal.nD) → Buf (Elt Ideal) ((c.tc : Thread Cert.InpIdeal.nD Cert.InpIdeal.τ).loc Cert.InpIdeal.main_v1_0)) (v1 : (c : Dev Cert.InpIdeal.nD) → Buf (Elt Ideal) ((c.tc : Thread Cert.InpIdeal.nD Cert.InpIdeal.τ).loc Cert.InpIdeal.main_v1_1)) (v2 : (c : Dev Cert.InpIdeal.nD) → Buf (Elt Ideal) ((c.tc : Thread Cert.InpIdeal.nD Cert.InpIdeal.τ).loc Cert.InpIdeal.main_v1_2)) (v3 : (c : Dev Cert.InpIdeal.nD) → Buf (Elt Ideal) ((c.tc : Thread Cert.InpIdeal.nD Cert.InpIdeal.τ).loc Cert.InpIdeal.main_v1_3)) (v4 : (c : Dev Cert.InpIdeal.nD) → Buf (Elt Ideal) ((c.tc : Thread Cert.InpIdeal.nD Cert.InpIdeal.τ).loc Cert.InpIdeal.main_v1_4)) (v5 : (c : Dev Cert.InpIdeal.nD) → Buf (Elt Ideal) ((c.tc : Thread Cert.InpIdeal.nD Cert.InpIdeal.τ).loc Cert.InpIdeal.main_v1_5)) (v6 : (c : Dev Cert.InpIdeal.nD) → Buf (Elt Ideal) ((c.tc : Thread Cert.InpIdeal.nD Cert.InpIdeal.τ).loc Cert.InpIdeal.main_v1_6)) (v7 : (c : Dev Cert.InpIdeal.nD) → Buf (Elt Ideal) ((c.tc : Thread Cert.InpIdeal.nD Cert.InpIdeal.τ).loc Cert.InpIdeal.main_v1_7)) (v8 : (c : Dev Cert.InpIdeal.nD) → Buf (Elt Ideal) ((c.tc : Thread Cert.InpIdeal.nD Cert.InpIdeal.τ).loc Cert.InpIdeal.main_v1_8)) (v9 : (c : Dev Cert.InpIdeal.nD) → Buf (Elt Ideal) ((c.tc : Thread Cert.InpIdeal.nD Cert.InpIdeal.τ).loc Cert.InpIdeal.main_v1_9)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v1_0) = v0 c
          ∧ r.2.mem ((c.tc : Thread Cert.InpIdeal.nD Cert.InpIdeal.τ).loc Cert.InpIdeal.main_v1_1) = v1 c
          ∧ r.2.mem ((c.tc : Thread Cert.InpIdeal.nD Cert.InpIdeal.τ).loc Cert.InpIdeal.main_v1_2) = v2 c
          ∧ r.2.mem ((c.tc : Thread Cert.InpIdeal.nD Cert.InpIdeal.τ).loc Cert.InpIdeal.main_v1_3) = v3 c
          ∧ r.2.mem ((c.tc : Thread Cert.InpIdeal.nD Cert.InpIdeal.τ).loc Cert.InpIdeal.main_v1_4) = v4 c
          ∧ r.2.mem ((c.tc : Thread Cert.InpIdeal.nD Cert.InpIdeal.τ).loc Cert.InpIdeal.main_v1_5) = v5 c
          ∧ r.2.mem ((c.tc : Thread Cert.InpIdeal.nD Cert.InpIdeal.τ).loc Cert.InpIdeal.main_v1_6) = v6 c
          ∧ r.2.mem ((c.tc : Thread Cert.InpIdeal.nD Cert.InpIdeal.τ).loc Cert.InpIdeal.main_v1_7) = v7 c
          ∧ r.2.mem ((c.tc : Thread Cert.InpIdeal.nD Cert.InpIdeal.τ).loc Cert.InpIdeal.main_v1_8) = v8 c
          ∧ r.2.mem ((c.tc : Thread Cert.InpIdeal.nD Cert.InpIdeal.τ).loc Cert.InpIdeal.main_v1_9) = v9 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v28) = v0 c
          ∧ r.2.mem ((c.tc : Thread Cert.InpRefIdeal.nD Cert.InpRefIdeal.τ).loc Cert.InpRefIdeal.main_v29) = v1 c
          ∧ r.2.mem ((c.tc : Thread Cert.InpRefIdeal.nD Cert.InpRefIdeal.τ).loc Cert.InpRefIdeal.main_v30) = v2 c
          ∧ r.2.mem ((c.tc : Thread Cert.InpRefIdeal.nD Cert.InpRefIdeal.τ).loc Cert.InpRefIdeal.main_v34) = v3 c
          ∧ r.2.mem ((c.tc : Thread Cert.InpRefIdeal.nD Cert.InpRefIdeal.τ).loc Cert.InpRefIdeal.main_v35) = v4 c
          ∧ r.2.mem ((c.tc : Thread Cert.InpRefIdeal.nD Cert.InpRefIdeal.τ).loc Cert.InpRefIdeal.main_v36) = v5 c
          ∧ r.2.mem ((c.tc : Thread Cert.InpRefIdeal.nD Cert.InpRefIdeal.τ).loc Cert.InpRefIdeal.main_v37) = v6 c
          ∧ r.2.mem ((c.tc : Thread Cert.InpRefIdeal.nD Cert.InpRefIdeal.τ).loc Cert.InpRefIdeal.main_v16) = v7 c
          ∧ r.2.mem ((c.tc : Thread Cert.InpRefIdeal.nD Cert.InpRefIdeal.τ).loc Cert.InpRefIdeal.main_v17) = v8 c
          ∧ r.2.mem ((c.tc : Thread Cert.InpRefIdeal.nD Cert.InpRefIdeal.τ).loc Cert.InpRefIdeal.main_v39) = v9 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3))

def preserves_Ples_PlesIdeal : Prop :=
  True

def algebraic_PlesIdeal_PlesRefIdeal [hPlesIdeal : Cert.PlesIdeal.Facts] [hPlesRefIdeal : Cert.PlesRefIdeal.Facts] : Prop :=
  ∀ (m : (ℓ : Loc Cert.PlesIdeal.nD Cert.PlesIdeal.τ Cert.PlesIdeal.sig) → Buf (Elt Ideal) ℓ) (g : Dev Cert.PlesIdeal.nD → PrngReg)
    (m' : (ℓ : Loc Cert.PlesRefIdeal.nD Cert.PlesRefIdeal.τ Cert.PlesRefIdeal.sig) → Buf (Elt Ideal) ℓ) (g' : Dev Cert.PlesRefIdeal.nD → PrngReg), Pre_PlesIdeal m →
    (∀ c : Dev Cert.PlesIdeal.nD,
      m' ((c.tc : Thread Cert.PlesRefIdeal.nD Cert.PlesRefIdeal.τ).loc Cert.PlesRefIdeal.main_arg0) = m ((c.tc : Thread Cert.PlesIdeal.nD Cert.PlesIdeal.τ).loc Cert.PlesIdeal.main_arg0)
      ∧ m' ((c.tc : Thread Cert.PlesRefIdeal.nD Cert.PlesRefIdeal.τ).loc Cert.PlesRefIdeal.main_arg1) = m ((c.tc : Thread Cert.PlesIdeal.nD Cert.PlesIdeal.τ).loc Cert.PlesIdeal.main_arg1)
      ∧ m' ((c.tc : Thread Cert.PlesRefIdeal.nD Cert.PlesRefIdeal.τ).loc Cert.PlesRefIdeal.main_arg2) = m ((c.tc : Thread Cert.PlesIdeal.nD Cert.PlesIdeal.τ).loc Cert.PlesIdeal.main_arg2)
      ∧ m' ((c.tc : Thread Cert.PlesRefIdeal.nD Cert.PlesRefIdeal.τ).loc Cert.PlesRefIdeal.main_arg3) = m ((c.tc : Thread Cert.PlesIdeal.nD Cert.PlesIdeal.τ).loc Cert.PlesIdeal.main_arg3)
      ∧ m' ((c.tc : Thread Cert.PlesRefIdeal.nD Cert.PlesRefIdeal.τ).loc Cert.PlesRefIdeal.main_arg4) = m ((c.tc : Thread Cert.PlesIdeal.nD Cert.PlesIdeal.τ).loc Cert.PlesIdeal.main_arg4)
      ∧ m' ((c.tc : Thread Cert.PlesRefIdeal.nD Cert.PlesRefIdeal.τ).loc Cert.PlesRefIdeal.main_arg5) = m ((c.tc : Thread Cert.PlesIdeal.nD Cert.PlesIdeal.τ).loc Cert.PlesIdeal.main_arg5)
      ∧ m' ((c.tc : Thread Cert.PlesRefIdeal.nD Cert.PlesRefIdeal.τ).loc Cert.PlesRefIdeal.main_arg6) = m ((c.tc : Thread Cert.PlesIdeal.nD Cert.PlesIdeal.τ).loc Cert.PlesIdeal.main_arg6)) →
    ∃ (v0 : (c : Dev Cert.PlesIdeal.nD) → Buf (Elt Ideal) ((c.tc : Thread Cert.PlesIdeal.nD Cert.PlesIdeal.τ).loc Cert.PlesIdeal.main_v3)),
      θ_run (Cert.PlesIdeal.defs (F := Ideal)) (onTc (τ := Cert.PlesIdeal.τ) (Cert.PlesIdeal.main (F := Ideal))) ⟨m, fun _ => 0, g⟩ (fun r => ∀ c : Dev Cert.PlesIdeal.nD,
          r.2.mem ((c.tc : Thread Cert.PlesIdeal.nD Cert.PlesIdeal.τ).loc Cert.PlesIdeal.main_v3) = v0 c
          ∧ r.2.mem ((c.tc : Thread Cert.PlesIdeal.nD Cert.PlesIdeal.τ).loc Cert.PlesIdeal.main_arg0) = m ((c.tc : Thread Cert.PlesIdeal.nD Cert.PlesIdeal.τ).loc Cert.PlesIdeal.main_arg0)
          ∧ r.2.mem ((c.tc : Thread Cert.PlesIdeal.nD Cert.PlesIdeal.τ).loc Cert.PlesIdeal.main_arg1) = m ((c.tc : Thread Cert.PlesIdeal.nD Cert.PlesIdeal.τ).loc Cert.PlesIdeal.main_arg1)
          ∧ r.2.mem ((c.tc : Thread Cert.PlesIdeal.nD Cert.PlesIdeal.τ).loc Cert.PlesIdeal.main_arg2) = m ((c.tc : Thread Cert.PlesIdeal.nD Cert.PlesIdeal.τ).loc Cert.PlesIdeal.main_arg2)
          ∧ r.2.mem ((c.tc : Thread Cert.PlesIdeal.nD Cert.PlesIdeal.τ).loc Cert.PlesIdeal.main_arg3) = m ((c.tc : Thread Cert.PlesIdeal.nD Cert.PlesIdeal.τ).loc Cert.PlesIdeal.main_arg3)
          ∧ r.2.mem ((c.tc : Thread Cert.PlesIdeal.nD Cert.PlesIdeal.τ).loc Cert.PlesIdeal.main_arg4) = m ((c.tc : Thread Cert.PlesIdeal.nD Cert.PlesIdeal.τ).loc Cert.PlesIdeal.main_arg4)
          ∧ r.2.mem ((c.tc : Thread Cert.PlesIdeal.nD Cert.PlesIdeal.τ).loc Cert.PlesIdeal.main_arg5) = m ((c.tc : Thread Cert.PlesIdeal.nD Cert.PlesIdeal.τ).loc Cert.PlesIdeal.main_arg5)
          ∧ r.2.mem ((c.tc : Thread Cert.PlesIdeal.nD Cert.PlesIdeal.τ).loc Cert.PlesIdeal.main_arg6) = m ((c.tc : Thread Cert.PlesIdeal.nD Cert.PlesIdeal.τ).loc Cert.PlesIdeal.main_arg6))
      ∧ θ_run (Cert.PlesRefIdeal.defs (F := Ideal)) (onTc (τ := Cert.PlesRefIdeal.τ) (Cert.PlesRefIdeal.main (F := Ideal))) ⟨m', fun _ => 0, g'⟩ (fun r => ∀ c : Dev Cert.PlesRefIdeal.nD,
          r.2.mem ((c.tc : Thread Cert.PlesRefIdeal.nD Cert.PlesRefIdeal.τ).loc Cert.PlesRefIdeal.main_v50) = v0 c
          ∧ r.2.mem ((c.tc : Thread Cert.PlesRefIdeal.nD Cert.PlesRefIdeal.τ).loc Cert.PlesRefIdeal.main_arg0) = m' ((c.tc : Thread Cert.PlesRefIdeal.nD Cert.PlesRefIdeal.τ).loc Cert.PlesRefIdeal.main_arg0)
          ∧ r.2.mem ((c.tc : Thread Cert.PlesRefIdeal.nD Cert.PlesRefIdeal.τ).loc Cert.PlesRefIdeal.main_arg1) = m' ((c.tc : Thread Cert.PlesRefIdeal.nD Cert.PlesRefIdeal.τ).loc Cert.PlesRefIdeal.main_arg1)
          ∧ r.2.mem ((c.tc : Thread Cert.PlesRefIdeal.nD Cert.PlesRefIdeal.τ).loc Cert.PlesRefIdeal.main_arg2) = m' ((c.tc : Thread Cert.PlesRefIdeal.nD Cert.PlesRefIdeal.τ).loc Cert.PlesRefIdeal.main_arg2)
          ∧ r.2.mem ((c.tc : Thread Cert.PlesRefIdeal.nD Cert.PlesRefIdeal.τ).loc Cert.PlesRefIdeal.main_arg3) = m' ((c.tc : Thread Cert.PlesRefIdeal.nD Cert.PlesRefIdeal.τ).loc Cert.PlesRefIdeal.main_arg3)
          ∧ r.2.mem ((c.tc : Thread Cert.PlesRefIdeal.nD Cert.PlesRefIdeal.τ).loc Cert.PlesRefIdeal.main_arg4) = m' ((c.tc : Thread Cert.PlesRefIdeal.nD Cert.PlesRefIdeal.τ).loc Cert.PlesRefIdeal.main_arg4)
          ∧ r.2.mem ((c.tc : Thread Cert.PlesRefIdeal.nD Cert.PlesRefIdeal.τ).loc Cert.PlesRefIdeal.main_arg5) = m' ((c.tc : Thread Cert.PlesRefIdeal.nD Cert.PlesRefIdeal.τ).loc Cert.PlesRefIdeal.main_arg5)
          ∧ r.2.mem ((c.tc : Thread Cert.PlesRefIdeal.nD Cert.PlesRefIdeal.τ).loc Cert.PlesRefIdeal.main_arg6) = m' ((c.tc : Thread Cert.PlesRefIdeal.nD Cert.PlesRefIdeal.τ).loc Cert.PlesRefIdeal.main_arg6))

def preserves_Inps_InpsIdeal : Prop :=
  IdealRules.named_const.Statement Cert.InpsIdeal.κ "scale_a" .f32 0x3E0293EE#32 (((Real.sqrt 128)⁻¹ * (Real.log 2)⁻¹ : ℝ) : EReal)
  ∧ IdealRules.named_const.Statement Cert.InpsIdeal.κ "scale_b" .f32 0x3DB504F3#32 (((Real.sqrt 128)⁻¹ : ℝ) : EReal)

def algebraic_InpsIdeal_InpsRefIdeal [hInpsIdeal : Cert.InpsIdeal.Facts] [hInpsRefIdeal : Cert.InpsRefIdeal.Facts] : Prop :=
  ∀ (m : (ℓ : Loc Cert.InpsIdeal.nD Cert.InpsIdeal.τ Cert.InpsIdeal.sig) → Buf (Elt Ideal) ℓ) (g : Dev Cert.InpsIdeal.nD → PrngReg)
    (m' : (ℓ : Loc Cert.InpsRefIdeal.nD Cert.InpsRefIdeal.τ Cert.InpsRefIdeal.sig) → Buf (Elt Ideal) ℓ) (g' : Dev Cert.InpsRefIdeal.nD → PrngReg), Pre_InpsIdeal m →
    (∀ c : Dev Cert.InpsIdeal.nD,
      m' ((c.tc : Thread Cert.InpsRefIdeal.nD Cert.InpsRefIdeal.τ).loc Cert.InpsRefIdeal.main_arg0) = m ((c.tc : Thread Cert.InpsIdeal.nD Cert.InpsIdeal.τ).loc Cert.InpsIdeal.main_arg0)
      ∧ m' ((c.tc : Thread Cert.InpsRefIdeal.nD Cert.InpsRefIdeal.τ).loc Cert.InpsRefIdeal.main_arg1) = m ((c.tc : Thread Cert.InpsIdeal.nD Cert.InpsIdeal.τ).loc Cert.InpsIdeal.main_arg1)
      ∧ m' ((c.tc : Thread Cert.InpsRefIdeal.nD Cert.InpsRefIdeal.τ).loc Cert.InpsRefIdeal.main_arg2) = m ((c.tc : Thread Cert.InpsIdeal.nD Cert.InpsIdeal.τ).loc Cert.InpsIdeal.main_arg2)
      ∧ m' ((c.tc : Thread Cert.InpsRefIdeal.nD Cert.InpsRefIdeal.τ).loc Cert.InpsRefIdeal.main_arg3) = m ((c.tc : Thread Cert.InpsIdeal.nD Cert.InpsIdeal.τ).loc Cert.InpsIdeal.main_arg3)) →
    ∃ (v0 : (c : Dev Cert.InpsIdeal.nD) → Buf (Elt Ideal) ((c.tc : Thread Cert.InpsIdeal.nD Cert.InpsIdeal.τ).loc Cert.InpsIdeal.main_v1_0)) (v1 : (c : Dev Cert.InpsIdeal.nD) → Buf (Elt Ideal) ((c.tc : Thread Cert.InpsIdeal.nD Cert.InpsIdeal.τ).loc Cert.InpsIdeal.main_v1_1)) (v2 : (c : Dev Cert.InpsIdeal.nD) → Buf (Elt Ideal) ((c.tc : Thread Cert.InpsIdeal.nD Cert.InpsIdeal.τ).loc Cert.InpsIdeal.main_v1_2)) (v3 : (c : Dev Cert.InpsIdeal.nD) → Buf (Elt Ideal) ((c.tc : Thread Cert.InpsIdeal.nD Cert.InpsIdeal.τ).loc Cert.InpsIdeal.main_v1_3)) (v4 : (c : Dev Cert.InpsIdeal.nD) → Buf (Elt Ideal) ((c.tc : Thread Cert.InpsIdeal.nD Cert.InpsIdeal.τ).loc Cert.InpsIdeal.main_v1_4)) (v5 : (c : Dev Cert.InpsIdeal.nD) → Buf (Elt Ideal) ((c.tc : Thread Cert.InpsIdeal.nD Cert.InpsIdeal.τ).loc Cert.InpsIdeal.main_v1_5)) (v6 : (c : Dev Cert.InpsIdeal.nD) → Buf (Elt Ideal) ((c.tc : Thread Cert.InpsIdeal.nD Cert.InpsIdeal.τ).loc Cert.InpsIdeal.main_v1_6)) (v7 : (c : Dev Cert.InpsIdeal.nD) → Buf (Elt Ideal) ((c.tc : Thread Cert.InpsIdeal.nD Cert.InpsIdeal.τ).loc Cert.InpsIdeal.main_v1_7)) (v8 : (c : Dev Cert.InpsIdeal.nD) → Buf (Elt Ideal) ((c.tc : Thread Cert.InpsIdeal.nD Cert.InpsIdeal.τ).loc Cert.InpsIdeal.main_v1_8)) (v9 : (c : Dev Cert.InpsIdeal.nD) → Buf (Elt Ideal) ((c.tc : Thread Cert.InpsIdeal.nD Cert.InpsIdeal.τ).loc Cert.InpsIdeal.main_v1_9)),
      θ_run (Cert.InpsIdeal.defs (F := Ideal)) (onTc (τ := Cert.InpsIdeal.τ) (Cert.InpsIdeal.main (F := Ideal))) ⟨m, fun _ => 0, g⟩ (fun r => ∀ c : Dev Cert.InpsIdeal.nD,
          r.2.mem ((c.tc : Thread Cert.InpsIdeal.nD Cert.InpsIdeal.τ).loc Cert.InpsIdeal.main_v1_0) = v0 c
          ∧ r.2.mem ((c.tc : Thread Cert.InpsIdeal.nD Cert.InpsIdeal.τ).loc Cert.InpsIdeal.main_v1_1) = v1 c
          ∧ r.2.mem ((c.tc : Thread Cert.InpsIdeal.nD Cert.InpsIdeal.τ).loc Cert.InpsIdeal.main_v1_2) = v2 c
          ∧ r.2.mem ((c.tc : Thread Cert.InpsIdeal.nD Cert.InpsIdeal.τ).loc Cert.InpsIdeal.main_v1_3) = v3 c
          ∧ r.2.mem ((c.tc : Thread Cert.InpsIdeal.nD Cert.InpsIdeal.τ).loc Cert.InpsIdeal.main_v1_4) = v4 c
          ∧ r.2.mem ((c.tc : Thread Cert.InpsIdeal.nD Cert.InpsIdeal.τ).loc Cert.InpsIdeal.main_v1_5) = v5 c
          ∧ r.2.mem ((c.tc : Thread Cert.InpsIdeal.nD Cert.InpsIdeal.τ).loc Cert.InpsIdeal.main_v1_6) = v6 c
          ∧ r.2.mem ((c.tc : Thread Cert.InpsIdeal.nD Cert.InpsIdeal.τ).loc Cert.InpsIdeal.main_v1_7) = v7 c
          ∧ r.2.mem ((c.tc : Thread Cert.InpsIdeal.nD Cert.InpsIdeal.τ).loc Cert.InpsIdeal.main_v1_8) = v8 c
          ∧ r.2.mem ((c.tc : Thread Cert.InpsIdeal.nD Cert.InpsIdeal.τ).loc Cert.InpsIdeal.main_v1_9) = v9 c
          ∧ r.2.mem ((c.tc : Thread Cert.InpsIdeal.nD Cert.InpsIdeal.τ).loc Cert.InpsIdeal.main_arg0) = m ((c.tc : Thread Cert.InpsIdeal.nD Cert.InpsIdeal.τ).loc Cert.InpsIdeal.main_arg0)
          ∧ r.2.mem ((c.tc : Thread Cert.InpsIdeal.nD Cert.InpsIdeal.τ).loc Cert.InpsIdeal.main_arg1) = m ((c.tc : Thread Cert.InpsIdeal.nD Cert.InpsIdeal.τ).loc Cert.InpsIdeal.main_arg1)
          ∧ r.2.mem ((c.tc : Thread Cert.InpsIdeal.nD Cert.InpsIdeal.τ).loc Cert.InpsIdeal.main_arg2) = m ((c.tc : Thread Cert.InpsIdeal.nD Cert.InpsIdeal.τ).loc Cert.InpsIdeal.main_arg2)
          ∧ r.2.mem ((c.tc : Thread Cert.InpsIdeal.nD Cert.InpsIdeal.τ).loc Cert.InpsIdeal.main_arg3) = m ((c.tc : Thread Cert.InpsIdeal.nD Cert.InpsIdeal.τ).loc Cert.InpsIdeal.main_arg3))
      ∧ θ_run (Cert.InpsRefIdeal.defs (F := Ideal)) (onTc (τ := Cert.InpsRefIdeal.τ) (Cert.InpsRefIdeal.main (F := Ideal))) ⟨m', fun _ => 0, g'⟩ (fun r => ∀ c : Dev Cert.InpsRefIdeal.nD,
          r.2.mem ((c.tc : Thread Cert.InpsRefIdeal.nD Cert.InpsRefIdeal.τ).loc Cert.InpsRefIdeal.main_v28) = v0 c
          ∧ r.2.mem ((c.tc : Thread Cert.InpsRefIdeal.nD Cert.InpsRefIdeal.τ).loc Cert.InpsRefIdeal.main_v29) = v1 c
          ∧ r.2.mem ((c.tc : Thread Cert.InpsRefIdeal.nD Cert.InpsRefIdeal.τ).loc Cert.InpsRefIdeal.main_v30) = v2 c
          ∧ r.2.mem ((c.tc : Thread Cert.InpsRefIdeal.nD Cert.InpsRefIdeal.τ).loc Cert.InpsRefIdeal.main_v34) = v3 c
          ∧ r.2.mem ((c.tc : Thread Cert.InpsRefIdeal.nD Cert.InpsRefIdeal.τ).loc Cert.InpsRefIdeal.main_v35) = v4 c
          ∧ r.2.mem ((c.tc : Thread Cert.InpsRefIdeal.nD Cert.InpsRefIdeal.τ).loc Cert.InpsRefIdeal.main_v36) = v5 c
          ∧ r.2.mem ((c.tc : Thread Cert.InpsRefIdeal.nD Cert.InpsRefIdeal.τ).loc Cert.InpsRefIdeal.main_v37) = v6 c
          ∧ r.2.mem ((c.tc : Thread Cert.InpsRefIdeal.nD Cert.InpsRefIdeal.τ).loc Cert.InpsRefIdeal.main_v16) = v7 c
          ∧ r.2.mem ((c.tc : Thread Cert.InpsRefIdeal.nD Cert.InpsRefIdeal.τ).loc Cert.InpsRefIdeal.main_v17) = v8 c
          ∧ r.2.mem ((c.tc : Thread Cert.InpsRefIdeal.nD Cert.InpsRefIdeal.τ).loc Cert.InpsRefIdeal.main_v39) = v9 c
          ∧ r.2.mem ((c.tc : Thread Cert.InpsRefIdeal.nD Cert.InpsRefIdeal.τ).loc Cert.InpsRefIdeal.main_arg0) = m' ((c.tc : Thread Cert.InpsRefIdeal.nD Cert.InpsRefIdeal.τ).loc Cert.InpsRefIdeal.main_arg0)
          ∧ r.2.mem ((c.tc : Thread Cert.InpsRefIdeal.nD Cert.InpsRefIdeal.τ).loc Cert.InpsRefIdeal.main_arg1) = m' ((c.tc : Thread Cert.InpsRefIdeal.nD Cert.InpsRefIdeal.τ).loc Cert.InpsRefIdeal.main_arg1)
          ∧ r.2.mem ((c.tc : Thread Cert.InpsRefIdeal.nD Cert.InpsRefIdeal.τ).loc Cert.InpsRefIdeal.main_arg2) = m' ((c.tc : Thread Cert.InpsRefIdeal.nD Cert.InpsRefIdeal.τ).loc Cert.InpsRefIdeal.main_arg2)
          ∧ r.2.mem ((c.tc : Thread Cert.InpsRefIdeal.nD Cert.InpsRefIdeal.τ).loc Cert.InpsRefIdeal.main_arg3) = m' ((c.tc : Thread Cert.InpsRefIdeal.nD Cert.InpsRefIdeal.τ).loc Cert.InpsRefIdeal.main_arg3))

def preserves_Attn_AttnIdeal : Prop :=
  IdealRules.named_const.Statement Cert.AttnIdeal.κ "mask" .f32 0xF149F2CA#32 ⊥

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v37) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Prep_PrepIdeal : Prop :=
  IdealRules.named_const.Statement Cert.PrepIdeal.κ "log2e" .f32 0x3FB8AA3B#32 (((Real.log 2)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v9) = v0 c
          ∧ r.2.mem ((c.tc : Thread Cert.PrepRefIdeal.nD Cert.PrepRefIdeal.τ).loc Cert.PrepRefIdeal.main_v11) = v1 c
          ∧ r.2.mem ((c.tc : Thread Cert.PrepRefIdeal.nD Cert.PrepRefIdeal.τ).loc Cert.PrepRefIdeal.main_v12) = v2 c
          ∧ r.2.mem ((c.tc : Thread Cert.PrepRefIdeal.nD Cert.PrepRefIdeal.τ).loc Cert.PrepRefIdeal.main_v14) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_Preps_PrepsIdeal : Prop :=
  True

def algebraic_PrepsIdeal_PrepsRefIdeal [hPrepsIdeal : Cert.PrepsIdeal.Facts] [hPrepsRefIdeal : Cert.PrepsRefIdeal.Facts] : Prop :=
  ∀ (m : (ℓ : Loc Cert.PrepsIdeal.nD Cert.PrepsIdeal.τ Cert.PrepsIdeal.sig) → Buf (Elt Ideal) ℓ) (g : Dev Cert.PrepsIdeal.nD → PrngReg)
    (m' : (ℓ : Loc Cert.PrepsRefIdeal.nD Cert.PrepsRefIdeal.τ Cert.PrepsRefIdeal.sig) → Buf (Elt Ideal) ℓ) (g' : Dev Cert.PrepsRefIdeal.nD → PrngReg), Pre_PrepsIdeal m →
    (∀ c : Dev Cert.PrepsIdeal.nD,
      m' ((c.tc : Thread Cert.PrepsRefIdeal.nD Cert.PrepsRefIdeal.τ).loc Cert.PrepsRefIdeal.main_arg0) = m ((c.tc : Thread Cert.PrepsIdeal.nD Cert.PrepsIdeal.τ).loc Cert.PrepsIdeal.main_arg0)
      ∧ m' ((c.tc : Thread Cert.PrepsRefIdeal.nD Cert.PrepsRefIdeal.τ).loc Cert.PrepsRefIdeal.main_arg1) = m ((c.tc : Thread Cert.PrepsIdeal.nD Cert.PrepsIdeal.τ).loc Cert.PrepsIdeal.main_arg1)) →
    ∃ (v0 : (c : Dev Cert.PrepsIdeal.nD) → Buf (Elt Ideal) ((c.tc : Thread Cert.PrepsIdeal.nD Cert.PrepsIdeal.τ).loc Cert.PrepsIdeal.main_v0_0)),
      θ_run (Cert.PrepsIdeal.defs (F := Ideal)) (onTc (τ := Cert.PrepsIdeal.τ) (Cert.PrepsIdeal.main (F := Ideal))) ⟨m, fun _ => 0, g⟩ (fun r => ∀ c : Dev Cert.PrepsIdeal.nD,
          r.2.mem ((c.tc : Thread Cert.PrepsIdeal.nD Cert.PrepsIdeal.τ).loc Cert.PrepsIdeal.main_v0_0) = v0 c
          ∧ r.2.mem ((c.tc : Thread Cert.PrepsIdeal.nD Cert.PrepsIdeal.τ).loc Cert.PrepsIdeal.main_arg0) = m ((c.tc : Thread Cert.PrepsIdeal.nD Cert.PrepsIdeal.τ).loc Cert.PrepsIdeal.main_arg0)
          ∧ r.2.mem ((c.tc : Thread Cert.PrepsIdeal.nD Cert.PrepsIdeal.τ).loc Cert.PrepsIdeal.main_arg1) = m ((c.tc : Thread Cert.PrepsIdeal.nD Cert.PrepsIdeal.τ).loc Cert.PrepsIdeal.main_arg1))
      ∧ θ_run (Cert.PrepsRefIdeal.defs (F := Ideal)) (onTc (τ := Cert.PrepsRefIdeal.τ) (Cert.PrepsRefIdeal.main (F := Ideal))) ⟨m', fun _ => 0, g'⟩ (fun r => ∀ c : Dev Cert.PrepsRefIdeal.nD,
          r.2.mem ((c.tc : Thread Cert.PrepsRefIdeal.nD Cert.PrepsRefIdeal.τ).loc Cert.PrepsRefIdeal.main_v4) = v0 c
          ∧ r.2.mem ((c.tc : Thread Cert.PrepsRefIdeal.nD Cert.PrepsRefIdeal.τ).loc Cert.PrepsRefIdeal.main_arg0) = m' ((c.tc : Thread Cert.PrepsRefIdeal.nD Cert.PrepsRefIdeal.τ).loc Cert.PrepsRefIdeal.main_arg0)
          ∧ r.2.mem ((c.tc : Thread Cert.PrepsRefIdeal.nD Cert.PrepsRefIdeal.τ).loc Cert.PrepsRefIdeal.main_arg1) = m' ((c.tc : Thread Cert.PrepsRefIdeal.nD Cert.PrepsRefIdeal.τ).loc Cert.PrepsRefIdeal.main_arg1))

def Claim : Prop :=
  ∃ (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hPles : Cert.Ples.Facts) (hPlesIdeal : Cert.PlesIdeal.Facts) (hPlesRefIdeal : Cert.PlesRefIdeal.Facts) (hInps : Cert.Inps.Facts) (hInpsIdeal : Cert.InpsIdeal.Facts) (hInpsRefIdeal : Cert.InpsRefIdeal.Facts) (hAttn : Cert.Attn.Facts) (hAttnIdeal : Cert.AttnIdeal.Facts) (hAttnRefIdeal : Cert.AttnRefIdeal.Facts) (hPrep : Cert.Prep.Facts) (hPrepIdeal : Cert.PrepIdeal.Facts) (hPrepRefIdeal : Cert.PrepRefIdeal.Facts) (hPreps : Cert.Preps.Facts) (hPrepsIdeal : Cert.PrepsIdeal.Facts) (hPrepsRefIdeal : Cert.PrepsRefIdeal.Facts) (hPre_finite_inputs : Cert.Pre_finite_inputs.Facts),
    quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_Ples (hPles := hPles)
    ∧ quiescent_PlesIdeal (hPlesIdeal := hPlesIdeal)
    ∧ quiescent_PlesRefIdeal (hPlesRefIdeal := hPlesRefIdeal)
    ∧ quiescent_Inps (hInps := hInps)
    ∧ quiescent_InpsIdeal (hInpsIdeal := hInpsIdeal)
    ∧ quiescent_InpsRefIdeal (hInpsRefIdeal := hInpsRefIdeal)
    ∧ quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_Prep (hPrep := hPrep)
    ∧ quiescent_PrepIdeal (hPrepIdeal := hPrepIdeal)
    ∧ quiescent_PrepRefIdeal (hPrepRefIdeal := hPrepRefIdeal)
    ∧ quiescent_Preps (hPreps := hPreps)
    ∧ quiescent_PrepsIdeal (hPrepsIdeal := hPrepsIdeal)
    ∧ quiescent_PrepsRefIdeal (hPrepsRefIdeal := hPrepsRefIdeal)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_Ples_PlesIdeal
    ∧ algebraic_PlesIdeal_PlesRefIdeal (hPlesIdeal := hPlesIdeal) (hPlesRefIdeal := hPlesRefIdeal)
    ∧ preserves_Inps_InpsIdeal
    ∧ algebraic_InpsIdeal_InpsRefIdeal (hInpsIdeal := hInpsIdeal) (hInpsRefIdeal := hInpsRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_Prep_PrepIdeal
    ∧ algebraic_PrepIdeal_PrepRefIdeal (hPrepIdeal := hPrepIdeal) (hPrepRefIdeal := hPrepRefIdeal)
    ∧ preserves_Preps_PrepsIdeal
    ∧ algebraic_PrepsIdeal_PrepsRefIdeal (hPrepsIdeal := hPrepsIdeal) (hPrepsRefIdeal := hPrepsRefIdeal)
-- ==== Pre_finite_inputs.lean ====
abbrev S16384x1024 : Shape := ⟨2, ![16384, 1024]⟩
abbrev S16384x128 : Shape := ⟨2, ![16384, 128]⟩
abbrev S8x8x2048 : Shape := ⟨3, ![8, 8, 2048]⟩
abbrev S_ : Shape := ⟨0, ![]⟩
abbrev S16384x8 : Shape := ⟨2, ![16384, 8]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S16384x128_S16384x8_0_0 : S16384x128.Slices ![0, 0] S16384x8
  bcast_S_S16384x8 : S_.BroadcastsInDim S16384x8 (![] : Fin 0 → Fin S16384x8.rank)
  reducesTo_S16384x8_S_d0_1 : S16384x8.ReducesTo [0, 1] S_
  bcast_S_S8x8x2048 : S_.BroadcastsInDim S8x8x2048 (![] : Fin 0 → Fin S8x8x2048.rank)
  reducesTo_S8x8x2048_S_d0_1_2 : S8x8x2048.ReducesTo [0, 1, 2] S_

variable [Facts]

def fn_part1 {F : FTy → Type} [FloatOps F] (main_v16 : IVec S_ 1) (main_v17 : FVec F S8x8x2048 .f32) : IVec S_ 1 :=
  let main_cst_4 : FVec F S_ .f32 := constant S_ .f32 0x7F800000#32
  let main_v18 : FVec F S8x8x2048 .f32 := broadcastInDim S8x8x2048 ![] bcast_S_S8x8x2048 main_cst_4
  let main_v19 : IVec S8x8x2048 1 := cmpf .olt main_v17 main_v18
  let main_c_5 : IVec S_ 1 := constantI S_ 1 1#1
  let main_v20 : IVec S_ 1 := (fun x v => Host.reduce IntOp.andi x v reducesTo_S8x8x2048_S_d0_1_2 h_S_) main_v19 main_c_5
  let main_v21 : IVec S_ 1 := andi main_v16 main_v20
  main_v21

def fn {F : FTy → Type} [FloatOps F] (main_arg0 : FVec F S16384x1024 .bf16) (main_arg1 : FVec F S16384x1024 .bf16) (main_arg2 : FVec F S16384x1024 .bf16) (main_arg3 : FVec F S16384x128 .f32) (main_arg4 : FVec F S8x8x2048 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x8 .f32 := (extractStridedSlice S16384x8 ![0, 0] · slices_S16384x128_S16384x8_0_0) main_arg3
  let main_v12 : FVec F S16384x8 .f32 := Host.absf main_v11
  let main_cst_2 : FVec F S_ .f32 := constant S_ .f32 0x7F800000#32
  let main_v13 : FVec F S16384x8 .f32 := broadcastInDim S16384x8 ![] bcast_S_S16384x8 main_cst_2
  let main_v14 : IVec S16384x8 1 := cmpf .olt main_v12 main_v13
  let main_c_3 : IVec S_ 1 := constantI S_ 1 1#1
  let main_v15 : IVec S_ 1 := (fun x v => Host.reduce IntOp.andi x v reducesTo_S16384x8_S_d0_1 h_S_) main_v14 main_c_3
  let main_v16 : IVec S_ 1 := andi main_v10 main_v15
  let main_v17 : FVec F S8x8x2048 .f32 := Host.absf main_arg4
  fn_part1 (F := F) main_v16 main_v17
-- ==== Ffn.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S8192x2048, .f32⟩
  | .hbm, ⟨27, _⟩ => ⟨S16384x2048, .f32⟩
  | .hbm, ⟨28, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Ple.lean ====
abbrev S16384x2048 : Shape := ⟨2, ![16384, 2048]⟩
abbrev S16384x256 : Shape := ⟨2, ![16384, 256]⟩
abbrev S256x2048 : Shape := ⟨2, ![256, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S256x2048, .bf16⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S256x2048, .bf16⟩
  | .local _ .vmem, ⟨5, _⟩ => ⟨S1x2048, .f32⟩
  | .local _ .vmem, ⟨6, _⟩ => ⟨S1x2048, .f32⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S16384x2048 : Shape := ⟨2, ![16384, 2048]⟩
abbrev S16384x256 : Shape := ⟨2, ![16384, 256]⟩
abbrev S256x2048 : Shape := ⟨2, ![256, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S256x2048, .bf16⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S2048, .f32⟩
  | .hbm, ⟨7, _⟩ => ⟨S256x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S2048x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x2048, .f32⟩
  | .hbm, ⟨65, _⟩ => ⟨S16384x2048, .f32⟩
  | .hbm, ⟨66, _⟩ => ⟨S1x2048, .f32⟩
  | .hbm, ⟨67, _⟩ => ⟨S16384x2048, .f32⟩
  | .hbm, ⟨68, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Out.lean ====
abbrev S16384x1024 : Shape := ⟨2, ![16384, 1024]⟩
abbrev S16384x2048 : Shape := ⟨2, ![16384, 2048]⟩
abbrev S2048x2048 : Shape := ⟨2, ![2048, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S16384x1024 : Shape := ⟨2, ![16384, 1024]⟩
abbrev S16384x2048 : Shape := ⟨2, ![16384, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S2048x2048, .bf16⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Inp.lean ====
abbrev S16384x2048 : Shape := ⟨2, ![16384, 2048]⟩
abbrev S2048 : Shape := ⟨1, ![2048]⟩
abbrev S2048x6144 : Shape := ⟨2, ![2048, 6144]⟩
abbrev S2048x128 : Shape := ⟨2, ![2048, 128]⟩
abbrev S1x2048 : Shape := ⟨2, ![1, 2048]⟩
abbrev S16384x1024 : Shape := ⟨2, ![16384, 1024]⟩
abbrev S16384x512 : Shape := ⟨2, ![16384, 512]⟩
abbrev S16384x128 : Shape := ⟨2, ![16384, 128]⟩
abbrev S256x2048 : Shape := ⟨2, ![256, 2048]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S2048x512 : Shape := ⟨2, ![2048, 512]⟩

abbrev nBuf : Space → Nat
  | .hbm => 15
  | .vmem => 25
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .bf16⟩
  | .hbm, ⟨3, _⟩ => ⟨S2048x128, .bf16⟩
  | .hbm, ⟨4, _⟩ => ⟨S1x2048, .f32⟩
  | .hbm, ⟨5, _⟩ => ⟨S16384x1024, .bf16⟩
  | .hbm, ⟨6, _⟩ => ⟨S16384x1024, .bf16⟩
  | .hbm, ⟨7, _⟩ => ⟨S16384x1024, .bf16⟩
  | .hbm, ⟨8, _⟩ => ⟨S16384x512, .bf16⟩
  | .hbm, ⟨9, _⟩ => ⟨S16384x512, .bf16⟩
  | .hbm, ⟨10, _⟩ => ⟨S16384x1024, .bf16⟩
  | .hbm, ⟨11, _⟩ => ⟨S16384x1024, .bf16⟩
  | .hbm, ⟨12, _⟩ => ⟨S16384x1024, .f32⟩
  | .hbm, ⟨13, _⟩ => ⟨S16384x1024, .f32⟩
  | .hbm, ⟨14, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6144, .bf16⟩
  | .local _ .vmem, ⟨4, _⟩ => ⟨S2048x128, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x128, .f32⟩
  | .local _ .vmem, ⟨24, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_v1_8 : Ref sig .tc := ⟨.hbm, 13, rfl⟩
abbrev main_v1_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InpIdeal.lean ====
variable {F : FTy → Type} [FloatOps F] [Named F]
def κ : String → Option EReal := fun
  | "scale_a" => some (((Real.sqrt 128)⁻¹ * (Real.log 2)⁻¹ : ℝ) : EReal)
  | "scale_b" => some (((Real.sqrt 128)⁻¹ : ℝ) : EReal)
  | _ => none
-- ==== InpRefIdeal.lean ====
abbrev S16384x2048 : Shape := ⟨2, ![16384, 2048]⟩
abbrev S2048 : Shape := ⟨1, ![2048]⟩
abbrev S2048x6144 : Shape := ⟨2, ![2048, 6144]⟩
abbrev S2048x128 : Shape := ⟨2, ![2048, 128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6144 : Shape := ⟨2, ![16384, 6144]⟩
abbrev S16384x1024 : Shape := ⟨2, ![16384, 1024]⟩
abbrev S16384x512 : Shape := ⟨2, ![16384, 512]⟩
abbrev S16384x128 : Shape := ⟨2, ![16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .bf16⟩
  | .hbm, ⟨3, _⟩ => ⟨S2048x128, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x6144, .f32⟩
  | .hbm, ⟨21, _⟩ => ⟨S16384x6144, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .bf16⟩
  | .hbm, ⟨38, _⟩ => ⟨S16384x1024, .bf16⟩
  | .hbm, ⟨39, _⟩ => ⟨S16384x1024, .bf16⟩
  | .hbm, ⟨40, _⟩ => ⟨S_, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .bf16⟩
  | .hbm, ⟨45, _⟩ => ⟨S16384x512, .bf16⟩
  | .hbm, ⟨46, _⟩ => ⟨S16384x1024, .bf16⟩
  | .hbm, ⟨47, _⟩ => ⟨S16384x1024, .bf16⟩
  | .hbm, ⟨48, _⟩ => ⟨S2048x128, .f32⟩
  | .hbm, ⟨49, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Ples.lean ====
abbrev S512x2048 : Shape := ⟨2, ![512, 2048]⟩
abbrev S512x256 : Shape := ⟨2, ![512, 256]⟩
abbrev S256x2048 : Shape := ⟨2, ![256, 2048]⟩
abbrev S2048 : Shape := ⟨1, ![2048]⟩
abbrev S2048x2048 : Shape := ⟨2, ![2048, 2048]⟩
abbrev S1x2048 : Shape := ⟨2, ![1, 2048]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S512x256, .f32⟩
  | .hbm, ⟨2, _⟩ => ⟨S256x2048, .bf16⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S512x2048, .f32⟩
  | .local _ .vmem, ⟨0, _⟩ => ⟨S512x2048, .f32⟩
  | .local _ .vmem, ⟨1, _⟩ => ⟨S512x256, .f32⟩
  | .local _ .vmem, ⟨2, _⟩ => ⟨S256x2048, .bf16⟩
  | .local _ .vmem, ⟨3, _⟩ => ⟨S1x2048, .f32⟩
  | .local _ .vmem, ⟨4, _⟩ => ⟨S1x2048, .f32⟩
  | .local _ .vmem, ⟨5, _⟩ => ⟨S2048x2048, .bf16⟩
  | .local _ .vmem, ⟨6, _⟩ => ⟨S1x2048, .f32⟩
  | .local _ .vmem, ⟨7, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== PlesRefIdeal.lean ====
abbrev S512x2048 : Shape := ⟨2, ![512, 2048]⟩
abbrev S512x256 : Shape := ⟨2, ![512, 256]⟩
abbrev S256x2048 : Shape := ⟨2, ![256, 2048]⟩
abbrev S2048 : Shape := ⟨1, ![2048]⟩
abbrev S2048x2048 : Shape := ⟨2, ![2048, 2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x256, .f32⟩
  | .hbm, ⟨2, _⟩ => ⟨S256x2048, .bf16⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S2048, .f32⟩
  | .hbm, ⟨7, _⟩ => ⟨S256x2048, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x2048, .f32⟩
  | .hbm, ⟨37, _⟩ => ⟨S512x2048, .f32⟩
  | .hbm, ⟨38, _⟩ => ⟨S1x2048, .f32⟩
  | .hbm, ⟨39, _⟩ => ⟨S512x2048, .f32⟩
  | .hbm, ⟨40, _⟩ => ⟨S512x2048, .f32⟩
  | .hbm, ⟨41, _⟩ => ⟨S2048x2048, .f32⟩
  | .hbm, ⟨42, _⟩ => ⟨S512x2048, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S512x2048, .f32⟩
  | .hbm, ⟨47, _⟩ => ⟨S512x2048, .f32⟩
  | .hbm, ⟨48, _⟩ => ⟨S_, .f32⟩
  | .hbm, ⟨49, _⟩ => ⟨S512x2048, .f32⟩
  | .hbm, ⟨50, _⟩ => ⟨S512x2048, .f32⟩
  | .hbm, ⟨51, _⟩ => ⟨S512x2048, .f32⟩
  | .hbm, ⟨52, _⟩ => ⟨S512x2048, .f32⟩
  | .hbm, ⟨53, _⟩ => ⟨S512x2048, .f32⟩
  | .hbm, ⟨54, _⟩ => ⟨S_, .f32⟩
  | .hbm, ⟨55, _⟩ => ⟨S512, .f32⟩
  | .hbm, ⟨56, _⟩ => ⟨S512x1, .f32⟩
  | .hbm, ⟨57, _⟩ => ⟨S_, .f32⟩
  | .hbm, ⟨58, _⟩ => ⟨S512x1, .f32⟩
  | .hbm, ⟨59, _⟩ => ⟨S512x1, .f32⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S512x1, .f32⟩
  | .hbm, ⟨64, _⟩ => ⟨S512x2048, .f32⟩
  | .hbm, ⟨65, _⟩ => ⟨S512x2048, .f32⟩
  | .hbm, ⟨66, _⟩ => ⟨S1x2048, .f32⟩
  | .hbm, ⟨67, _⟩ => ⟨S512x2048, .f32⟩
  | .hbm, ⟨68, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Inps.lean ====
abbrev S512x2048 : Shape := ⟨2, ![512, 2048]⟩
abbrev S2048 : Shape := ⟨1, ![2048]⟩
abbrev S2048x6144 : Shape := ⟨2, ![2048, 6144]⟩
abbrev S2048x128 : Shape := ⟨2, ![2048, 128]⟩
abbrev S1x2048 : Shape := ⟨2, ![1, 2048]⟩
abbrev S512x1024 : Shape := ⟨2, ![512, 1024]⟩
abbrev S512x512 : Shape := ⟨2, ![512, 512]⟩
abbrev S512x128 : Shape := ⟨2, ![512, 128]⟩
abbrev S256x2048 : Shape := ⟨2, ![256, 2048]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S2048x512 : Shape := ⟨2, ![2048, 512]⟩

abbrev nBuf : Space → Nat
  | .hbm => 15
  | .vmem => 25
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x6144, .bf16⟩
  | .hbm, ⟨3, _⟩ => ⟨S2048x128, .bf16⟩
  | .hbm, ⟨4, _⟩ => ⟨S1x2048, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S512x512, .bf16⟩
  | .hbm, ⟨9, _⟩ => ⟨S512x512, .bf16⟩
  | .hbm, ⟨10, _⟩ => ⟨S512x1024, .bf16⟩
  | .hbm, ⟨11, _⟩ => ⟨S512x1024, .bf16⟩
  | .hbm, ⟨12, _⟩ => ⟨S512x1024, .f32⟩
  | .hbm, ⟨13, _⟩ => ⟨S512x1024, .f32⟩
  | .hbm, ⟨14, _⟩ => ⟨S512x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6144, .bf16⟩
  | .local _ .vmem, ⟨4, _⟩ => ⟨S2048x128, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x128, .f32⟩
  | .local _ .vmem, ⟨24, _⟩ => ⟨S256x128, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_v1_8 : Ref sig .tc := ⟨.hbm, 13, rfl⟩
abbrev main_v1_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InpsIdeal.lean ====
variable {F : FTy → Type} [FloatOps F] [Named F]
def κ : String → Option EReal := fun
  | "scale_a" => some (((Real.sqrt 128)⁻¹ * (Real.log 2)⁻¹ : ℝ) : EReal)
  | "scale_b" => some (((Real.sqrt 128)⁻¹ : ℝ) : EReal)
  | _ => none
-- ==== InpsRefIdeal.lean ====
abbrev S512x2048 : Shape := ⟨2, ![512, 2048]⟩
abbrev S2048 : Shape := ⟨1, ![2048]⟩
abbrev S2048x6144 : Shape := ⟨2, ![2048, 6144]⟩
abbrev S2048x128 : Shape := ⟨2, ![2048, 128]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x6144 : Shape := ⟨2, ![512, 6144]⟩
abbrev S512x1024 : Shape := ⟨2, ![512, 1024]⟩
abbrev S512x512 : Shape := ⟨2, ![512, 512]⟩
abbrev S512x128 : Shape := ⟨2, ![512, 128]⟩

abbrev nBuf : Space → Nat
  | .hbm => 50
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x6144, .bf16⟩
  | .hbm, ⟨3, _⟩ => ⟨S2048x128, .bf16⟩
  | .hbm, ⟨4, _⟩ => ⟨S512x2048, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x2048, .f32⟩
  | .hbm, ⟨16, _⟩ => ⟨S512x2048, .f32⟩
  | .hbm, ⟨17, _⟩ => ⟨S1x2048, .f32⟩
  | .hbm, ⟨18, _⟩ => ⟨S512x2048, .f32⟩
  | .hbm, ⟨19, _⟩ => ⟨S512x2048, .f32⟩
  | .hbm, ⟨20, _⟩ => ⟨S2048x6144, .f32⟩
  | .hbm, ⟨21, _⟩ => ⟨S512x6144, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S512x512, .f32⟩
  | .hbm, ⟨26, _⟩ => ⟨S512x512, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .bf16⟩
  | .hbm, ⟨38, _⟩ => ⟨S512x1024, .bf16⟩
  | .hbm, ⟨39, _⟩ => ⟨S512x1024, .bf16⟩
  | .hbm, ⟨40, _⟩ => ⟨S_, .f32⟩
  | .hbm, ⟨41, _⟩ => ⟨S_, .f32⟩
  | .hbm, ⟨42, _⟩ => ⟨S512x512, .f32⟩
  | .hbm, ⟨43, _⟩ => ⟨S512x512, .f32⟩
  | .hbm, ⟨44, _⟩ => ⟨S512x512, .bf16⟩
  | .hbm, ⟨45, _⟩ => ⟨S512x512, .bf16⟩
  | .hbm, ⟨46, _⟩ => ⟨S512x1024, .bf16⟩
  | .hbm, ⟨47, _⟩ => ⟨S512x1024, .bf16⟩
  | .hbm, ⟨48, _⟩ => ⟨S2048x128, .f32⟩
  | .hbm, ⟨49, _⟩ => ⟨S512x128, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Attn.lean ====
abbrev S16384x1024 : Shape := ⟨2, ![16384, 1024]⟩
abbrev S16384x128 : Shape := ⟨2, ![16384, 128]⟩
abbrev S8x8x2048 : Shape := ⟨3, ![8, 8, 2048]⟩
abbrev S256x1024 : Shape := ⟨2, ![256, 1024]⟩
abbrev S2048x1024 : Shape := ⟨2, ![2048, 1024]⟩
abbrev S256x128 : Shape := ⟨2, ![256, 128]⟩
abbrev S1x8x2048 : Shape := ⟨3, ![1, 8, 2048]⟩
abbrev S8x256x128 : Shape := ⟨3, ![8, 256, 128]⟩
abbrev S256x1 : Shape := ⟨2, ![256, 1]⟩
abbrev S1x256x128 : Shape := ⟨3, ![1, 256, 128]⟩
abbrev S1024x128 : Shape := ⟨2, ![1024, 128]⟩
abbrev S1x1x1024 : Shape := ⟨3, ![1, 1, 1024]⟩
abbrev S1x1024 : Shape := ⟨2, ![1, 1024]⟩
abbrev S256 : Shape := ⟨1, ![256]⟩
abbrev S512x1024 : Shape := ⟨2, ![512, 1024]⟩
abbrev S1024x256 : Shape := ⟨2, ![1024, 256]⟩
abbrev S512x256 : Shape := ⟨2, ![512, 256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512x512 : Shape := ⟨2, ![512, 512]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 6
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x128, .f32⟩
  | .hbm, ⟨4, _⟩ => ⟨S8x8x2048, .f32⟩
  | .hbm, ⟨5, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S256x128, .f32⟩
  | .local _ .vmem, ⟨7, _⟩ => ⟨S256x128, .f32⟩
  | .local _ .vmem, ⟨8, _⟩ => ⟨S1x8x2048, .f32⟩
  | .local _ .vmem, ⟨9, _⟩ => ⟨S1x8x2048, .f32⟩
  | .local _ .vmem, ⟨10, _⟩ => ⟨S256x1024, .bf16⟩
  | .local _ .vmem, ⟨11, _⟩ => ⟨S256x1024, .bf16⟩
  | .local _ .vmem, ⟨12, _⟩ => ⟨S8x256x128, .f32⟩
  | .local _ .vmem, ⟨13, _⟩ => ⟨S8x256x128, .f32⟩
  | .local _ .vmem, ⟨14, _⟩ => ⟨S8x256x128, .f32⟩
  | .local _ .vmem, ⟨15, _⟩ => ⟨S8x256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_50 : BitVec 32 := 1#32
  ⟨c0_i32_48, v81, c1_i32_50⟩
def k0_mult1 (i : grid0.Coords) (k0_t1 : Fin (k0_t1_loop i).trips) : BitVec 32 :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  v178
def k0_off1 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v183 : Index := Scalar.indexCast v179
  let c0_135 : Index := 0#32
  ![v183.toNat, 0]
def k0_off2 (i : grid0.Coords) (k0_t1 : Fin (k0_t1_loop i).trips) : Fin 3 → Nat :=
  let c0_137 : Index := 0#32
  let c0_138 : Index := 0#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v186 : Index := Scalar.indexCast v179
  ![0, 0, v186.toNat]
def k0_off3 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v221 : Index := Scalar.indexCast v179
  let c128_158 : Index := 128#32
  ![v221.toNat, 128]
def k0_off4 (i : grid0.Coords) (k0_t1 : Fin (k0_t1_loop i).trips) : Fin 3 → Nat :=
  let c0_160 : Index := 0#32
  let c1_161 : Index := 1#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v224 : Index := Scalar.indexCast v179
  ![0, 1, v224.toNat]
def k0_off5 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v259 : Index := Scalar.indexCast v179
  let c0_179 : Index := 0#32
  ![v259.toNat, 0]
def k0_off6 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v279 : Index := Scalar.indexCast v179
  let c256_195 : Index := 256#32
  ![v279.toNat, 256]
def k0_off7 (i : grid0.Coords) (k0_t1 : Fin (k0_t1_loop i).trips) : Fin 3 → Nat :=
  let c0_197 : Index := 0#32
  let c2_198 : Index := 2#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v282 : Index := Scalar.indexCast v179
  ![0, 2, v282.toNat]
def k0_off8 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v317 : Index := Scalar.indexCast v179
  let c384_218 : Index := 384#32
  ![v317.toNat, 384]
def k0_off9 (i : grid0.Coords) (k0_t1 : Fin (k0_t1_loop i).trips) : Fin 3 → Nat :=
  let c0_220 : Index := 0#32
  let c3_221 : Index := 3#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v320 : Index := Scalar.indexCast v179
  ![0, 3, v320.toNat]
def k0_off10 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v355 : Index := Scalar.indexCast v179
  let c256_239 : Index := 256#32
  ![v355.toNat, 256]
def k0_off11 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v375 : Index := Scalar.indexCast v179
  let c512_255 : Index := 512#32
  ![v375.toNat, 512]
def k0_off12 (i : grid0.Coords) (k0_t1 : Fin (k0_t1_loop i).trips) : Fin 3 → Nat :=
  let c0_257 : Index := 0#32
  let c4_258 : Index := 4#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v378 : Index := Scalar.indexCast v179
  ![0, 4, v378.toNat]
def k0_off13 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v413 : Index := Scalar.indexCast v179
  let c640_278 : Index := 640#32
  ![v413.toNat, 640]
def k0_off14 (i : grid0.Coords) (k0_t1 : Fin (k0_t1_loop i).trips) : Fin 3 → Nat :=
  let c0_280 : Index := 0#32
  let c5_281 : Index := 5#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v416 : Index := Scalar.indexCast v179
  ![0, 5, v416.toNat]
def k0_off15 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v451 : Index := Scalar.indexCast v179
  let c512_299 : Index := 512#32
  ![v451.toNat, 512]
def k0_off16 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v471 : Index := Scalar.indexCast v179
  let c768_315 : Index := 768#32
  ![v471.toNat, 768]
def k0_off17 (i : grid0.Coords) (k0_t1 : Fin (k0_t1_loop i).trips) : Fin 3 → Nat :=
  let c0_317 : Index := 0#32
  let c6_318 : Index := 6#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v474 : Index := Scalar.indexCast v179
  ![0, 6, v474.toNat]
def k0_off18 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v509 : Index := Scalar.indexCast v179
  let c896_338 : Index := 896#32
  ![v509.toNat, 896]
def k0_off19 (i : grid0.Coords) (k0_t1 : Fin (k0_t1_loop i).trips) : Fin 3 → Nat :=
  let c0_340 : Index := 0#32
  let c7_341 : Index := 7#32
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v512 : Index := Scalar.indexCast v179
  ![0, 7, v512.toNat]
def k0_off20 (i : grid0.Coords) (k0_t1 : Fin (k0_t1_loop i).trips) : Fin 2 → Nat :=
  let c0_i32_48 : BitVec 32 := 0#32
  let c1_i32_50 : BitVec 32 := 1#32
  let arg12 : BitVec 32 := Scf.iv c0_i32_48 c1_i32_50 k0_t1
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v547 : Index := Scalar.indexCast v179
  let c768_359 : Index := 768#32
  ![v547.toNat, 768]
@[reducible] def k0_t2_loop (i : grid0.Coords) : Scf.Loop 32 :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let v78 : BitVec 32 := Scalar.addi c0_i32_48 v77
  let c1_i32_51 : BitVec 32 := 1#32
  ⟨v81, v78, c1_i32_51⟩
def k0_mult2 (i : grid0.Coords) (k0_t2 : Fin (k0_t2_loop i).trips) : BitVec 32 :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  v178
def k0_off21 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v183 : Index := Scalar.indexCast v179
  let c0_135 : Index := 0#32
  ![v183.toNat, 0]
def k0_off22 (i : grid0.Coords) (k0_t2 : Fin (k0_t2_loop i).trips) : Fin 3 → Nat :=
  let c0_137 : Index := 0#32
  let c0_138 : Index := 0#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v186 : Index := Scalar.indexCast v179
  ![0, 0, v186.toNat]
def k0_off23 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v221 : Index := Scalar.indexCast v179
  let c128_158 : Index := 128#32
  ![v221.toNat, 128]
def k0_off24 (i : grid0.Coords) (k0_t2 : Fin (k0_t2_loop i).trips) : Fin 3 → Nat :=
  let c0_160 : Index := 0#32
  let c1_161 : Index := 1#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v224 : Index := Scalar.indexCast v179
  ![0, 1, v224.toNat]
def k0_off25 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v259 : Index := Scalar.indexCast v179
  let c0_179 : Index := 0#32
  ![v259.toNat, 0]
def k0_off26 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v279 : Index := Scalar.indexCast v179
  let c256_195 : Index := 256#32
  ![v279.toNat, 256]
def k0_off27 (i : grid0.Coords) (k0_t2 : Fin (k0_t2_loop i).trips) : Fin 3 → Nat :=
  let c0_197 : Index := 0#32
  let c2_198 : Index := 2#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v282 : Index := Scalar.indexCast v179
  ![0, 2, v282.toNat]
def k0_off28 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v317 : Index := Scalar.indexCast v179
  let c384_218 : Index := 384#32
  ![v317.toNat, 384]
def k0_off29 (i : grid0.Coords) (k0_t2 : Fin (k0_t2_loop i).trips) : Fin 3 → Nat :=
  let c0_220 : Index := 0#32
  let c3_221 : Index := 3#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v320 : Index := Scalar.indexCast v179
  ![0, 3, v320.toNat]
def k0_off30 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v355 : Index := Scalar.indexCast v179
  let c256_239 : Index := 256#32
  ![v355.toNat, 256]
def k0_off31 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v375 : Index := Scalar.indexCast v179
  let c512_255 : Index := 512#32
  ![v375.toNat, 512]
def k0_off32 (i : grid0.Coords) (k0_t2 : Fin (k0_t2_loop i).trips) : Fin 3 → Nat :=
  let c0_257 : Index := 0#32
  let c4_258 : Index := 4#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v378 : Index := Scalar.indexCast v179
  ![0, 4, v378.toNat]
def k0_off33 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v413 : Index := Scalar.indexCast v179
  let c640_278 : Index := 640#32
  ![v413.toNat, 640]
def k0_off34 (i : grid0.Coords) (k0_t2 : Fin (k0_t2_loop i).trips) : Fin 3 → Nat :=
  let c0_280 : Index := 0#32
  let c5_281 : Index := 5#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v416 : Index := Scalar.indexCast v179
  ![0, 5, v416.toNat]
def k0_off35 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v451 : Index := Scalar.indexCast v179
  let c512_299 : Index := 512#32
  ![v451.toNat, 512]
def k0_off36 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v471 : Index := Scalar.indexCast v179
  let c768_315 : Index := 768#32
  ![v471.toNat, 768]
def k0_off37 (i : grid0.Coords) (k0_t2 : Fin (k0_t2_loop i).trips) : Fin 3 → Nat :=
  let c0_317 : Index := 0#32
  let c6_318 : Index := 6#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v474 : Index := Scalar.indexCast v179
  ![0, 6, v474.toNat]
def k0_off38 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v509 : Index := Scalar.indexCast v179
  let c896_338 : Index := 896#32
  ![v509.toNat, 896]
def k0_off39 (i : grid0.Coords) (k0_t2 : Fin (k0_t2_loop i).trips) : Fin 3 → Nat :=
  let c0_340 : Index := 0#32
  let c7_341 : Index := 7#32
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v512 : Index := Scalar.indexCast v179
  ![0, 7, v512.toNat]
def k0_off40 (i : grid0.Coords) (k0_t2 : Fin (k0_t2_loop i).trips) : Fin 2 → Nat :=
  let c0_i32_48 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_43 : BitVec 32 := 0#32
  let v63 : BitVec 1 := Scalar.cmpi .slt arg1 c0_i32_43
  let v64 : BitVec 32 := Scalar.extui v63
  let v65 : BitVec 32 := Scalar.subi v62 v64
  let c4_i32 : BitVec 32 := 4#32
  let c0_i32_44 : BitVec 32 := 0#32
  let v66 : BitVec 1 := Scalar.cmpi .sgt c4_i32 c0_i32_44
  let v67 : BitVec 32 := Scalar.extui v66
  let c0_i32_45 : BitVec 32 := 0#32
  let v68 : BitVec 1 := Scalar.cmpi .slt c4_i32 c0_i32_45
  let v69 : BitVec 32 := Scalar.extui v68
  let v70 : BitVec 32 := Scalar.subi v67 v69
  let v71 : BitVec 1 := Scalar.cmpi .ne v65 v70
  let v72 : BitVec 32 := Scalar.remsi arg1 c4_i32
  let c0_i32_46 : BitVec 32 := 0#32
  let v73 : BitVec 1 := Scalar.cmpi .ne v72 c0_i32_46
  let v74 : BitVec 1 := Scalar.andi v71 v73
  let v60 : BitVec 32 := Scalar.divsi arg1 c4_i32
  let c1_i32 : BitVec 32 := 1#32
  let v75 : BitVec 32 := Scalar.subi v60 c1_i32
  let v76 : BitVec 32 := Scalar.select v74 v75 v60
  let v77 : BitVec 32 := Scalar.subi v76 c0_i32_48
  let c1_i32_49 : BitVec 32 := 1#32
  let v79 : BitVec 32 := Scalar.divsi v77 c1_i32_49
  let v80 : BitVec 32 := Scalar.muli v79 c1_i32_49
  let v81 : BitVec 32 := Scalar.addi c0_i32_48 v80
  let c1_i32_51 : BitVec 32 := 1#32
  let arg12 : BitVec 32 := Scf.iv v81 c1_i32_51 k0_t2
  let c4_i32_132 : BitVec 32 := 4#32
  let v177 : BitVec 32 := Scalar.muli arg12 c4_i32_132
  let c256_i32 : BitVec 32 := 256#32
  let v178 : BitVec 32 := Scalar.muli v177 c256_i32
  let v179 : BitVec 32 := v178
  let v547 : Index := Scalar.indexCast v179
  let c768_359 : Index := 768#32
  ![v547.toNat, 768]
def k0_cond1 (i : grid0.Coords) : BitVec 1 :=
  let arg1 : BitVec 32 := BitVec.ofNat 32 (i 1).val
  let c4_i32_52 : BitVec 32 := 4#32
  let c0_i32_53 : BitVec 32 := 0#32
  let v82 : BitVec 1 := Scalar.cmpi .eq c4_i32_52 c0_i32_53
  let c1_i32_54 : BitVec 32 := 1#32
  let v83 : BitVec 32 := Scalar.select v82 c1_i32_54 c4_i32_52
  let v84 : BitVec 32 := Scalar.remsi arg1 v83
  let c0_i32_56 : BitVec 32 := 0#32
  let v86 : BitVec 1 := Scalar.cmpi .slt v84 c0_i32_56
  let c0_i32_57 : BitVec 32 := 0#32
  let v87 : BitVec 1 := Scalar.cmpi .slt v83 c0_i32_57
  let v88 : BitVec 1 := Scalar.xori v86 v87
  let c0_i32_55 : BitVec 32 := 0#32
  let v85 : BitVec 1 := Scalar.cmpi .ne v84 c0_i32_55
  let v89 : BitVec 1 := Scalar.andi v88 v85
  let v90 : BitVec 32 := Scalar.addi v84 v83
  let v91 : BitVec 32 := Scalar.select v89 v90 v84
  let c2_i32 : BitVec 32 := 2#32
  let v92 : BitVec 1 := Scalar.cmpi .sge v91 c2_i32
  let v93 : BitVec 32 := Scalar.extui v92
  let c0_i32_58 : BitVec 32 := 0#32
  let v94 : BitVec 1 := Scalar.cmpi .ne v93 c0_i32_58
  v94

def k0_mult3 (i : grid0.Coords) : BitVec 32 :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  v195
def k0_off41 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v198 : Index := Scalar.indexCast v196
  let c0_142 : Index := 0#32
  ![v198.toNat, 0]
def k0_off42 (i : grid0.Coords) : Fin 3 → Nat :=
  let c0_144 : Index := 0#32
  let c0_145 : Index := 0#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v201 : Index := Scalar.indexCast v196
  ![0, 0, v201.toNat]
def k0_off43 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v236 : Index := Scalar.indexCast v196
  let c128_165 : Index := 128#32
  ![v236.toNat, 128]
def k0_off44 (i : grid0.Coords) : Fin 3 → Nat :=
  let c0_167 : Index := 0#32
  let c1_168 : Index := 1#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v239 : Index := Scalar.indexCast v196
  ![0, 1, v239.toNat]
def k0_off45 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v274 : Index := Scalar.indexCast v196
  let c0_186 : Index := 0#32
  ![v274.toNat, 0]
def k0_off46 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v294 : Index := Scalar.indexCast v196
  let c256_202 : Index := 256#32
  ![v294.toNat, 256]
def k0_off47 (i : grid0.Coords) : Fin 3 → Nat :=
  let c0_204 : Index := 0#32
  let c2_205 : Index := 2#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v297 : Index := Scalar.indexCast v196
  ![0, 2, v297.toNat]
def k0_off48 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v332 : Index := Scalar.indexCast v196
  let c384_225 : Index := 384#32
  ![v332.toNat, 384]
def k0_off49 (i : grid0.Coords) : Fin 3 → Nat :=
  let c0_227 : Index := 0#32
  let c3_228 : Index := 3#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v335 : Index := Scalar.indexCast v196
  ![0, 3, v335.toNat]
def k0_off50 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v370 : Index := Scalar.indexCast v196
  let c256_246 : Index := 256#32
  ![v370.toNat, 256]
def k0_off51 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v390 : Index := Scalar.indexCast v196
  let c512_262 : Index := 512#32
  ![v390.toNat, 512]
def k0_off52 (i : grid0.Coords) : Fin 3 → Nat :=
  let c0_264 : Index := 0#32
  let c4_265 : Index := 4#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v393 : Index := Scalar.indexCast v196
  ![0, 4, v393.toNat]
def k0_off53 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v428 : Index := Scalar.indexCast v196
  let c640_285 : Index := 640#32
  ![v428.toNat, 640]
def k0_off54 (i : grid0.Coords) : Fin 3 → Nat :=
  let c0_287 : Index := 0#32
  let c5_288 : Index := 5#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v431 : Index := Scalar.indexCast v196
  ![0, 5, v431.toNat]
def k0_off55 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v466 : Index := Scalar.indexCast v196
  let c512_306 : Index := 512#32
  ![v466.toNat, 512]
def k0_off56 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v486 : Index := Scalar.indexCast v196
  let c768_322 : Index := 768#32
  ![v486.toNat, 768]
def k0_off57 (i : grid0.Coords) : Fin 3 → Nat :=
  let c0_324 : Index := 0#32
  let c6_325 : Index := 6#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v489 : Index := Scalar.indexCast v196
  ![0, 6, v489.toNat]
def k0_off58 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v524 : Index := Scalar.indexCast v196
  let c896_345 : Index := 896#32
  ![v524.toNat, 896]
def k0_off59 (i : grid0.Coords) : Fin 3 → Nat :=
  let c0_347 : Index := 0#32
  let c7_348 : Index := 7#32
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v527 : Index := Scalar.indexCast v196
  ![0, 7, v527.toNat]
def k0_off60 (i : grid0.Coords) : Fin 2 → Nat :=
  let arg1 : BitVec 32 := BitVec.ofNat 32 (i 1).val
  let c0_i32_133 : BitVec 32 := 0#32
  let v178 : BitVec 1 := Scalar.cmpi .sgt arg1 c0_i32_133
  let v179 : BitVec 32 := Scalar.extui v178
  let c0_i32_134 : BitVec 32 := 0#32
  let v180 : BitVec 1 := Scalar.cmpi .slt arg1 c0_i32_134
  let v181 : BitVec 32 := Scalar.extui v180
  let v182 : BitVec 32 := Scalar.subi v179 v181
  let c4_i32_132 : BitVec 32 := 4#32
  let c0_i32_135 : BitVec 32 := 0#32
  let v183 : BitVec 1 := Scalar.cmpi .sgt c4_i32_132 c0_i32_135
  let v184 : BitVec 32 := Scalar.extui v183
  let c0_i32_136 : BitVec 32 := 0#32
  let v185 : BitVec 1 := Scalar.cmpi .slt c4_i32_132 c0_i32_136
  let v186 : BitVec 32 := Scalar.extui v185
  let v187 : BitVec 32 := Scalar.subi v184 v186
  let v188 : BitVec 1 := Scalar.cmpi .ne v182 v187
  let v189 : BitVec 32 := Scalar.remsi arg1 c4_i32_132
  let c0_i32_137 : BitVec 32 := 0#32
  let v190 : BitVec 1 := Scalar.cmpi .ne v189 c0_i32_137
  let v191 : BitVec 1 := Scalar.andi v188 v190
  let v177 : BitVec 32 := Scalar.divsi arg1 c4_i32_132
  let c1_i32_138 : BitVec 32 := 1#32
  let v192 : BitVec 32 := Scalar.subi v177 c1_i32_138
  let v193 : BitVec 32 := Scalar.select v191 v192 v177
  let c4_i32_139 : BitVec 32 := 4#32
  let v194 : BitVec 32 := Scalar.muli v193 c4_i32_139
  let c256_i32 : BitVec 32 := 256#32
  let v195 : BitVec 32 := Scalar.muli v194 c256_i32
  let v196 : BitVec 32 := v195
  let v562 : Index := Scalar.indexCast v196
  let c768_366 : Index := 768#32
  ![v562.toNat, 768]
def k0_cond2 (i : grid0.Coords) : BitVec 1 :=
  let arg1 : BitVec 32 := BitVec.ofNat 32 (i 1).val
  let c2_i32_59 : BitVec 32 := 2#32
  let c0_i32_60 : BitVec 32 := 0#32
  let v95 : BitVec 1 := Scalar.cmpi .eq c2_i32_59 c0_i32_60
  let c1_i32_61 : BitVec 32 := 1#32
  let v96 : BitVec 32 := Scalar.select v95 c1_i32_61 c2_i32_59
  let v97 : BitVec 32 := Scalar.remsi arg1 v96
  let c0_i32_63 : BitVec 32 := 0#32
  let v99 : BitVec 1 := Scalar.cmpi .slt v97 c0_i32_63
  let c0_i32_64 : BitVec 32 := 0#32
  let v100 : BitVec 1 := Scalar.cmpi .slt v96 c0_i32_64
  let v101 : BitVec 1 := Scalar.xori v99 v100
  let c0_i32_62 : BitVec 32 := 0#32
  let v98 : BitVec 1 := Scalar.cmpi .ne v97 c0_i32_62
  let v102 : BitVec 1 := Scalar.andi v101 v98
  let v103 : BitVec 32 := Scalar.addi v97 v96
  let v104 : BitVec 32 := Scalar.select v102 v103 v97
  let c1_i32_65 : BitVec 32 := 1#32
  let v105 : BitVec 1 := Scalar.cmpi .eq v104 c1_i32_65
  let v106 : BitVec 32 := Scalar.extui v105
  let c0_i32_66 : BitVec 32 := 0#32
  let v107 : BitVec 1 := Scalar.cmpi .ne v106 c0_i32_66
  v107

def k0_mult4 (i : grid0.Coords) : BitVec 32 :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  v178
def k0_off61 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v183 : Index := Scalar.indexCast v179
  let c0_135 : Index := 0#32
  ![v183.toNat, 0]
def k0_off62 (i : grid0.Coords) : Fin 3 → Nat :=
  let c0_137 : Index := 0#32
  let c0_138 : Index := 0#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v186 : Index := Scalar.indexCast v179
  ![0, 0, v186.toNat]
def k0_off63 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v226 : Index := Scalar.indexCast v179
  let c128_160 : Index := 128#32
  ![v226.toNat, 128]
def k0_off64 (i : grid0.Coords) : Fin 3 → Nat :=
  let c0_162 : Index := 0#32
  let c1_163 : Index := 1#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v229 : Index := Scalar.indexCast v179
  ![0, 1, v229.toNat]
def k0_off65 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v269 : Index := Scalar.indexCast v179
  let c0_183 : Index := 0#32
  ![v269.toNat, 0]
def k0_off66 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v289 : Index := Scalar.indexCast v179
  let c256_199 : Index := 256#32
  ![v289.toNat, 256]
def k0_off67 (i : grid0.Coords) : Fin 3 → Nat :=
  let c0_201 : Index := 0#32
  let c2_202 : Index := 2#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v292 : Index := Scalar.indexCast v179
  ![0, 2, v292.toNat]
def k0_off68 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v332 : Index := Scalar.indexCast v179
  let c384_224 : Index := 384#32
  ![v332.toNat, 384]
def k0_off69 (i : grid0.Coords) : Fin 3 → Nat :=
  let c0_226 : Index := 0#32
  let c3_227 : Index := 3#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v335 : Index := Scalar.indexCast v179
  ![0, 3, v335.toNat]
def k0_off70 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v375 : Index := Scalar.indexCast v179
  let c256_247 : Index := 256#32
  ![v375.toNat, 256]
def k0_off71 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v395 : Index := Scalar.indexCast v179
  let c512_263 : Index := 512#32
  ![v395.toNat, 512]
def k0_off72 (i : grid0.Coords) : Fin 3 → Nat :=
  let c0_265 : Index := 0#32
  let c4_266 : Index := 4#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v398 : Index := Scalar.indexCast v179
  ![0, 4, v398.toNat]
def k0_off73 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v438 : Index := Scalar.indexCast v179
  let c640_288 : Index := 640#32
  ![v438.toNat, 640]
def k0_off74 (i : grid0.Coords) : Fin 3 → Nat :=
  let c0_290 : Index := 0#32
  let c5_291 : Index := 5#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v441 : Index := Scalar.indexCast v179
  ![0, 5, v441.toNat]
def k0_off75 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v481 : Index := Scalar.indexCast v179
  let c512_311 : Index := 512#32
  ![v481.toNat, 512]
def k0_off76 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v501 : Index := Scalar.indexCast v179
  let c768_327 : Index := 768#32
  ![v501.toNat, 768]
def k0_off77 (i : grid0.Coords) : Fin 3 → Nat :=
  let c0_329 : Index := 0#32
  let c6_330 : Index := 6#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v504 : Index := Scalar.indexCast v179
  ![0, 6, v504.toNat]
def k0_off78 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v544 : Index := Scalar.indexCast v179
  let c896_352 : Index := 896#32
  ![v544.toNat, 896]
def k0_off79 (i : grid0.Coords) : Fin 3 → Nat :=
  let c0_354 : Index := 0#32
  let c7_355 : Index := 7#32
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v547 : Index := Scalar.indexCast v179
  ![0, 7, v547.toNat]
def k0_off80 (i : grid0.Coords) : Fin 2 → Nat :=
  let arg1 : BitVec 32 := BitVec.ofNat 32 (i 1).val
  let c1_i32_132 : BitVec 32 := 1#32
  let v177 : BitVec 32 := Scalar.subi arg1 c1_i32_132
  let c256_i32 : BitVec 32 := 256#32
  let v178 : BitVec 32 := Scalar.muli v177 c256_i32
  let v179 : BitVec 32 := v178
  let v587 : Index := Scalar.indexCast v179
  let c768_375 : Index := 768#32
  ![v587.toNat, 768]
def k0_cond3 (i : grid0.Coords) : BitVec 1 :=
  let arg1 : BitVec 32 := BitVec.ofNat 32 (i 1).val
  let c2_i32_67 : BitVec 32 := 2#32
  let c0_i32_68 : BitVec 32 := 0#32
  let v108 : BitVec 1 := Scalar.cmpi .eq c2_i32_67 c0_i32_68
  let c1_i32_69 : BitVec 32 := 1#32
  let v109 : BitVec 32 := Scalar.select v108 c1_i32_69 c2_i32_67
  let v110 : BitVec 32 := Scalar.remsi arg1 v109
  let c0_i32_71 : BitVec 32 := 0#32
  let v112 : BitVec 1 := Scalar.cmpi .slt v110 c0_i32_71
  let c0_i32_72 : BitVec 32 := 0#32
  let v113 : BitVec 1 := Scalar.cmpi .slt v109 c0_i32_72
  let v114 : BitVec 1 := Scalar.xori v112 v113
  let c0_i32_70 : BitVec 32 := 0#32
  let v111 : BitVec 1 := Scalar.cmpi .ne v110 c0_i32_70
  let v115 : BitVec 1 := Scalar.andi v114 v111
  let v116 : BitVec 32 := Scalar.addi v110 v109
  let v117 : BitVec 32 := Scalar.select v115 v116 v110
  let c0_i32_73 : BitVec 32 := 0#32
  let v118 : BitVec 1 := Scalar.cmpi .eq v117 c0_i32_73
  let v119 : BitVec 32 := Scalar.extui v118
  let c0_i32_74 : BitVec 32 := 0#32
  let v120 : BitVec 1 := Scalar.cmpi .ne v119 c0_i32_74
  v120

def k0_mult5 (i : grid0.Coords) : BitVec 32 :=
  let arg1 : BitVec 32 := BitVec.ofNat 32 (i 1).val
  let c256_i32 : BitVec 32 := 256#32
  let v177 : BitVec 32 := Scalar.muli arg1 c256_i32
  v177
def k0_off81 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v182 : Index := Scalar.indexCast v178
  let c0_134 : Index := 0#32
  ![v182.toNat, 0]
def k0_off82 (i : grid0.Coords) : Fin 3 → Nat :=
  let c0_136 : Index := 0#32
  let c0_137 : Index := 0#32
  let arg1 : BitVec 32 := BitVec.ofNat 32 (i 1).val
  let c256_i32 : BitVec 32 := 256#32
  let v177 : BitVec 32 := Scalar.muli arg1 c256_i32
  let v178 : BitVec 32 := v177
  let v185 : Index := Scalar.indexCast v178
  ![0, 0, v185.toNat]
def k0_off83 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v225 : Index := Scalar.indexCast v178
  let c128_159 : Index := 128#32
  ![v225.toNat, 128]
def k0_off84 (i : grid0.Coords) : Fin 3 → Nat :=
  let c0_161 : Index := 0#32
  let c1_162 : Index := 1#32
  let arg1 : BitVec 32 := BitVec.ofNat 32 (i 1).val
  let c256_i32 : BitVec 32 := 256#32
  let v177 : BitVec 32 := Scalar.muli arg1 c256_i32
  let v178 : BitVec 32 := v177
  let v228 : Index := Scalar.indexCast v178
  ![0, 1, v228.toNat]
def k0_off85 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v268 : Index := Scalar.indexCast v178
  let c0_182 : Index := 0#32
  ![v268.toNat, 0]
def k0_off86 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v288 : Index := Scalar.indexCast v178
  let c256_198 : Index := 256#32
  ![v288.toNat, 256]
def k0_off87 (i : grid0.Coords) : Fin 3 → Nat :=
  let c0_200 : Index := 0#32
  let c2_201 : Index := 2#32
  let arg1 : BitVec 32 := BitVec.ofNat 32 (i 1).val
  let c256_i32 : BitVec 32 := 256#32
  let v177 : BitVec 32 := Scalar.muli arg1 c256_i32
  let v178 : BitVec 32 := v177
  let v291 : Index := Scalar.indexCast v178
  ![0, 2, v291.toNat]
def k0_off88 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v331 : Index := Scalar.indexCast v178
  let c384_223 : Index := 384#32
  ![v331.toNat, 384]
def k0_off89 (i : grid0.Coords) : Fin 3 → Nat :=
  let c0_225 : Index := 0#32
  let c3_226 : Index := 3#32
  let arg1 : BitVec 32 := BitVec.ofNat 32 (i 1).val
  let c256_i32 : BitVec 32 := 256#32
  let v177 : BitVec 32 := Scalar.muli arg1 c256_i32
  let v178 : BitVec 32 := v177
  let v334 : Index := Scalar.indexCast v178
  ![0, 3, v334.toNat]
def k0_off90 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v374 : Index := Scalar.indexCast v178
  let c256_246 : Index := 256#32
  ![v374.toNat, 256]
def k0_off91 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v394 : Index := Scalar.indexCast v178
  let c512_262 : Index := 512#32
  ![v394.toNat, 512]
def k0_off92 (i : grid0.Coords) : Fin 3 → Nat :=
  let c0_264 : Index := 0#32
  let c4_265 : Index := 4#32
  let arg1 : BitVec 32 := BitVec.ofNat 32 (i 1).val
  let c256_i32 : BitVec 32 := 256#32
  let v177 : BitVec 32 := Scalar.muli arg1 c256_i32
  let v178 : BitVec 32 := v177
  let v397 : Index := Scalar.indexCast v178
  ![0, 4, v397.toNat]
def k0_off93 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v437 : Index := Scalar.indexCast v178
  let c640_287 : Index := 640#32
  ![v437.toNat, 640]
def k0_off94 (i : grid0.Coords) : Fin 3 → Nat :=
  let c0_289 : Index := 0#32
  let c5_290 : Index := 5#32
  let arg1 : BitVec 32 := BitVec.ofNat 32 (i 1).val
  let c256_i32 : BitVec 32 := 256#32
  let v177 : BitVec 32 := Scalar.muli arg1 c256_i32
  let v178 : BitVec 32 := v177
  let v440 : Index := Scalar.indexCast v178
  ![0, 5, v440.toNat]
def k0_off95 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v480 : Index := Scalar.indexCast v178
  let c512_310 : Index := 512#32
  ![v480.toNat, 512]
def k0_off96 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v500 : Index := Scalar.indexCast v178
  let c768_326 : Index := 768#32
  ![v500.toNat, 768]
def k0_off97 (i : grid0.Coords) : Fin 3 → Nat :=
  let c0_328 : Index := 0#32
  let c6_329 : Index := 6#32
  let arg1 : BitVec 32 := BitVec.ofNat 32 (i 1).val
  let c256_i32 : BitVec 32 := 256#32
  let v177 : BitVec 32 := Scalar.muli arg1 c256_i32
  let v178 : BitVec 32 := v177
  let v503 : Index := Scalar.indexCast v178
  ![0, 6, v503.toNat]
def k0_off98 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v543 : Index := Scalar.indexCast v178
  let c896_351 : Index := 896#32
  ![v543.toNat, 896]
def k0_off99 (i : grid0.Coords) : Fin 3 → Nat :=
  let c0_353 : Index := 0#32
  let c7_354 : Index := 7#32
  let arg1 : BitVec 32 := BitVec.ofNat 32 (i 1).val
  let c256_i32 : BitVec 32 := 256#32
  let v177 : BitVec 32 := Scalar.muli arg1 c256_i32
  let v178 : BitVec 32 := v177
  let v546 : Index := Scalar.indexCast v178
  ![0, 7, v546.toNat]
def k0_off100 (i : grid0.Coords) : Fin 2 → Nat :=
  let arg1 : BitVec 32 := BitVec.ofNat 32 (i 1).val
  let c256_i32 : BitVec 32 := 256#32
  let v177 : BitVec 32 := Scalar.muli arg1 c256_i32
  let v178 : BitVec 32 := v177
  let v586 : Index := Scalar.indexCast v178
  let c768_374 : Index := 768#32
  ![v586.toNat, 768]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16384x1024 : Shape := ⟨2, ![16384, 1024]⟩
abbrev S16384x128 : Shape := ⟨2, ![16384, 128]⟩
abbrev S8x8x2048 : Shape := ⟨3, ![8, 8, 2048]⟩
abbrev S8x2048x8x128 : Shape := ⟨4, ![8, 2048, 8, 128]⟩
abbrev S8x2048x128 : Shape := ⟨3, ![8, 2048, 128]⟩
abbrev S8x2048x8 : Shape := ⟨3, ![8, 2048, 8]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S8x8x128x2048 : Shape := ⟨4, ![8, 8, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x128, .f32⟩
  | .hbm, ⟨4, _⟩ => ⟨S8x8x2048, .f32⟩
  | .hbm, ⟨5, _⟩ => ⟨S16384x1024, .f32⟩
  | .hbm, ⟨6, _⟩ => ⟨S8x2048x8x128, .f32⟩
  | .hbm, ⟨7, _⟩ => ⟨S16384x1024, .f32⟩
  | .hbm, ⟨8, _⟩ => ⟨S8x2048x8x128, .f32⟩
  | .hbm, ⟨9, _⟩ => ⟨S16384x1024, .f32⟩
  | .hbm, ⟨10, _⟩ => ⟨S8x2048x8x128, .f32⟩
  | .hbm, ⟨11, _⟩ => ⟨S8x2048x128, .f32⟩
  | .hbm, ⟨12, _⟩ => ⟨S8x2048x8, .f32⟩
  | .hbm, ⟨13, _⟩ => ⟨S8x8x2048x2048, .f32⟩
  | .hbm, ⟨14, _⟩ => ⟨S8x8x2048, .f32⟩
  | .hbm, ⟨15, _⟩ => ⟨S8x8x2048x1, .f32⟩
  | .hbm, ⟨16, _⟩ => ⟨S8x8x2048x2048, .f32⟩
  | .hbm, ⟨17, _⟩ => ⟨S8x8x2048x2048, .f32⟩
  | .hbm, ⟨18, _⟩ => ⟨S8x8x1x2048, .f32⟩
  | .hbm, ⟨19, _⟩ => ⟨S8x8x2048x2048, .f32⟩
  | .hbm, ⟨20, _⟩ => ⟨S8x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S8x8x2048x2048, .i1⟩
  | .hbm, ⟨31, _⟩ => ⟨S8x8x2048x2048, .f32⟩
  | .hbm, ⟨32, _⟩ => ⟨S8x8x2048x2048, .f32⟩
  | .hbm, ⟨33, _⟩ => ⟨S_, .f32⟩
  | .hbm, ⟨34, _⟩ => ⟨S8x8x2048, .f32⟩
  | .hbm, ⟨35, _⟩ => ⟨S8x8x2048x1, .f32⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S8x8x2048, .f32⟩
  | .hbm, ⟨43, _⟩ => ⟨S8x8x2048x1, .f32⟩
  | .hbm, ⟨44, _⟩ => ⟨S8x8x2048x2048, .f32⟩
  | .hbm, ⟨45, _⟩ => ⟨S8x8x2048x2048, .f32⟩
  | .hbm, ⟨46, _⟩ => ⟨S8x8x128x2048, .f32⟩
  | .hbm, ⟨47, _⟩ => ⟨S8x2048x8x128, .f32⟩
  | .hbm, ⟨48, _⟩ => ⟨S16384x1024, .f32⟩
  | .hbm, ⟨49, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Prep.lean ====
abbrev S16384x128 : Shape := ⟨2, ![16384, 128]⟩
abbrev S1x128 : Shape := ⟨2, ![1, 128]⟩
abbrev S16384x8 : Shape := ⟨2, ![16384, 8]⟩
abbrev S8x8x2048 : Shape := ⟨3, ![8, 8, 2048]⟩
abbrev S2048x128 : Shape := ⟨2, ![2048, 128]⟩
abbrev S2048x8 : Shape := ⟨2, ![2048, 8]⟩
abbrev S1x8x2048 : Shape := ⟨3, ![1, 8, 2048]⟩
abbrev S256x256 : Shape := ⟨2, ![256, 256]⟩
abbrev S256x128 : Shape := ⟨2, ![256, 128]⟩
abbrev S256x8 : Shape := ⟨2, ![256, 8]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x8, .f32⟩
  | .hbm, ⟨3, _⟩ => ⟨S8x8x2048, .f32⟩
  | .hbm, ⟨4, _⟩ => ⟨S16384x128, .f32⟩
  | .hbm, ⟨5, _⟩ => ⟨S8x8x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x8, .f32⟩
  | .local _ .vmem, ⟨4, _⟩ => ⟨S2048x8, .f32⟩
  | .local _ .vmem, ⟨5, _⟩ => ⟨S1x8x2048, .f32⟩
  | .local _ .vmem, ⟨6, _⟩ => ⟨S1x8x2048, .f32⟩
  | .local _ .vmem, ⟨7, _⟩ => ⟨S2048x128, .f32⟩
  | .local _ .vmem, ⟨8, _⟩ => ⟨S2048x128, .f32⟩
  | .local _ .vmem, ⟨9, _⟩ => ⟨S1x8x2048, .f32⟩
  | .local _ .vmem, ⟨10, _⟩ => ⟨S1x8x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepIdeal.lean ====
variable {F : FTy → Type} [FloatOps F] [Named F]
def κ : String → Option EReal := fun
  | "log2e" => some (((Real.log 2)⁻¹ : ℝ) : EReal)
  | _ => none
-- ==== PrepRefIdeal.lean ====
abbrev S16384x128 : Shape := ⟨2, ![16384, 128]⟩
abbrev S1x128 : Shape := ⟨2, ![1, 128]⟩
abbrev S8x2048x128 : Shape := ⟨3, ![8, 2048, 128]⟩
abbrev S_ : Shape := ⟨0, ![]⟩
abbrev S8x2048x8 : Shape := ⟨3, ![8, 2048, 8]⟩
abbrev S16384x8 : Shape := ⟨2, ![16384, 8]⟩
abbrev S8x8x2048 : Shape := ⟨3, ![8, 8, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x128, .f32⟩
  | .hbm, ⟨2, _⟩ => ⟨S16384x128, .f32⟩
  | .hbm, ⟨3, _⟩ => ⟨S16384x128, .f32⟩
  | .hbm, ⟨4, _⟩ => ⟨S8x2048x128, .f32⟩
  | .hbm, ⟨5, _⟩ => ⟨S8x2048x128, .f32⟩
  | .hbm, ⟨6, _⟩ => ⟨S_, .f32⟩
  | .hbm, ⟨7, _⟩ => ⟨S8x2048x128, .f32⟩
  | .hbm, ⟨8, _⟩ => ⟨S8x2048x128, .f32⟩
  | .hbm, ⟨9, _⟩ => ⟨S8x2048x128, .f32⟩
  | .hbm, ⟨10, _⟩ => ⟨S8x2048x128, .f32⟩
  | .hbm, ⟨11, _⟩ => ⟨S8x2048x128, .i1⟩
  | .hbm, ⟨12, _⟩ => ⟨S8x2048x128, .f32⟩
  | .hbm, ⟨13, _⟩ => ⟨S8x2048x128, .f32⟩
  | .hbm, ⟨14, _⟩ => ⟨S8x2048x128, .f32⟩
  | .hbm, ⟨15, _⟩ => ⟨S8x2048x128, .f32⟩
  | .hbm, ⟨16, _⟩ => ⟨S8x2048x128, .f32⟩
  | .hbm, ⟨17, _⟩ => ⟨S8x2048x128, .f32⟩
  | .hbm, ⟨18, _⟩ => ⟨S8x2048x128, .f32⟩
  | .hbm, ⟨19, _⟩ => ⟨S8x2048x128, .f32⟩
  | .hbm, ⟨20, _⟩ => ⟨S8x2048x128, .f32⟩
  | .hbm, ⟨21, _⟩ => ⟨S_, .f32⟩
  | .hbm, ⟨22, _⟩ => ⟨S_, .f32⟩
  | .hbm, ⟨23, _⟩ => ⟨S8x2048x128, .f32⟩
  | .hbm, ⟨24, _⟩ => ⟨S_, .f32⟩
  | .hbm, ⟨25, _⟩ => ⟨S_, .f32⟩
  | .hbm, ⟨26, _⟩ => ⟨S8x2048x128, .f32⟩
  | .hbm, ⟨27, _⟩ => ⟨S8x2048x128, .f32⟩
  | .hbm, ⟨28, _⟩ => ⟨S8x2048x8, .f32⟩
  | .hbm, ⟨29, _⟩ => ⟨S16384x8, .f32⟩
  | .hbm, ⟨30, _⟩ => ⟨S8x2048x8, .f32⟩
  | .hbm, ⟨31, _⟩ => ⟨S8x8x2048, .f32⟩
  | .hbm, ⟨32, _⟩ => ⟨S16384x128, .f32⟩
  | .hbm, ⟨33, _⟩ => ⟨S8x2048x8, .f32⟩
  | .hbm, ⟨34, _⟩ => ⟨S8x8x2048, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Preps.lean ====
abbrev S512x128 : Shape := ⟨2, ![512, 128]⟩
abbrev S1x128 : Shape := ⟨2, ![1, 128]⟩
abbrev S512x8 : Shape := ⟨2, ![512, 8]⟩
abbrev S1x8x512 : Shape := ⟨3, ![1, 8, 512]⟩
abbrev S256x256 : Shape := ⟨2, ![256, 256]⟩
abbrev S256x128 : Shape := ⟨2, ![256, 128]⟩
abbrev S256x8 : Shape := ⟨2, ![256, 8]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 6
  | .vmem => 6
  | .smem => 0
  | _ => 0

abbrev bufTy : (tb : Table) → Fin (tcTables nBuf tb) → BufTy
  | .hbm, ⟨0, _⟩ => ⟨S512x128, .f32⟩
  | .hbm, ⟨1, _⟩ => ⟨S1x128, .f32⟩
  | .hbm, ⟨2, _⟩ => ⟨S512x8, .f32⟩
  | .hbm, ⟨3, _⟩ => ⟨S1x8x512, .f32⟩
  | .hbm, ⟨4, _⟩ => ⟨S512x128, .f32⟩
  | .hbm, ⟨5, _⟩ => ⟨S1x8x512, .f32⟩
  | .local _ .vmem, ⟨0, _⟩ => ⟨S512x128, .f32⟩
  | .local _ .vmem, ⟨1, _⟩ => ⟨S1x128, .f32⟩
  | .local _ .vmem, ⟨2, _⟩ => ⟨S512x8, .f32⟩
  | .local _ .vmem, ⟨3, _⟩ => ⟨S1x8x512, .f32⟩
  | .local _ .vmem, ⟨4, _⟩ => ⟨S512x128, .f32⟩
  | .local _ .vmem, ⟨5, _⟩ => ⟨S1x8x512, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== PrepsRefIdeal.lean ====
abbrev S512x128 : Shape := ⟨2, ![512, 128]⟩
abbrev S1x128 : Shape := ⟨2, ![1, 128]⟩
abbrev S512x8 : Shape := ⟨2, ![512, 8]⟩
abbrev S1x8 : Shape := ⟨2, ![1, 8]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S1x128, .f32⟩
  | .hbm, ⟨2, _⟩ => ⟨S512x8, .f32⟩
  | .hbm, ⟨3, _⟩ => ⟨S1x8, .f32⟩
  | .hbm, ⟨4, _⟩ => ⟨S512x8, .f32⟩
  | .hbm, ⟨5, _⟩ => ⟨S512x8, .f32⟩
  | .hbm, ⟨6, _⟩ => ⟨S512x8, .f32⟩
  | .hbm, ⟨7, _⟩ => ⟨S_, .f32⟩
  | .hbm, ⟨8, _⟩ => ⟨S512x8, .f32⟩
  | .hbm, ⟨9, _⟩ => ⟨S512x8, .f32⟩
  | .hbm, ⟨10, _⟩ => ⟨S512x8, .f32⟩
  | .hbm, ⟨11, _⟩ => ⟨S512x8, .f32⟩
  | .hbm, ⟨12, _⟩ => ⟨S512x8, .i1⟩
  | .hbm, ⟨13, _⟩ => ⟨S512x8, .f32⟩
  | .hbm, ⟨14, _⟩ => ⟨S512x8, .f32⟩
  | .hbm, ⟨15, _⟩ => ⟨S512x8, .f32⟩
  | .hbm, ⟨16, _⟩ => ⟨S512x8, .f32⟩
  | .hbm, ⟨17, _⟩ => ⟨S512x8, .f32⟩
  | .hbm, ⟨18, _⟩ => ⟨S512x8, .f32⟩
  | .hbm, ⟨19, _⟩ => ⟨S512x8, .f32⟩
  | .hbm, ⟨20, _⟩ => ⟨S512x8, .f32⟩
  | .hbm, ⟨21, _⟩ => ⟨S512x8, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== Proof.AttnP.RunA.lean ====
/- GENERATED, UNTRUSTED: the whole-body RUN of `proofs.«01_k».proof.Attn`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Attn.Frame.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1496000 in
/-- The body's triple IN CASE A (`scf.if` 0 not taken, `scf.if` 1 not taken, `scf.if` 2 taken: points 0, 4, … 60: 16 of 64): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K := by
    intro E K
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part57_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attn.Gen

end
-- ==== Proof.AttnP.RunB.lean ====
/- GENERATED, UNTRUSTED: the whole-body RUN of `proofs.«01_k».proof.Attn`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Attn.Frame.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1500000 in
/-- The body's triple IN CASE B (`scf.if` 0 not taken, `scf.if` 1 taken, `scf.if` 2 not taken: points 1, 5, … 61: 16 of 64): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K := by
    intro E K
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part45_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attn.Gen

end
-- ==== Proof.AttnP.RunC.lean ====
/- GENERATED, UNTRUSTED: the whole-body RUN of `proofs.«01_k».proof.Attn`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Attn.Frame.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2340000 in
/-- The body's triple IN CASE C (`scf.if` 0 taken, `scf.if` 1 not taken, `scf.if` 2 taken: points 2, 6, … 62: 16 of 64): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K := by
    intro E K
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part57_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attn.Gen

end
-- ==== Proof.AttnP.RunD.lean ====
/- GENERATED, UNTRUSTED: the whole-body RUN of `proofs.«01_k».proof.Attn`'s kernel in
   case D of its frame certificate (`Gen.kernelRun0_D`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Attn.Frame.Runs

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2344000 in
/-- The body's triple IN CASE D (`scf.if` 0 taken, `scf.if` 1 taken, `scf.if` 2 not taken: points 3, 7, … 63: 16 of 64): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K := by
    intro E K
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part45_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Attn.Gen

end
-- ==== Proof.AttnP.Frame.lean ====
/- GENERATED, UNTRUSTED: the FRAME CERTIFICATE of `proofs.«01_k».proof.Attn`,
   its last module — (the outputs' contents FORGOTTEN, stated nowhere) what a carried scratch, if any, holds point by point
   (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), its OUTPUTS FORGOTTEN (window 5: nothing in the directory reads what the kernel leaves there —
   Lib/Pipeline/Dat.lean `Dat.toRForget`), the whole certificate: the body's triple per case (`Gen.kernelRunK_κ`, by
   `sl_exec`; each output handed back at some contents, nothing of it named), the conditions in closed form (`Gen.hcondK_J`),
   the proof data (the outputs at `Dat.unnamed`), the obligation over `Gen.forgetsK`, the run (`Gen.run_main`, by
   `θ_run_frame_forget`) and `Gen.frame` — the frame claim at any `F`: Proof.lean is
   `theorem Cert.Proof.claim : Cert.Claim := ⟨Gen.facts, fun m ρ _ => Gen.frame m ρ⟩`.
   CLASS R (4 cases of its conditionals, 4 scratch operands, output 5 FORGOTTEN — nothing reads it, so nothing of its contents is named): the certificate is whole here — not class A: the kernel takes operands the pipeline does not stage (scratch, semaphores, tables, arrays left in HBM). DO NOT EDIT. -/
module

public import proofs.«01_k».proof.Proof.AttnP.RunA
public import proofs.«01_k».proof.Proof.AttnP.RunB
public import proofs.«01_k».proof.Proof.AttnP.RunC
public import proofs.«01_k».proof.Proof.AttnP.RunD
public import Idealize.ShloMosaic.Lib.Claim

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 64 := lt_of_lt_of_eq t.isLt (show cfg0.N = 64 from N_0)
  by_cases h0 : (t.val % 4 = 2 ∨ t.val % 4 = 3)
  · by_cases h1 : t.val % 2 = 1
    · by_cases h2 : t.val % 2 = 0
      · exfalso; omega
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_D c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
    · by_cases h2 : t.val % 2 = 0
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
      · exfalso; omega
  · by_cases h1 : t.val % 2 = 1
    · by_cases h2 : t.val % 2 = 0
      · exfalso; omega
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
    · by_cases h2 : t.val % 2 = 0
      · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, H5, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        iexact H5
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c))⟩) (run_main m ρ)

/-- THE FRAME: `Cert.quiescent_Attn`'s statement (Defs.lean) at any `F` — Proof.lean cites it at `Bits`:
    `theorem Cert.Proof.claim : Cert.Claim := ⟨Cert.Attn.Gen.facts, fun m ρ _ => Cert.Attn.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Attn.Gen

end
-- ==== Proof.AttnI.RunA.lean ====
/- GENERATED, UNTRUSTED: the whole-body RUN of `proofs.«01_k».proof.AttnIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.AttnIdeal.Frame.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1496000 in
/-- What the body's stores leave in each output's staging memref, as pieces (last first) IN CASE A (`scf.if` 0 not taken, `scf.if` 1 not taken, `scf.if` 2 taken: points 0, 4, … 60: 16 of 64), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) :
    { L5 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part57_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnIdeal.Gen

end
-- ==== Proof.AttnI.RunB.lean ====
/- GENERATED, UNTRUSTED: the whole-body RUN of `proofs.«01_k».proof.AttnIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.AttnIdeal.Frame.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1500000 in
/-- What the body's stores leave in each output's staging memref, as pieces (last first) IN CASE B (`scf.if` 0 not taken, `scf.if` 1 taken, `scf.if` 2 not taken: points 1, 5, … 61: 16 of 64), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) :
    { L5 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part45_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnIdeal.Gen

end
-- ==== Proof.AttnI.RunC.lean ====
/- GENERATED, UNTRUSTED: the whole-body RUN of `proofs.«01_k».proof.AttnIdeal`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.AttnIdeal.Frame.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2340000 in
/-- What the body's stores leave in each output's staging memref, as pieces (last first) IN CASE C (`scf.if` 0 taken, `scf.if` 1 not taken, `scf.if` 2 taken: points 2, 6, … 62: 16 of 64), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) :
    { L5 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part57_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnIdeal.Gen

end
-- ==== Proof.AttnI.RunD.lean ====
/- GENERATED, UNTRUSTED: the whole-body RUN of `proofs.«01_k».proof.AttnIdeal`'s kernel in
   case D of its frame certificate (`Gen.kernelRun0_D`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.AttnIdeal.Frame.Runs

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2344000 in
/-- What the body's stores leave in each output's staging memref, as pieces (last first) IN CASE D (`scf.if` 0 taken, `scf.if` 1 taken, `scf.if` 2 not taken: points 3, 7, … 63: 16 of 64), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) :
    { L5 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attn i arg2 harg2 arg3 harg3 arg4 harg4 arg5 harg5 arg6 harg6 arg7 harg7 arg8 harg8 arg9 harg9 arg10 harg10 arg11 harg11) K } := by
  refine ⟨?_, fun E K => ?run⟩
  case run =>
    simp only [cc0_fox_attn_eq_skeleton]; unfold cc0_fox_attn_skel
    simp only [k0_part63_eq_skeleton]; unfold k0_part63_skel
    simp only [k0_part58_eq_skeleton, k0_part59_eq_skeleton, k0_part60_eq_skeleton, k0_part61_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part45_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnIdeal.Gen

end
-- ==== Proof.AttnI.Frame.lean ====
/- GENERATED, UNTRUSTED: the FRAME CERTIFICATE of `proofs.«01_k».proof.AttnIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame`) and `Gen.frame` — the frame claim at any `F`: Proof.lean is
   `theorem Cert.Proof.claim : Cert.Claim := ⟨Gen.facts, fun m ρ _ => Gen.frame m ρ⟩`.
   CLASS R (4 cases of its conditionals, 4 scratch operands): the certificate is whole here — not class A: the kernel takes operands the pipeline does not stage (scratch, semaphores, tables, arrays left in HBM). DO NOT EDIT. -/
module

public import proofs.«01_k».proof.Proof.AttnI.RunA
public import proofs.«01_k».proof.Proof.AttnI.RunB
public import proofs.«01_k».proof.Proof.AttnI.RunC
public import proofs.«01_k».proof.Proof.AttnI.RunD
public import Idealize.ShloMosaic.Lib.Claim

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 5 tile its block (8 stores of `S256x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) (y : S256x1024.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).1 S256x128.size (by sl_kernel_rfl) y

/-- What case A leaves in output 5's staging buffer: its pieces read back over junk. -/
def out0_A_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) : Vec F S256x1024 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 hc2 x0 x1 x2 x3 x4).1)

/-- Case B's pieces for output 5 tile its block (8 stores of `S256x128`, checked by the kernel's evaluation: Lib/Ring.lean `Piece.tiledL`, linear in the pieces, through a loop's `@[irreducible]` trip theorem too), so they cover it. -/
theorem cover0_B_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) (y : S256x1024.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4).1 S256x128.size (by sl_kernel_rfl) y

/-- What case B leaves in output 5's staging buffer: its pieces read back over junk. -/
def out0_B_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : ¬cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) : Vec F S256x1024 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 hc2 x0 x1 x2 x3 x4).1)

/-- Case C's pieces for output 5 tile its block (8 stores of `S256x128`, checked by the kernel's evaluation: Lib/Ring.lean `Piece.tiledL`, linear in the pieces, through a loop's `@[irreducible]` trip theorem too), so they cover it. -/
theorem cover0_C_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) (y : S256x1024.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4).1 S256x128.size (by sl_kernel_rfl) y

/-- What case C leaves in output 5's staging buffer: its pieces read back over junk. -/
def out0_C_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : ¬cond0_1 i) (hc2 : cond0_2 i)
    (x0 : Vec F S256x1024 .bf16) (x1 : Vec F S2048x1024 .bf16) (x2 : Vec F S2048x1024 .bf16) (x3 : Vec F S256x128 .f32) (x4 : Vec F S1x8x2048 .f32) : Vec F S256x1024 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 hc2 x0 x1 x2 x3 x4).1)

/-- Case D's pieces for output 5 tile its block (8 stores of `S256x128`, checked by the kernel's evaluation: Lib/Ring.lean `Piece.tiledL`, linear in the pieces, through a loop's `@[irreducible]` trip theorem too), so they cover it. -/
theorem cover0_D_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) (y : S256x1024.Idx) :
    ∃ pc ∈ (kernelRun0_D c i arg2 harg2 arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 x0 x1 x2 x3 x4).1 S256x128.size (by sl_kernel_rfl) y

/-- What case D leaves in output 5's staging buffer: its pieces read back over junk. -/
def out0_D_5 (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (hc0 : cond0_0 i) (hc1 : cond0_1 i) (hc2 : ¬cond0_2 i)
    (x0 : Vec F S256x1024 .bf16) (x1 : Vec F S2048x1024 .bf16) (x2 : Vec F S2048x1024 .bf16) (x3 : Vec F S256x128 .f32) (x4 : Vec F S1x8x2048 .f32) : Vec F S256x1024 .bf16 :=
  VO0_5.read (Elt F) (VO0_5.writes (Elt F) VO0_5.junk (kernelRun0_D c i arg2 harg2 arg3 harg3 arg4 harg4 arg5 harg5 arg6 harg6 arg7 harg7 arg8 harg8 arg9 harg9 arg10 harg10 arg11 harg11 hc0 hc1 hc2 x0 x1 x2 x3 x4).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) (fun h => (fun h => by (try dsimp only at h); omega) ((hcond0_0 ⟨0, hn⟩).mp h)) (fun h => (fun h => by (try dsimp only at h); omega) ((hcond0_1 ⟨0, hn⟩).mp h)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : ((n + 1) % 4 = 2 ∨ (n + 1) % 4 = 3) then
      if h1 : (n + 1) % 2 = 1 then
        if h2 : (n + 1) % 2 = 0 then
          False.elim (by have hN : n + 1 < 64 := lt_of_lt_of_eq hn (show cfg0.N = 64 from N_0); omega)
        else
          out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        if h2 : (n + 1) % 2 = 0 then
          out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩)
        else
          False.elim (by have hN : n + 1 < 64 := lt_of_lt_of_eq hn (show cfg0.N = 64 from N_0); omega)
    else
      if h1 : (n + 1) % 2 = 1 then
        if h2 : (n + 1) % 2 = 0 then
          False.elim (by have hN : n + 1 < 64 := lt_of_lt_of_eq hn (show cfg0.N = 64 from N_0); omega)
        else
          out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        if h2 : (n + 1) % 2 = 0 then
          out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩)
        else
          False.elim (by have hN : n + 1 < 64 := lt_of_lt_of_eq hn (show cfg0.N = 64 from N_0); omega)

/-- `outsAt0` at a point of case A: that case's contents. -/
theorem outsAt0_A (c : Dev nD) (t : Fin cfg0.N) (h0 : ¬(t.val % 4 = 2 ∨ t.val % 4 = 3)) (h1 : ¬t.val % 2 = 1) (h2 : t.val % 2 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) := by
  obtain ⟨n, hn⟩ := t
  cases n with
  | zero => exact rfl
  | succ n => exact (dif_neg h0).trans ((dif_neg h1).trans ((dif_pos h2).trans rfl))

/-- `outsAt0` at a point of case B: that case's contents. -/
theorem outsAt0_B (c : Dev nD) (t : Fin cfg0.N) (h0 : ¬(t.val % 4 = 2 ∨ t.val % 4 = 3)) (h1 : t.val % 2 = 1) (h2 : ¬t.val % 2 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) := by
  obtain ⟨n, hn⟩ := t
  cases n with
  | zero => exact (by exfalso; (try dsimp only at h1); exact by omega)
  | succ n => exact (dif_neg h0).trans ((dif_pos h1).trans ((dif_neg h2).trans rfl))

/-- `outsAt0` at a point of case C: that case's contents. -/
theorem outsAt0_C (c : Dev nD) (t : Fin cfg0.N) (h0 : (t.val % 4 = 2 ∨ t.val % 4 = 3)) (h1 : ¬t.val % 2 = 1) (h2 : t.val % 2 = 0) :
    outsAt0 m c t.val t.isLt = out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) := by
  obtain ⟨n, hn⟩ := t
  cases n with
  | zero => exact (by exfalso; (try dsimp only at h0); exact by omega)
  | succ n => exact (dif_pos h0).trans ((dif_neg h1).trans ((dif_pos h2).trans rfl))

/-- `outsAt0` at a point of case D: that case's contents. -/
theorem outsAt0_D (c : Dev nD) (t : Fin cfg0.N) (h0 : (t.val % 4 = 2 ∨ t.val % 4 = 3)) (h1 : t.val % 2 = 1) (h2 : ¬t.val % 2 = 0) :
    outsAt0 m c t.val t.isLt = out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) := by
  obtain ⟨n, hn⟩ := t
  cases n with
  | zero => exact (by exfalso; (try dsimp only at h0); exact by omega)
  | succ n => exact (dif_pos h0).trans ((dif_pos h1).trans ((dif_neg h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 64 := lt_of_lt_of_eq t.isLt (show cfg0.N = 64 from N_0)
  by_cases h0 : (t.val % 4 = 2 ∨ t.val % 4 = 3)
  · by_cases h1 : t.val % 2 = 1
    · by_cases h2 : t.val % 2 = 0
      · exfalso; omega
      · rw [outsAt0_D m c t h0 h1 h2]
        unfold out0_D_5
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_D c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_D_5 c _ _ _ _ _ _ _ _ _ _ _ _ _ _ _ _ _ _ _ _ _ _ _ _ _ _ _ _ _)
    · by_cases h2 : t.val % 2 = 0
      · rw [outsAt0_C m c t h0 h1 h2]
        unfold out0_C_5
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _)
      · exfalso; omega
  · by_cases h1 : t.val % 2 = 1
    · by_cases h2 : t.val % 2 = 0
      · exfalso; omega
      · rw [outsAt0_B m c t h0 h1 h2]
        unfold out0_B_5
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
    · by_cases h2 : t.val % 2 = 0
      · rw [outsAt0_A m c t h0 h1 h2]
        unfold out0_A_5
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_AttnIdeal`'s statement (Defs.lean) at any `F` — Proof.lean cites it at `Bits`:
    `theorem Cert.Proof.claim : Cert.Claim := ⟨Cert.AttnIdeal.Gen.facts, fun m ρ _ => Cert.AttnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnIdeal.Gen

end
-- ==== Proof.AttnI.Blocks.lean ====
/- The VALUE LEG of proofs.«01_k».proof.AttnIdeal's certificate (Lib/Pipeline/Value.lean) for this class-R kernel, in two forms. BLOCKWISE,
   whatever its body computes: `run_blocks` is the frame run `Gen.run_main` with each output array after the run NAMED
   (`(Gen.dats …).arrAt w N`), and per output window `w`: `flushed_w` — what grid point `t` would write back is the
   run's contents for the window (`Gen.outsAtK`) read through the block —, per case `flushed_w_κ` — at a point of that case,
   the case's NAMED TERM (`Gen.outK_κ_W`: its pieces read back; for an output the case reads back, over what the point
   before left) —, when the index map is injective (decided) `disjoint_w` / `blocks_w` — block `t` of the final array
   IS what point `t` wrote —, `entry_w` — an index no block covers keeps the region-entry
   contents. The ACCUMULATED form (`run`: each output array one function of the arguments) is NOT written for this
   kernel:
   the kernel takes operands the pipeline does not stage (a scratch operand, or one left in HBM).
   The certificate's hand proof unfolds the named terms `flushed_w_κ` cites and sets `run_blocks` beside the
   reference's run. -/
module

public import proofs.«01_k».proof.Proof.AttnI.Frame
public import Idealize.ShloMosaic.Lib.Pipeline.Value

@[expose] public section

noncomputable section

namespace Cert.AttnIdeal.Value

open Cert.AttnIdeal Cert.AttnIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`), read through the window's block. -/
theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : ¬(t.val % 4 = 2 ∨ t.val % 4 = 3)) (h1 : ¬t.val % 2 = 1) (h2 : t.val % 2 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t)) := by
  simp only [flushed5, outsAt0_A m c t h0 h1 h2]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬(t.val % 4 = 2 ∨ t.val % 4 = 3)) (h1 : t.val % 2 = 1) (h2 : ¬t.val % 2 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t)) := by
  simp only [flushed5, outsAt0_B m c t h0 h1 h2]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : (t.val % 4 = 2 ∨ t.val % 4 = 3)) (h1 : ¬t.val % 2 = 1) (h2 : t.val % 2 = 0) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t)) := by
  simp only [flushed5, outsAt0_C m c t h0 h1 h2]

/-- … so at a point where case D runs, what its write-back would write is that case's NAMED TERM for the window (`Gen.out0_D_5`: the pieces
    its run found, read back) at the point's memrefs and input blocks, and for an output the case reads back what the point before left (`Gen.outsAt0` at `t - 1`) — by the frame's rewriting lemma for the case. -/
theorem flushed5_D (c : Dev nD) (t : Fin cfg0.N) (h0 : (t.val % 4 = 2 ∨ t.val % 4 = 3)) (h1 : t.val % 2 = 1) (h2 : ¬t.val % 2 = 0) :
    (dats m 0 c).flushed 5 t = (cfg0.win 5).cut (grid0.coords t) (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed5, outsAt0_D m c t h0 h1 h2]

/-- The index map sends distinct grid points to distinct block indices (decided over the 64 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.AttnIdeal.Value

end
-- ==== Proof.FfnValue.lean ====
module

public import proofs.«01_k».proof.Proof.Gen.FfnIdeal.Value
public import proofs.«01_k».proof.Proof.Gen.FfnRefIdeal.Run
public import proofs.«01_k».proof.Proof.Gen.FfnRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value
open Cert.FfnIdeal Cert.FfnIdeal.Gen

variable (m : (ℓ : Loc nD τ sig) → Buf (Elt Ideal) ℓ)

/-- The root-mean-square normalisation of row `r`, scaled, at column `k`. -/
def nrm (x : FVec Ideal S16384x2048 .f32) (g : FVec Ideal ⟨1, ![2048]⟩ .f32) (r : Fin 16384) (k : Fin 2048) : EReal :=
  x (ix2 r k) * Ideal.rsqrt (Ideal.div (∑ l : Fin 2048, x (ix2 r l) * x (ix2 r l)) (Ideal.ofBits .f32 0x45000000#32)
    + Ideal.ofBits .f32 0x358637BD#32) * g (ix1 k)

/-- Hidden unit `f` of row `r`: the squared rectified linear unit of the up projection. -/
def hid (x : FVec Ideal S16384x2048 .f32) (g : FVec Ideal ⟨1, ![2048]⟩ .f32) (u : FVec Ideal S2048x8192 .bf16)
    (r : Fin 16384) (f : Fin 8192) : EReal :=
  max (∑ k : Fin 2048, nrm x g r k * u (ix2 k f)) 0 * max (∑ k : Fin 2048, nrm x g r k * u (ix2 k f)) 0

/-- What hidden tile `s` adds to row `r` of the output at column `k`. -/
def tile (x : FVec Ideal S16384x2048 .f32) (g : FVec Ideal ⟨1, ![2048]⟩ .f32) (u : FVec Ideal S2048x8192 .bf16)
    (d : FVec Ideal S8192x2048 .bf16) (r : Fin 16384) (k : Fin 2048) (s : Fin 8) : EReal :=
  ∑ l : Fin 1024, hid x g u r ⟨s.val * 1024 + l.val, by omega⟩ * d (ix2 ⟨s.val * 1024 + l.val, by omega⟩ k)

/-- The whole layer at row `r`, column `k`. -/
def layer (x : FVec Ideal S16384x2048 .f32) (g : FVec Ideal ⟨1, ![2048]⟩ .f32) (u : FVec Ideal S2048x8192 .bf16)
    (d : FVec Ideal S8192x2048 .bf16) (r : Fin 16384) (k : Fin 2048) : EReal :=
  x (ix2 r k) + ∑ f : Fin 8192, hid x g u r f * d (ix2 f k)

theorem norm_at (x : FVec Ideal S512x2048 .f32) (g : FVec Ideal S1x2048 .f32) (r : Fin 512) (k : Fin 2048) :
    k0_pay1 (F := Ideal) x g (ix2 r k) = x (ix2 r k) * Ideal.rsqrt (Ideal.div (∑ l : Fin 2048, x (ix2 r l) * x (ix2 r l))
      (Ideal.ofBits .f32 0x45000000#32) + Ideal.ofBits .f32 0x358637BD#32) * g (ix2 0 k) := by
  pointwise [k0_pay1]

theorem part_at (u : FVec Ideal S2048x1024 .bf16) (d : FVec Ideal S1024x2048 .bf16) (h : FVec Ideal S512x2048 .bf16)
    (o : FVec Ideal S512x2048 .f32) (r : Fin 512) (k : Fin 2048) :
    k0_pay2 (F := Ideal) u d h o (ix2 r k) = o (ix2 r k) + ∑ l : Fin 1024,
      max (∑ q : Fin 2048, h (ix2 r q) * u (ix2 q l)) 0 * max (∑ q : Fin 2048, h (ix2 r q) * u (ix2 q l)) 0 * d (ix2 l k) := by
  pointwise [k0_pay2]

theorem idx : ∀ t : Fin cfg0.N, win0_0.index t = ![t.val / 8, 0] ∧ win0_1.index t = ![0, 0]
    ∧ win0_2.index t = ![0, t.val % 8] ∧ win0_3.index t = ![t.val % 8, 0] ∧ win0_4.index t = ![t.val / 8, 0] :=
  (by decide +kernel : ∀ t : Fin grid0.N, _)

abbrev X (c : Dev nD) : FVec Ideal S16384x2048 .f32 := m ((c : Thread nD τ).loc main_arg0)
abbrev G (c : Dev nD) : FVec Ideal ⟨1, ![2048]⟩ .f32 := m ((c : Thread nD τ).loc main_arg1)
abbrev U (c : Dev nD) : FVec Ideal S2048x8192 .bf16 := m ((c : Thread nD τ).loc main_arg2)
abbrev D (c : Dev nD) : FVec Ideal S8192x2048 .bf16 := m ((c : Thread nD τ).loc main_arg3)

theorem lt_N (t : Fin cfg0.N) : t.val < 256 := lt_of_lt_of_eq t.isLt N_0

/-- Row `a` of point `t`'s block is this row of the array. -/
abbrev rowOf (t : Fin cfg0.N) (a : Fin 512) : Fin 16384 := ⟨t.val / 8 * 512 + a.val, by have := lt_N t; omega⟩

theorem x_at (c : Dev nD) (t : Fin cfg0.N) (a : Fin 512) (k : Fin 2048) :
    (show FVec Ideal S512x2048 .f32 from iblk m c 0 t) (ix2 a k) = X m c (ix2 (rowOf t a) k) := by
  blk_ext [iblk, V, idx t]

theorem g_at (c : Dev nD) (t : Fin cfg0.N) (k : Fin 2048) :
    (show FVec Ideal S1x2048 .f32 from iblk m c 1 t) (ix2 0 k) = G m c (ix1 k) := by
  blk_simp [iblk]
  entry_read
  have e : ((View.whole main_v0).slice (win0_1.rect t)).emb (ix2 0 k) = (ix2 0 k : S1x2048.Idx) := by
    blk_ext [idx t]
  exact (congrArg _ e).trans (by pointwise)

theorem u_at (c : Dev nD) (t : Fin cfg0.N) (k : Fin 2048) (l : Fin 1024) :
    (show FVec Ideal S2048x1024 .bf16 from iblk m c 2 t) (ix2 k l)
      = U m c (ix2 k ⟨t.val % 8 * 1024 + l.val, by omega⟩) := by
  blk_ext [iblk, V, idx t]

theorem d_at (c : Dev nD) (t : Fin cfg0.N) (l : Fin 1024) (k : Fin 2048) :
    (show FVec Ideal S1024x2048 .bf16 from iblk m c 3 t) (ix2 l k)
      = D m c (ix2 ⟨t.val % 8 * 1024 + l.val, by omega⟩ k) := by
  blk_ext [iblk, V, idx t]

/-- What a point adds to its output block, given that the scratch holds the normalised rows. -/
theorem add_at (c : Dev nD) (t : Fin cfg0.N) (h : FVec Ideal S512x2048 .bf16) (o : FVec Ideal S512x2048 .f32)
    (hh : ∀ a k, h (ix2 a k) = nrm (X m c) (G m c) (rowOf t a) k) (a : Fin 512) (k : Fin 2048) :
    k0_pay2 (F := Ideal) (iblk m c 2 t) (iblk m c 3 t) h o (ix2 a k)
      = o (ix2 a k) + tile (X m c) (G m c) (U m c) (D m c) (rowOf t a) k ⟨t.val % 8, by omega⟩ := by
  rw [part_at]
  refine congrArg (_ + ·) (Finset.sum_congr rfl fun l _ => ?_)
  simp only [hid, hh]
  refine congrArg₂ (· * ·) ?_ (d_at m c t l k)
  have : (∑ q : Fin 2048, nrm (X m c) (G m c) (rowOf t a) q * (show FVec Ideal S2048x1024 .bf16 from iblk m c 2 t) (ix2 q l))
      = ∑ q : Fin 2048, nrm (X m c) (G m c) (rowOf t a) q * U m c (ix2 q ⟨t.val % 8 * 1024 + l.val, by omega⟩) :=
    Finset.sum_congr rfl fun q _ => congrArg _ (u_at m c t q l)
  exact congrArg (fun e : EReal => max e 0 * max e 0) this

theorem scr_first (c : Dev nD) (t : Fin cfg0.N) (a : Fin 512) (k : Fin 2048) :
    k0_pay1 (F := Ideal) (iblk m c 0 t) (iblk m c 1 t) (ix2 a k) = nrm (X m c) (G m c) (rowOf t a) k := by
  rw [norm_at]
  have e : ∀ q, (show FVec Ideal S512x2048 .f32 from iblk m c 0 t) (ix2 a q) = X m c (ix2 (rowOf t a) q) := fun q => x_at m c t a q
  unfold nrm
  rw [← g_at m c t k]
  simp only [← e]

/-- The sum of the hidden tiles before `n`. -/
def upto (x : FVec Ideal S16384x2048 .f32) (g : FVec Ideal ⟨1, ![2048]⟩ .f32) (u : FVec Ideal S2048x8192 .bf16)
    (d : FVec Ideal S8192x2048 .bf16) (r : Fin 16384) (k : Fin 2048) (n : ℕ) : EReal :=
  ∑ s ∈ Finset.range n, if h : s < 8 then tile x g u d r k ⟨s, h⟩ else 0

theorem upto_eight (x : FVec Ideal S16384x2048 .f32) (g : FVec Ideal ⟨1, ![2048]⟩ .f32) (u : FVec Ideal S2048x8192 .bf16)
    (d : FVec Ideal S8192x2048 .bf16) (r : Fin 16384) (k : Fin 2048) :
    x (ix2 r k) + upto x g u d r k 8 = layer x g u d r k := by
  unfold upto layer
  rw [Finset.sum_range]
  refine congrArg (_ + ·) (Eq.trans (Finset.sum_congr rfl fun s _ => dif_pos s.isLt) ?_)
  exact (Fin.sum_univ_tiles 8 1024 rfl (fun f : Fin 8192 => hid x g u r f * d (ix2 f k))).symm

/-- What point `n` leaves: the normalised rows in the scratch, and in the output block the rows plus the tiles so far. -/
theorem state (c : Dev nD) : ∀ (n : ℕ) (hn : n < cfg0.N),
    (∀ (a : Fin 512) (k : Fin 2048), (show FVec Ideal S512x2048 .bf16 from (outsAt0 m c n hn).2) (ix2 a k)
        = nrm (X m c) (G m c) (rowOf ⟨n, hn⟩ a) k)
    ∧ ∀ (a : Fin 512) (k : Fin 2048), (show FVec Ideal S512x2048 .f32 from (outsAt0 m c n hn).1) (ix2 a k)
        = X m c (ix2 (rowOf ⟨n, hn⟩ a) k) + upto (X m c) (G m c) (U m c) (D m c) (rowOf ⟨n, hn⟩ a) k (n % 8 + 1) := by
  have first : ∀ t : Fin cfg0.N, t.val % 8 = 0 →
      (∀ (a : Fin 512) (k : Fin 2048), (show FVec Ideal S512x2048 .bf16 from (outsAt0 m c t.val t.isLt).2) (ix2 a k)
        = nrm (X m c) (G m c) (rowOf t a) k)
      ∧ ∀ (a : Fin 512) (k : Fin 2048), (show FVec Ideal S512x2048 .f32 from (outsAt0 m c t.val t.isLt).1) (ix2 a k)
        = X m c (ix2 (rowOf t a) k) + upto (X m c) (G m c) (U m c) (D m c) (rowOf t a) k (t.val % 8 + 1) := by
    intro t h0
    rw [outsAt0_A m c t h0]
    refine ⟨fun a k => ?_, fun a k => ?_⟩
    · dsimp only
      frame_out
      exact scr_first m c t a k
    · dsimp only
      frame_out
      refine (add_at m c t _ _ (fun a k => scr_first m c t a k) a k).trans ?_
      unfold upto
      simp only [h0, Finset.sum_range_one, zero_add]
      exact congrArg₂ (· + ·) (x_at m c t a k) rfl
  intro n
  induction n with
  | zero => exact fun hn => first ⟨0, hn⟩ rfl
  | succ n ih =>
    intro hn
    by_cases h0 : (n + 1) % 8 = 0
    · exact first ⟨n + 1, hn⟩ h0
    · obtain ⟨ih1, ih2⟩ := ih (Nat.lt_of_succ_lt hn)
      rw [outsAt0_B m c ⟨n + 1, hn⟩ h0]
      dsimp only
      have hrow : ∀ a : Fin 512, rowOf ⟨n + 1, hn⟩ a = rowOf ⟨n, Nat.lt_of_succ_lt hn⟩ a := fun a =>
        Fin.ext (by show (n + 1) / 8 * 512 + a.val = n / 8 * 512 + a.val; omega)
      have hmod : (n + 1) % 8 = n % 8 + 1 := by omega
      refine ⟨fun a k => ?_, fun a k => ?_⟩
      · rw [hrow]
        exact ih1 a k
      · frame_out
        refine (add_at m c ⟨n + 1, hn⟩ _ _ (fun a k => (congrFun (Memref.IsWhole.read_unread _ _) _).trans
          ((ih1 a k).trans (by rw [hrow]))) a k).trans ?_
        unfold upto at ih2 ⊢
        rw [Finset.sum_range_succ, hrow, ← add_assoc]
        refine congrArg₂ (· + ·) ((ih2 a k).trans ?_) ?_
        · rw [hmod]
        · rw [dif_pos (by omega : (n + 1) % 8 < 8)]

theorem final (c : Dev nD) : (dats m 0 c).arrAt 4 (cfgs 0).N
    = fun i : S16384x2048.Idx => layer (X m c) (G m c) (U m c) (D m c) (i 0) (i 1) := by
  refine (dats m 0 c).arrAt_eq_of_covers 4 _ (by decide +kernel) fun t hf y => ?_
  blk_simp
  rw [after0_4]
  have h7 : t.val % 8 = 7 := (flush0_4 t).mp hf
  idx_vars y
  refine ((state m c t.val t.isLt).2 y0 y1).trans ?_
  rw [h7, upto_eight]
  refine congrArg₂ (layer (X m c) (G m c) (U m c) (D m c)) ?_ ?_
  · apply Fin.ext
    blk_simp [idx t]
  · apply Fin.ext
    blk_simp [idx t]

end Cert.FfnIdeal.Value

namespace Cert.FfnRefIdeal.Value
open Cert.FfnRefIdeal Cert.FfnRefIdeal.Gen Cert.FfnRefIdeal.Read

theorem ref_at (x : FVec Ideal S16384x2048 .f32) (g : FVec Ideal S2048 .f32) (u : FVec Ideal S2048x8192 .bf16)
    (d : FVec Ideal S8192x2048 .bf16) (r : Fin 16384) (k : Fin 2048) :
    val_main_v19 (F := Ideal) x g u d (ix2 r k) = Cert.FfnIdeal.Value.layer x g u d r k := by
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_call0_v0, val_main_call0_cst,
    Cert.FfnIdeal.Value.layer, Cert.FfnIdeal.Value.hid, Cert.FfnIdeal.Value.nrm]

end Cert.FfnRefIdeal.Value
end
-- ==== Proof.FfnClaim.lean ====
module

public import proofs.«01_k».proof.Defs
public import proofs.«01_k».proof.Proof.FfnValue
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem ffn_algebraic : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    rw [Cert.FfnIdeal.Value.final m c]
    funext i
    idx_vars i
    exact Cert.FfnRefIdeal.Value.ref_at _ _ _ _ i0 i1

end Cert.Proof
end
-- ==== Proof.PleValue.lean ====
module

public import proofs.«01_k».proof.Proof.Gen.PleIdeal.Value
public import proofs.«01_k».proof.Proof.Gen.PleRefIdeal.Run
public import proofs.«01_k».proof.Proof.Gen.PleRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PleIdeal.Value
open Cert.PleIdeal Cert.PleIdeal.Gen

variable (m : (ℓ : Loc nD τ sig) → Buf (Elt Ideal) ℓ)

theorem logistic_eq (x : EReal) : Ideal.logistic x = Ideal.div 1 (1 + Ideal.exp (-x)) := rfl

/-- A row over its root mean square, scaled. -/
def nrm (f g : Fin 2048 → EReal) (k : Fin 2048) : EReal :=
  f k * Ideal.rsqrt (Ideal.div (∑ l : Fin 2048, f l * f l) (Ideal.ofBits .f32 0x45000000#32) + Ideal.ofBits .f32 0x358637BD#32) * g k

/-- A row of the stream plus its gated embedding, before the last norm. -/
def gated (x : Fin 2048 → EReal) (p : Fin 256 → EReal) (wp : Fin 256 → Fin 2048 → EReal) (gp gg : Fin 2048 → EReal)
    (wg : Fin 2048 → Fin 2048 → EReal) (k : Fin 2048) : EReal :=
  x k + Ideal.logistic (∑ q : Fin 2048, nrm x gg q * wg q k) * nrm (fun j => ∑ l : Fin 256, p l * wp l j) gp k

theorem gated_at (x : FVec Ideal S512x2048 .f32) (p : FVec Ideal S512x256 .f32) (wp : FVec Ideal S256x2048 .bf16)
    (gp gg : FVec Ideal S1x2048 .f32) (wg : FVec Ideal S2048x2048 .bf16) (r : Fin 512) (k : Fin 2048) :
    k0_pay2 (F := Ideal) x p wp gp gg wg (ix2 r k) = gated (fun q => x (ix2 r q)) (fun l => p (ix2 r l)) (fun l q => wp (ix2 l q))
      (fun q => gp (ix2 0 q)) (fun q => gg (ix2 0 q)) (fun q j => wg (ix2 q j)) k := by
  pointwise [k0_pay2, gated, nrm]

theorem norm_at (x : FVec Ideal S512x2048 .f32) (g : FVec Ideal S1x2048 .f32) (r : Fin 512) (k : Fin 2048) :
    k0_pay1 (F := Ideal) x g (ix2 r k) = nrm (fun q => x (ix2 r q)) (fun q => g (ix2 0 q)) k := by
  pointwise [k0_pay1, nrm]

theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] :=
  (by decide +kernel : ∀ t : Fin grid0.N, _)

abbrev X (c : Dev nD) : FVec Ideal S16384x2048 .f32 := m ((c : Thread nD τ).loc main_arg0)
abbrev P (c : Dev nD) : FVec Ideal S16384x256 .f32 := m ((c : Thread nD τ).loc main_arg1)
abbrev WP (c : Dev nD) : FVec Ideal S256x2048 .bf16 := m ((c : Thread nD τ).loc main_arg2)
abbrev GP (c : Dev nD) : FVec Ideal S2048 .f32 := m ((c : Thread nD τ).loc main_arg3)
abbrev GG (c : Dev nD) : FVec Ideal S2048 .f32 := m ((c : Thread nD τ).loc main_arg4)
abbrev WG (c : Dev nD) : FVec Ideal S2048x2048 .bf16 := m ((c : Thread nD τ).loc main_arg5)
abbrev GF (c : Dev nD) : FVec Ideal S2048 .f32 := m ((c : Thread nD τ).loc main_arg6)

/-- The whole call at row `r`, column `k`. -/
def layer (x : FVec Ideal S16384x2048 .f32) (p : FVec Ideal S16384x256 .f32) (wp : FVec Ideal S256x2048 .bf16)
    (gp gg : FVec Ideal S2048 .f32) (wg : FVec Ideal S2048x2048 .bf16) (gf : FVec Ideal S2048 .f32) (r : Fin 16384)
    (k : Fin 2048) : EReal :=
  nrm (gated (fun q => x (ix2 r q)) (fun l => p (ix2 r l)) (fun l q => wp (ix2 l q))
      (fun q => gp (ix1 q)) (fun q => gg (ix1 q)) (fun q j => wg (ix2 q j))) (fun q => gf (ix1 q)) k

theorem lt_N (t : Fin cfg0.N) : t.val < 32 := lt_of_lt_of_eq t.isLt N_0

abbrev rowOf (t : Fin cfg0.N) (a : Fin 512) : Fin 16384 := ⟨t.val * 512 + a.val, by have := lt_N t; omega⟩

theorem gain_at (c : Dev nD) (t : Fin cfg0.N) (k : Fin 2048) :
    (show FVec Ideal S1x2048 .f32 from iblk m c 3 t) (ix2 0 k) = GP m c (ix1 k)
    ∧ (show FVec Ideal S1x2048 .f32 from iblk m c 4 t) (ix2 0 k) = GG m c (ix1 k)
    ∧ (show FVec Ideal S1x2048 .f32 from iblk m c 6 t) (ix2 0 k) = GF m c (ix1 k) := by
  refine ⟨?_, ?_, ?_⟩
  · blk_simp [iblk]
    entry_read
    have e : ((View.whole main_v0).slice (win0_3.rect t)).emb (ix2 0 k) = (ix2 0 k : S1x2048.Idx) := by blk_ext [idx t]
    exact (congrArg _ e).trans (by pointwise)
  · blk_simp [iblk]
    entry_read
    have e : ((View.whole main_v1).slice (win0_4.rect t)).emb (ix2 0 k) = (ix2 0 k : S1x2048.Idx) := by blk_ext [idx t]
    exact (congrArg _ e).trans (by pointwise)
  · blk_simp [iblk]
    entry_read
    have e : ((View.whole main_v2).slice (win0_6.rect t)).emb (ix2 0 k) = (ix2 0 k : S1x2048.Idx) := by blk_ext [idx t]
    exact (congrArg _ e).trans (by pointwise)

theorem final (c : Dev nD) : (dats m 0 c).arrAt 7 (cfgs 0).N
    = fun i : S16384x2048.Idx => layer (X m c) (P m c) (WP m c) (GP m c) (GG m c) (WG m c) (GF m c) (i 0) (i 1) := by
  have hx : ∀ (t : Fin cfg0.N) (r : Fin 512) (k : Fin 2048),
      (show FVec Ideal S512x2048 .f32 from iblk m c 0 t) (ix2 r k) = X m c (ix2 (rowOf t r) k) := by
    intro t r k; blk_ext [iblk, V, idx t]
  have hp : ∀ (t : Fin cfg0.N) (r : Fin 512) (k : Fin 256),
      (show FVec Ideal S512x256 .f32 from iblk m c 1 t) (ix2 r k) = P m c (ix2 (rowOf t r) k) := by
    intro t r k; blk_ext [iblk, V, idx t]
  have hwp : ∀ (t : Fin cfg0.N) (r : Fin 256) (k : Fin 2048),
      (show FVec Ideal S256x2048 .bf16 from iblk m c 2 t) (ix2 r k) = WP m c (ix2 r k) := by
    intro t r k; blk_ext [iblk, V, idx t]
  have hwg : ∀ (t : Fin cfg0.N) (r : Fin 2048) (k : Fin 2048),
      (show FVec Ideal S2048x2048 .bf16 from iblk m c 5 t) (ix2 r k) = WG m c (ix2 r k) := by
    intro t r k; blk_ext [iblk, V, idx t]
  refine (dats m 0 c).arrAt_eq_of_covers 7 _ (by decide +kernel) fun t hf y => ?_
  blk_simp
  rw [after0_7]
  idx_vars y
  have e0 : (((cfg0.win 7).blk t).view.emb (ix2 y0 y1) : S16384x2048.Idx) = ix2 (rowOf t y0) y1 := by
    blk_ext [idx t]
  refine Eq.trans ?_ (congrArg (fun i => layer (X m c) (P m c) (WP m c) (GP m c) (GG m c) (WG m c) (GF m c) (i 0) (i 1)) e0).symm
  unfold out0_7
  frame_out
  refine (norm_at _ _ y0 y1).trans ?_
  refine congrFun (congrArg₂ nrm (funext fun q => ?_) (funext fun q => (gain_at m c t q).2.2)) y1
  refine (gated_at _ _ _ _ _ _ y0 q).trans ?_
  exact congrFun (congr (congr (congr (congr (congrArg₂ gated (funext fun k => hx t y0 k) (funext fun k => hp t y0 k))
    (funext fun l => funext fun k => hwp t l k)) (funext fun k => (gain_at m c t k).1)) (funext fun k => (gain_at m c t k).2.1))
    (funext fun l => funext fun k => hwg t l k)) q

end Cert.PleIdeal.Value

namespace Cert.PleRefIdeal.Value
open Cert.PleRefIdeal Cert.PleRefIdeal.Gen Cert.PleRefIdeal.Read

theorem ref_at (x : FVec Ideal S16384x2048 .f32) (p : FVec Ideal S16384x256 .f32) (wp : FVec Ideal S256x2048 .bf16)
    (gp gg : FVec Ideal S2048 .f32) (wg : FVec Ideal S2048x2048 .bf16) (gf : FVec Ideal S2048 .f32) (r : Fin 16384)
    (k : Fin 2048) :
    val_main_v50 (F := Ideal) x p wp gp gg wg gf (ix2 r k) = Cert.PleIdeal.Value.layer x p wp gp gg wg gf r k := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_cst_5, val_main_v32, val_main_v33, val_main_cst_6, val_main_v34, val_main_v35, val_main_v36, val_main_v37, val_main_v38, val_main_cst_7, val_main_v39, val_main_v40, val_main_cst_8, val_main_v41, val_main_v42, val_main_cst_9, val_main_v43, val_main_v44, val_main_v45, val_main_v46, val_main_v47, val_main_v48, val_main_v49, val_main_v50, Cert.PleIdeal.Value.layer, Cert.PleIdeal.Value.gated, Cert.PleIdeal.Value.nrm]
  simp only [Cert.PleIdeal.Value.logistic_eq]

end Cert.PleRefIdeal.Value
end
-- ==== Proof.PleClaim.lean ====
module

public import proofs.«01_k».proof.Defs
public import proofs.«01_k».proof.Proof.PleValue
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem ple_algebraic : Cert.algebraic_PleIdeal_PleRefIdeal (hPleIdeal := Cert.PleIdeal.Gen.facts)
    (hPleRefIdeal := Cert.PleRefIdeal.Gen.facts) := by
  pair_intro
  · run_from Cert.PleIdeal.Gen.run_main m g
  · run_from Cert.PleRefIdeal.Value.run m' g'
    rw [Cert.PleRefIdeal.Read.val_main_v50_eq, Cert.PleIdeal.Value.final m c]
    obtain ⟨a0, a1, a2, a3, a4, a5, a6⟩ := hagree c
    rw [a0, a1, a2, a3, a4, a5, a6]
    funext i
    idx_vars i
    exact Cert.PleRefIdeal.Value.ref_at _ _ _ _ _ _ _ i0 i1

end Cert.Proof
end
-- ==== Proof.OutValue.lean ====
module

public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Value
open Cert.OutIdeal Cert.OutIdeal.Gen

variable (m : (ℓ : Loc nD τ sig) → Buf (Elt Ideal) ℓ)

/-- Row `r`, column `k` of the residual: both groups' heads against the two halves of the output weights. -/
def mixed (a b : FVec Ideal S16384x1024 .bf16) (x : FVec Ideal S16384x2048 .f32) (w : FVec Ideal S2048x2048 .bf16)
    (r : Fin 16384) (k : Fin 2048) : EReal :=
  x (ix2 r k) + (∑ l : Fin 1024, a (ix2 r l) * w (ix2 ⟨l.val, by omega⟩ k)
    + ∑ l : Fin 1024, b (ix2 r l) * w (ix2 ⟨1024 + l.val, by omega⟩ k))

theorem out_at (a b : FVec Ideal S512x1024 .bf16) (x : FVec Ideal S512x2048 .f32) (w : FVec Ideal S2048x2048 .bf16)
    (r : Fin 512) (k : Fin 2048) :
    out0_4 (F := Ideal) a b x w (ix2 r k) = x (ix2 r k) + (∑ l : Fin 1024, a (ix2 r l) * w (ix2 ⟨l.val, by omega⟩ k)
    + ∑ l : Fin 1024, b (ix2 r l) * w (ix2 ⟨1024 + l.val, by omega⟩ k)) := by
  unfold out0_4
  frame_out
  pointwise [k0_pay1]

theorem idx : ∀ t : Fin cfg0.N, win0_0.index t = ![t.val, 0] ∧ win0_1.index t = ![t.val, 0]
    ∧ win0_2.index t = ![t.val, 0] ∧ win0_3.index t = ![0, 0] ∧ win0_4.index t = ![t.val, 0] :=
  (by decide +kernel : ∀ t : Fin grid0.N, _)

abbrev OA (c : Dev nD) : FVec Ideal S16384x1024 .bf16 := m ((c : Thread nD τ).loc main_arg0)
abbrev OB (c : Dev nD) : FVec Ideal S16384x1024 .bf16 := m ((c : Thread nD τ).loc main_arg1)
abbrev X (c : Dev nD) : FVec Ideal S16384x2048 .f32 := m ((c : Thread nD τ).loc main_arg2)
abbrev W (c : Dev nD) : FVec Ideal S2048x2048 .bf16 := m ((c : Thread nD τ).loc main_arg3)

theorem lt_N (t : Fin cfg0.N) : t.val < 32 := lt_of_lt_of_eq t.isLt N_0

abbrev rowOf (t : Fin cfg0.N) (a : Fin 512) : Fin 16384 := ⟨t.val * 512 + a.val, by have := lt_N t; omega⟩

theorem final (c : Dev nD) : (dats m 0 c).arrAt 4 (cfgs 0).N
    = fun i : S16384x2048.Idx => mixed (OA m c) (OB m c) (X m c) (W m c) (i 0) (i 1) := by
  have ha : ∀ (t : Fin cfg0.N) (r : Fin 512) (k : Fin 1024),
      (show FVec Ideal S512x1024 .bf16 from iblk m c 0 t) (ix2 r k) = OA m c (ix2 (rowOf t r) k) := by
    intro t r k; blk_ext [iblk, V, idx t]
  have hb : ∀ (t : Fin cfg0.N) (r : Fin 512) (k : Fin 1024),
      (show FVec Ideal S512x1024 .bf16 from iblk m c 1 t) (ix2 r k) = OB m c (ix2 (rowOf t r) k) := by
    intro t r k; blk_ext [iblk, V, idx t]
  have hx : ∀ (t : Fin cfg0.N) (r : Fin 512) (k : Fin 2048),
      (show FVec Ideal S512x2048 .f32 from iblk m c 2 t) (ix2 r k) = X m c (ix2 (rowOf t r) k) := by
    intro t r k; blk_ext [iblk, V, idx t]
  have hw : ∀ (t : Fin cfg0.N) (r : Fin 2048) (k : Fin 2048),
      (show FVec Ideal S2048x2048 .bf16 from iblk m c 3 t) (ix2 r k) = W m c (ix2 r k) := by
    intro t r k; blk_ext [iblk, V, idx t]
  refine (dats m 0 c).arrAt_eq_of_covers 4 _ (by decide +kernel) fun t hf y => ?_
  blk_simp
  rw [after0_4]
  idx_vars y
  refine (out_at _ _ _ _ y0 y1).trans ?_
  have e0 : (((cfg0.win 4).blk t).view.emb (ix2 y0 y1) : S16384x2048.Idx) = ix2 (rowOf t y0) y1 := by
    blk_ext [idx t]
  refine Eq.trans ?_ (congrArg (fun i => mixed (OA m c) (OB m c) (X m c) (W m c) (i 0) (i 1)) e0).symm
  exact congrArg₂ (· + ·) (hx t y0 y1) (congrArg₂ (· + ·)
    (Finset.sum_congr rfl fun l _ => congrArg₂ (· * ·) (ha t y0 l) (hw t _ y1))
    (Finset.sum_congr rfl fun l _ => congrArg₂ (· * ·) (hb t y0 l) (hw t _ y1)))

end Cert.OutIdeal.Value

namespace Cert.OutRefIdeal.Value
open Cert.OutRefIdeal Cert.OutRefIdeal.Gen Cert.OutRefIdeal.Read

theorem ref_at (a b : FVec Ideal S16384x1024 .bf16) (x : FVec Ideal S16384x2048 .f32) (w : FVec Ideal S2048x2048 .bf16)
    (r : Fin 16384) (k : Fin 2048) :
    val_main_v5 (F := Ideal) a b x w (ix2 r k) = Cert.OutIdeal.Value.mixed a b x w r k := by
  pointwise [val_main_v5, val_main_v4, val_main_v3, val_main_v2, val_main_v1, val_main_v0, Cert.OutIdeal.Value.mixed]

end Cert.OutRefIdeal.Value
end
-- ==== Proof.OutClaim.lean ====
module

public import proofs.«01_k».proof.Defs
public import proofs.«01_k».proof.Proof.OutValue
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem out_algebraic : Cert.algebraic_OutIdeal_OutRefIdeal (hOutIdeal := Cert.OutIdeal.Gen.facts)
    (hOutRefIdeal := Cert.OutRefIdeal.Gen.facts) := by
  pair_intro
  · run_from Cert.OutIdeal.Gen.run_main m g
  · run_from Cert.OutRefIdeal.Value.run m' g'
    rw [Cert.OutIdeal.Value.final m c]
    funext i
    idx_vars i
    exact Cert.OutRefIdeal.Value.ref_at _ _ _ _ i0 i1

end Cert.Proof
end
-- ==== Proof.ConstMath.lean ====
module

public import Idealize.ShloMosaic.PureOps.Ideal
public import Idealize.ShloMosaic.Lib.Pointwise

@[expose] public section

noncomputable section

open Idealize.ShloMosaic

namespace Cert.ConstMath

/-- The inverse root of 128. -/
abbrev invRoot : EReal := (((Real.sqrt 128)⁻¹ : ℝ) : EReal)

/-- The logarithm of e to the base 2. -/
abbrev invLog : EReal := (((Real.log 2)⁻¹ : ℝ) : EReal)

/-- Their product. -/
abbrev invBoth : EReal := (((Real.sqrt 128)⁻¹ * (Real.log 2)⁻¹ : ℝ) : EReal)

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem div_root (x : EReal) : Ideal.div x (Ideal.sqrt (Ideal.ofBits .f32 0x43000000#32)) = x * invRoot := by
  rw [ofBits_128, Ideal.sqrt_coe, if_neg (by norm_num),
    Ideal.div_coe (show Real.sqrt 128 ≠ 0 from (Real.sqrt_pos.mpr (by norm_num)).ne'), one_div]

theorem div_log (x : EReal) : Ideal.div x (Ideal.log (Ideal.ofBits .f32 0x40000000#32)) = x * invLog := by
  rw [ofBits_2, Ideal.log_coe, if_neg (by norm_num),
    Ideal.div_coe (show Real.log 2 ≠ 0 from (Real.log_pos (by norm_num)).ne'), one_div]

theorem div_both (x : EReal) : Ideal.div (Ideal.div x (Ideal.sqrt (Ideal.ofBits .f32 0x43000000#32)))
    (Ideal.log (Ideal.ofBits .f32 0x40000000#32)) = x * invBoth := by
  rw [div_log, div_root, mul_assoc, ← EReal.coe_mul]

end Cert.ConstMath
end
end
-- ==== Proof.InpValue.lean ====
module

public import proofs.«01_k».proof.Proof.Gen.InpIdeal.Value
public import proofs.«01_k».proof.Proof.ConstMath
public import proofs.«01_k».proof.Proof.Gen.InpRefIdeal.Run
public import proofs.«01_k».proof.Proof.Gen.InpRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InpIdeal.Value
open Cert.InpIdeal Cert.InpIdeal.Gen Cert.ConstMath

variable (m : (ℓ : Loc nD τ sig) → Buf (Elt Ideal) ℓ)

/-- A row over its root mean square, scaled. -/
def nrm (f g : Fin 2048 → EReal) (k : Fin 2048) : EReal :=
  f k * Ideal.rsqrt (Ideal.div (∑ l : Fin 2048, f l * f l) (Ideal.ofBits .f32 0x45000000#32) + Ideal.ofBits .f32 0x358637BD#32) * g k

/-- A normalised row against one column of weights. -/
def proj (f g w : Fin 2048 → EReal) : EReal := ∑ q : Fin 2048, nrm f g q * w q

abbrev X (c : Dev nD) : FVec Ideal S16384x2048 .f32 := m ((c : Thread nD τ).loc main_arg0)
abbrev G (c : Dev nD) : FVec Ideal S2048 .f32 := m ((c : Thread nD τ).loc main_arg1)
abbrev WM (c : Dev nD) : FVec Ideal S2048x6144 .bf16 := m ((c : Thread nD τ).loc main_arg2)
abbrev WF (c : Dev nD) : FVec Ideal S2048x128 .bf16 := m ((c : Thread nD τ).loc main_arg3)

/-- Row `r` of the stream against column `k` of the main weights. -/
def mainAt (x : FVec Ideal S16384x2048 .f32) (g : FVec Ideal S2048 .f32) (w : FVec Ideal S2048x6144 .bf16) (r : Fin 16384)
    (k : Fin 6144) : EReal :=
  proj (fun l => x (ix2 r l)) (fun l => g (ix1 l)) (fun q => w (ix2 q k))

/-- Row `r` of the stream against column `k` of the gates' weights. -/
def gateAt (x : FVec Ideal S16384x2048 .f32) (g : FVec Ideal S2048 .f32) (w : FVec Ideal S2048x128 .bf16) (r : Fin 16384)
    (k : Fin 128) : EReal :=
  proj (fun l => x (ix2 r l)) (fun l => g (ix1 l)) (fun q => w (ix2 q k))

theorem idx : ∀ t : Fin cfg0.N, win0_0.index t = ![t.val, 0] ∧ win0_1.index t = ![0, 0]
    ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem lt_N (t : Fin cfg0.N) : t.val < 64 := lt_of_lt_of_eq t.isLt N_0

abbrev rowOf (t : Fin cfg0.N) (a : Fin 256) : Fin 16384 := ⟨t.val * 256 + a.val, by have := lt_N t; omega⟩

theorem rows_at (c : Dev nD) (t : Fin cfg0.N) (r : Fin 256) :
    (fun l => (show FVec Ideal S256x2048 .f32 from iblk m c 0 t) (ix2 r l)) = fun l => X m c (ix2 (rowOf t r) l) := by
  funext l; blk_ext [iblk, V, idx t]

theorem gain_at (c : Dev nD) (t : Fin cfg0.N) :
    (fun k => (show FVec Ideal S1x2048 .f32 from iblk m c 1 t) (ix2 0 k)) = fun k => G m c (ix1 k) := by
  funext k
  blk_simp [iblk]
  entry_read
  have e : ((View.whole main_v0).slice (win0_1.rect t)).emb (ix2 0 k) = (ix2 0 k : S1x2048.Idx) := by blk_ext [idx t]
  exact (congrArg _ e).trans (by pointwise)

theorem main_at (c : Dev nD) (t : Fin cfg0.N) (k : Fin 6144) :
    (fun q => (show FVec Ideal S2048x6144 .bf16 from iblk m c 2 t) (ix2 q k)) = fun q => WM m c (ix2 q k) := by
  funext q; blk_ext [iblk, V, idx t]

theorem gate_at (c : Dev nD) (t : Fin cfg0.N) (k : Fin 128) :
    (fun q => (show FVec Ideal S2048x128 .bf16 from iblk m c 3 t) (ix2 q k)) = fun q => WF m c (ix2 q k) := by
  funext q; blk_ext [iblk, V, idx t]

theorem proj_main (c : Dev nD) (t : Fin cfg0.N) (r : Fin 256) (k : Fin 6144) :
    proj (fun l => (show FVec Ideal S256x2048 .f32 from iblk m c 0 t) (ix2 r l))
      (fun l => (show FVec Ideal S1x2048 .f32 from iblk m c 1 t) (ix2 0 l))
      (fun q => (show FVec Ideal S2048x6144 .bf16 from iblk m c 2 t) (ix2 q k)) = mainAt (X m c) (G m c) (WM m c) (rowOf t r) k := by
  rw [rows_at, gain_at, main_at, mainAt]

theorem proj_gate (c : Dev nD) (t : Fin cfg0.N) (r : Fin 256) (k : Fin 128) :
    proj (fun l => (show FVec Ideal S256x2048 .f32 from iblk m c 0 t) (ix2 r l))
      (fun l => (show FVec Ideal S1x2048 .f32 from iblk m c 1 t) (ix2 0 l))
      (fun q => (show FVec Ideal S2048x128 .bf16 from iblk m c 3 t) (ix2 q k)) = gateAt (X m c) (G m c) (WF m c) (rowOf t r) k := by
  rw [rows_at, gain_at, gate_at, gateAt]

variable (x : FVec Ideal S256x2048 .f32) (g : FVec Ideal S1x2048 .f32) (w : FVec Ideal S2048x6144 .bf16) (f : FVec Ideal S2048x128 .bf16)

theorem out4_at (r : Fin 256) (k : Fin 1024) :
    out0_4 (F := Ideal) x g w f (ix2 r k) = proj (fun l => x (ix2 r l)) (fun l => g (ix2 0 l)) (fun q => w (ix2 q ⟨0 + k.val, by omega⟩)) * invBoth := by
  unfold out0_4
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
    rfl
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    rfl

theorem out5_at (r : Fin 256) (k : Fin 1024) :
    out0_5 (F := Ideal) x g w f (ix2 r k) = proj (fun l => x (ix2 r l)) (fun l => g (ix2 0 l)) (fun q => w (ix2 q ⟨1024 + k.val, by omega⟩)) := by
  unfold out0_5
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out6_at (r : Fin 256) (k : Fin 1024) :
    out0_6 (F := Ideal) x g w f (ix2 r k) = proj (fun l => x (ix2 r l)) (fun l => g (ix2 0 l)) (fun q => w (ix2 q ⟨2048 + k.val, by omega⟩)) := by
  unfold out0_6
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out7_at (r : Fin 256) (k : Fin 512) :
    out0_7 (F := Ideal) x g w f (ix2 r k) = proj (fun l => x (ix2 r l)) (fun l => g (ix2 0 l)) (fun q => w (ix2 q ⟨3072 + k.val, by omega⟩)) * invRoot := by
  unfold out0_7
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
  rfl

theorem out8_at (r : Fin 256) (k : Fin 512) :
    out0_8 (F := Ideal) x g w f (ix2 r k) = proj (fun l => x (ix2 r l)) (fun l => g (ix2 0 l)) (fun q => w (ix2 q ⟨3584 + k.val, by omega⟩)) := by
  unfold out0_8
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out9_at (r : Fin 256) (k : Fin 1024) :
    out0_9 (F := Ideal) x g w f (ix2 r k) = proj (fun l => x (ix2 r l)) (fun l => g (ix2 0 l)) (fun q => w (ix2 q ⟨4096 + k.val, by omega⟩)) := by
  unfold out0_9
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out10_at (r : Fin 256) (k : Fin 1024) :
    out0_10 (F := Ideal) x g w f (ix2 r k) = proj (fun l => x (ix2 r l)) (fun l => g (ix2 0 l)) (fun q => w (ix2 q ⟨5120 + k.val, by omega⟩)) := by
  unfold out0_10
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out11_at (r : Fin 256) (k : Fin 1024) :
    out0_11 (F := Ideal) x g w f (ix2 r k) = proj (fun l => x (ix2 r l)) (fun l => g (ix2 0 l)) (fun q => w (ix2 q ⟨1024 + k.val, by omega⟩)) := by
  unfold out0_11
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out12_at (r : Fin 256) (k : Fin 1024) :
    out0_12 (F := Ideal) x g w f (ix2 r k) = proj (fun l => x (ix2 r l)) (fun l => g (ix2 0 l)) (fun q => w (ix2 q ⟨2048 + k.val, by omega⟩)) := by
  unfold out0_12
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out13_at (r : Fin 256) (k : Fin 128) :
    out0_13 (F := Ideal) x g w f (ix2 r k) = proj (fun l => x (ix2 r l)) (fun l => g (ix2 0 l)) (fun q => f (ix2 q k)) := by
  unfold out0_13
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

/-- What output 0 holds. -/
def val4 (c : Dev nD) (i : S16384x1024.Idx) : EReal := mainAt (X m c) (G m c) (WM m c) (i 0) ⟨0 + (i 1).val, by have : (i 1).val < 1024 := (i 1).isLt; omega⟩ * invBoth

theorem final4 (c : Dev nD) : (dats m 0 c).arrAt 4 (cfgs 0).N = val4 m c := by
  refine (dats m 0 c).arrAt_eq_of_covers 4 _ (by decide +kernel) fun t hf y => ?_
  blk_simp
  rw [after0_4]
  idx_vars y
  have e0 : (((cfg0.win 4).blk t).view.emb (ix2 y0 y1) : S16384x1024.Idx) = ix2 (rowOf t y0) y1 := by blk_ext [idx t]
  exact (out4_at _ _ _ _ y0 y1).trans ((congrArg (· * invBoth) (proj_main m c t y0 _)).trans (congrArg (val4 m c) e0).symm)

/-- What output 1 holds. -/
def val5 (c : Dev nD) (i : S16384x1024.Idx) : EReal := mainAt (X m c) (G m c) (WM m c) (i 0) ⟨1024 + (i 1).val, by have : (i 1).val < 1024 := (i 1).isLt; omega⟩

theorem final5 (c : Dev nD) : (dats m 0 c).arrAt 5 (cfgs 0).N = val5 m c := by
  refine (dats m 0 c).arrAt_eq_of_covers 5 _ (by decide +kernel) fun t hf y => ?_
  blk_simp
  rw [after0_5]
  idx_vars y
  have e0 : (((cfg0.win 5).blk t).view.emb (ix2 y0 y1) : S16384x1024.Idx) = ix2 (rowOf t y0) y1 := by blk_ext [idx t]
  exact (out5_at _ _ _ _ y0 y1).trans ((proj_main m c t y0 _).trans (congrArg (val5 m c) e0).symm)

/-- What output 2 holds. -/
def val6 (c : Dev nD) (i : S16384x1024.Idx) : EReal := mainAt (X m c) (G m c) (WM m c) (i 0) ⟨2048 + (i 1).val, by have : (i 1).val < 1024 := (i 1).isLt; omega⟩

theorem final6 (c : Dev nD) : (dats m 0 c).arrAt 6 (cfgs 0).N = val6 m c := by
  refine (dats m 0 c).arrAt_eq_of_covers 6 _ (by decide +kernel) fun t hf y => ?_
  blk_simp
  rw [after0_6]
  idx_vars y
  have e0 : (((cfg0.win 6).blk t).view.emb (ix2 y0 y1) : S16384x1024.Idx) = ix2 (rowOf t y0) y1 := by blk_ext [idx t]
  exact (out6_at _ _ _ _ y0 y1).trans ((proj_main m c t y0 _).trans (congrArg (val6 m c) e0).symm)

/-- What output 3 holds. -/
def val7 (c : Dev nD) (i : S16384x512.Idx) : EReal := mainAt (X m c) (G m c) (WM m c) (i 0) ⟨3072 + (i 1).val, by have : (i 1).val < 512 := (i 1).isLt; omega⟩ * invRoot

theorem final7 (c : Dev nD) : (dats m 0 c).arrAt 7 (cfgs 0).N = val7 m c := by
  refine (dats m 0 c).arrAt_eq_of_covers 7 _ (by decide +kernel) fun t hf y => ?_
  blk_simp
  rw [after0_7]
  idx_vars y
  have e0 : (((cfg0.win 7).blk t).view.emb (ix2 y0 y1) : S16384x512.Idx) = ix2 (rowOf t y0) y1 := by blk_ext [idx t]
  exact (out7_at _ _ _ _ y0 y1).trans ((congrArg (· * invRoot) (proj_main m c t y0 _)).trans (congrArg (val7 m c) e0).symm)

/-- What output 4 holds. -/
def val8 (c : Dev nD) (i : S16384x512.Idx) : EReal := mainAt (X m c) (G m c) (WM m c) (i 0) ⟨3584 + (i 1).val, by have : (i 1).val < 512 := (i 1).isLt; omega⟩

theorem final8 (c : Dev nD) : (dats m 0 c).arrAt 8 (cfgs 0).N = val8 m c := by
  refine (dats m 0 c).arrAt_eq_of_covers 8 _ (by decide +kernel) fun t hf y => ?_
  blk_simp
  rw [after0_8]
  idx_vars y
  have e0 : (((cfg0.win 8).blk t).view.emb (ix2 y0 y1) : S16384x512.Idx) = ix2 (rowOf t y0) y1 := by blk_ext [idx t]
  exact (out8_at _ _ _ _ y0 y1).trans ((proj_main m c t y0 _).trans (congrArg (val8 m c) e0).symm)

/-- What output 5 holds. -/
def val9 (c : Dev nD) (i : S16384x1024.Idx) : EReal := mainAt (X m c) (G m c) (WM m c) (i 0) ⟨4096 + (i 1).val, by have : (i 1).val < 1024 := (i 1).isLt; omega⟩

theorem final9 (c : Dev nD) : (dats m 0 c).arrAt 9 (cfgs 0).N = val9 m c := by
  refine (dats m 0 c).arrAt_eq_of_covers 9 _ (by decide +kernel) fun t hf y => ?_
  blk_simp
  rw [after0_9]
  idx_vars y
  have e0 : (((cfg0.win 9).blk t).view.emb (ix2 y0 y1) : S16384x1024.Idx) = ix2 (rowOf t y0) y1 := by blk_ext [idx t]
  exact (out9_at _ _ _ _ y0 y1).trans ((proj_main m c t y0 _).trans (congrArg (val9 m c) e0).symm)

/-- What output 6 holds. -/
def val10 (c : Dev nD) (i : S16384x1024.Idx) : EReal := mainAt (X m c) (G m c) (WM m c) (i 0) ⟨5120 + (i 1).val, by have : (i 1).val < 1024 := (i 1).isLt; omega⟩

theorem final10 (c : Dev nD) : (dats m 0 c).arrAt 10 (cfgs 0).N = val10 m c := by
  refine (dats m 0 c).arrAt_eq_of_covers 10 _ (by decide +kernel) fun t hf y => ?_
  blk_simp
  rw [after0_10]
  idx_vars y
  have e0 : (((cfg0.win 10).blk t).view.emb (ix2 y0 y1) : S16384x1024.Idx) = ix2 (rowOf t y0) y1 := by blk_ext [idx t]
  exact (out10_at _ _ _ _ y0 y1).trans ((proj_main m c t y0 _).trans (congrArg (val10 m c) e0).symm)

/-- What output 7 holds. -/
def val11 (c : Dev nD) (i : S16384x1024.Idx) : EReal := mainAt (X m c) (G m c) (WM m c) (i 0) ⟨1024 + (i 1).val, by have : (i 1).val < 1024 := (i 1).isLt; omega⟩

theorem final11 (c : Dev nD) : (dats m 0 c).arrAt 11 (cfgs 0).N = val11 m c := by
  refine (dats m 0 c).arrAt_eq_of_covers 11 _ (by decide +kernel) fun t hf y => ?_
  blk_simp
  rw [after0_11]
  idx_vars y
  have e0 : (((cfg0.win 11).blk t).view.emb (ix2 y0 y1) : S16384x1024.Idx) = ix2 (rowOf t y0) y1 := by blk_ext [idx t]
  exact (out11_at _ _ _ _ y0 y1).trans ((proj_main m c t y0 _).trans (congrArg (val11 m c) e0).symm)

/-- What output 8 holds. -/
def val12 (c : Dev nD) (i : S16384x1024.Idx) : EReal := mainAt (X m c) (G m c) (WM m c) (i 0) ⟨2048 + (i 1).val, by have : (i 1).val < 1024 := (i 1).isLt; omega⟩

theorem final12 (c : Dev nD) : (dats m 0 c).arrAt 12 (cfgs 0).N = val12 m c := by
  refine (dats m 0 c).arrAt_eq_of_covers 12 _ (by decide +kernel) fun t hf y => ?_
  blk_simp
  rw [after0_12]
  idx_vars y
  have e0 : (((cfg0.win 12).blk t).view.emb (ix2 y0 y1) : S16384x1024.Idx) = ix2 (rowOf t y0) y1 := by blk_ext [idx t]
  exact (out12_at _ _ _ _ y0 y1).trans ((proj_main m c t y0 _).trans (congrArg (val12 m c) e0).symm)

/-- What output 9 holds. -/
def val13 (c : Dev nD) (i : S16384x128.Idx) : EReal := gateAt (X m c) (G m c) (WF m c) (i 0) (i 1)

theorem final13 (c : Dev nD) : (dats m 0 c).arrAt 13 (cfgs 0).N = val13 m c := by
  refine (dats m 0 c).arrAt_eq_of_covers 13 _ (by decide +kernel) fun t hf y => ?_
  blk_simp
  rw [after0_13]
  idx_vars y
  have e0 : (((cfg0.win 13).blk t).view.emb (ix2 y0 y1) : S16384x128.Idx) = ix2 (rowOf t y0) y1 := by blk_ext [idx t]
  exact (out13_at _ _ _ _ y0 y1).trans ((proj_gate m c t y0 y1).trans (congrArg (val13 m c) e0).symm)

end Cert.InpIdeal.Value

namespace Cert.InpRefIdeal.Value
open Cert.InpRefIdeal Cert.InpRefIdeal.Gen Cert.InpRefIdeal.Read Cert.InpIdeal.Value Cert.ConstMath

variable (x : FVec Ideal S16384x2048 .f32) (g : FVec Ideal S2048 .f32) (w : FVec Ideal S2048x6144 .bf16) (f : FVec Ideal S2048x128 .bf16)

theorem z_at (r : Fin 16384) (k : Fin 6144) : val_main_v14 (F := Ideal) x g w (ix2 r k) = mainAt x g w r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, mainAt, proj, nrm]

theorem gate_ref_at (r : Fin 16384) (k : Fin 128) : val_main_v39 (F := Ideal) x g f (ix2 r k) = gateAt x g f r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v38, val_main_v39, gateAt, proj, nrm]

theorem ref4_at (r : Fin 16384) (k : Fin 1024) : val_main_v28 (F := Ideal) x g w (ix2 r k) = mainAt x g w r ⟨0 + k.val, by omega⟩ * invBoth := by
  rw [← z_at x g w]
  rw [← div_both]
  pointwise [val_main_v28, val_main_v15, val_main_v27, val_main_v26, val_main_v25, val_main_cst_3, val_main_v24, val_main_v23, val_main_v22, val_main_cst_2]

theorem ref5_at (r : Fin 16384) (k : Fin 1024) : val_main_v29 (F := Ideal) x g w (ix2 r k) = mainAt x g w r ⟨1024 + k.val, by omega⟩ := by
  rw [← z_at x g w]
  pointwise [val_main_v29, val_main_v16]

theorem ref6_at (r : Fin 16384) (k : Fin 1024) : val_main_v30 (F := Ideal) x g w (ix2 r k) = mainAt x g w r ⟨2048 + k.val, by omega⟩ := by
  rw [← z_at x g w]
  pointwise [val_main_v30, val_main_v17]

theorem ref7_at (r : Fin 16384) (k : Fin 512) : val_main_v34 (F := Ideal) x g w (ix2 r k) = mainAt x g w r ⟨3072 + k.val, by omega⟩ * invRoot := by
  rw [← z_at x g w]
  rw [← div_root]
  pointwise [val_main_v34, val_main_v18, val_main_v33, val_main_v32, val_main_v31, val_main_cst_4]

theorem ref8_at (r : Fin 16384) (k : Fin 512) : val_main_v35 (F := Ideal) x g w (ix2 r k) = mainAt x g w r ⟨3584 + k.val, by omega⟩ := by
  rw [← z_at x g w]
  pointwise [val_main_v35, val_main_v19]

theorem ref9_at (r : Fin 16384) (k : Fin 1024) : val_main_v36 (F := Ideal) x g w (ix2 r k) = mainAt x g w r ⟨4096 + k.val, by omega⟩ := by
  rw [← z_at x g w]
  pointwise [val_main_v36, val_main_v20]

theorem ref10_at (r : Fin 16384) (k : Fin 1024) : val_main_v37 (F := Ideal) x g w (ix2 r k) = mainAt x g w r ⟨5120 + k.val, by omega⟩ := by
  rw [← z_at x g w]
  pointwise [val_main_v37, val_main_v21]

theorem ref11_at (r : Fin 16384) (k : Fin 1024) : val_main_v16 (F := Ideal) x g w (ix2 r k) = mainAt x g w r ⟨1024 + k.val, by omega⟩ := by
  rw [← z_at x g w]
  pointwise [val_main_v16]

theorem ref12_at (r : Fin 16384) (k : Fin 1024) : val_main_v17 (F := Ideal) x g w (ix2 r k) = mainAt x g w r ⟨2048 + k.val, by omega⟩ := by
  rw [← z_at x g w]
  pointwise [val_main_v17]

end Cert.InpRefIdeal.Value
end
-- ==== Proof.InpClaim.lean ====
module

public import proofs.«01_k».proof.Defs
public import proofs.«01_k».proof.Proof.InpValue
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem inp_algebraic : Cert.algebraic_InpIdeal_InpRefIdeal (hInpIdeal := Cert.InpIdeal.Gen.facts)
    (hInpRefIdeal := Cert.InpRefIdeal.Gen.facts) := by
  pair_intro
  · run_from Cert.InpIdeal.Gen.run_main m g
  · refine (θ_run _ _ _).mono (fun r h c => ?_) (Cert.InpRefIdeal.Value.run m' g')
    obtain ⟨a0, a1, a2, a3⟩ := hagree c
    obtain ⟨r4, r5, r6, r7, r8, r9, r10, r11, r12, r13, hk⟩ := h c
    rw [a0, a1, a2] at r4 r5 r6 r7 r8 r9 r10 r11 r12
    rw [a0, a1, a3] at r13
    refine ⟨r4.trans ?_, r5.trans ?_, r6.trans ?_, r7.trans ?_, r8.trans ?_, r9.trans ?_, r10.trans ?_, r11.trans ?_,
      r12.trans ?_, r13.trans ?_, hk⟩
    · rw [Cert.InpIdeal.Value.final4 m c]; funext i; idx_vars i; exact Cert.InpRefIdeal.Value.ref4_at _ _ _ i0 i1
    · rw [Cert.InpIdeal.Value.final5 m c]; funext i; idx_vars i; exact Cert.InpRefIdeal.Value.ref5_at _ _ _ i0 i1
    · rw [Cert.InpIdeal.Value.final6 m c]; funext i; idx_vars i; exact Cert.InpRefIdeal.Value.ref6_at _ _ _ i0 i1
    · rw [Cert.InpIdeal.Value.final7 m c]; funext i; idx_vars i; exact Cert.InpRefIdeal.Value.ref7_at _ _ _ i0 i1
    · rw [Cert.InpIdeal.Value.final8 m c]; funext i; idx_vars i; exact Cert.InpRefIdeal.Value.ref8_at _ _ _ i0 i1
    · rw [Cert.InpIdeal.Value.final9 m c]; funext i; idx_vars i; exact Cert.InpRefIdeal.Value.ref9_at _ _ _ i0 i1
    · rw [Cert.InpIdeal.Value.final10 m c]; funext i; idx_vars i; exact Cert.InpRefIdeal.Value.ref10_at _ _ _ i0 i1
    · rw [Cert.InpIdeal.Value.final11 m c]; funext i; idx_vars i; exact Cert.InpRefIdeal.Value.ref11_at _ _ _ i0 i1
    · rw [Cert.InpIdeal.Value.final12 m c]; funext i; idx_vars i; exact Cert.InpRefIdeal.Value.ref12_at _ _ _ i0 i1
    · rw [Cert.InpIdeal.Value.final13 m c]; funext i; idx_vars i; exact Cert.InpRefIdeal.Value.gate_ref_at _ _ _ i0 i1

end Cert.Proof
end
-- ==== Proof.PlesValue.lean ====
module

public import proofs.«01_k».proof.Proof.Gen.PlesIdeal.Value
public import proofs.«01_k».proof.Proof.Gen.PlesRefIdeal.Run
public import proofs.«01_k».proof.Proof.Gen.PlesRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PlesIdeal.Value
open Cert.PlesIdeal Cert.PlesIdeal.Gen

variable (m : (ℓ : Loc nD τ sig) → Buf (Elt Ideal) ℓ)

theorem logistic_eq (x : EReal) : Ideal.logistic x = Ideal.div 1 (1 + Ideal.exp (-x)) := rfl

/-- A row over its root mean square, scaled. -/
def nrm (f g : Fin 2048 → EReal) (k : Fin 2048) : EReal :=
  f k * Ideal.rsqrt (Ideal.div (∑ l : Fin 2048, f l * f l) (Ideal.ofBits .f32 0x45000000#32) + Ideal.ofBits .f32 0x358637BD#32) * g k

/-- A row of the stream plus its gated embedding, before the last norm. -/
def gated (x : Fin 2048 → EReal) (p : Fin 256 → EReal) (wp : Fin 256 → Fin 2048 → EReal) (gp gg : Fin 2048 → EReal)
    (wg : Fin 2048 → Fin 2048 → EReal) (k : Fin 2048) : EReal :=
  x k + Ideal.logistic (∑ q : Fin 2048, nrm x gg q * wg q k) * nrm (fun j => ∑ l : Fin 256, p l * wp l j) gp k

theorem gated_at (x : FVec Ideal S512x2048 .f32) (p : FVec Ideal S512x256 .f32) (wp : FVec Ideal S256x2048 .bf16)
    (gp gg : FVec Ideal S1x2048 .f32) (wg : FVec Ideal S2048x2048 .bf16) (r : Fin 512) (k : Fin 2048) :
    k0_pay2 (F := Ideal) x p wp gp gg wg (ix2 r k) = gated (fun q => x (ix2 r q)) (fun l => p (ix2 r l)) (fun l q => wp (ix2 l q))
      (fun q => gp (ix2 0 q)) (fun q => gg (ix2 0 q)) (fun q j => wg (ix2 q j)) k := by
  pointwise [k0_pay2, gated, nrm]

theorem norm_at (x : FVec Ideal S512x2048 .f32) (g : FVec Ideal S1x2048 .f32) (r : Fin 512) (k : Fin 2048) :
    k0_pay1 (F := Ideal) x g (ix2 r k) = nrm (fun q => x (ix2 r q)) (fun q => g (ix2 0 q)) k := by
  pointwise [k0_pay1, nrm]

theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] :=
  (by decide +kernel : ∀ t : Fin grid0.N, _)

abbrev X (c : Dev nD) : FVec Ideal S512x2048 .f32 := m ((c : Thread nD τ).loc main_arg0)
abbrev P (c : Dev nD) : FVec Ideal S512x256 .f32 := m ((c : Thread nD τ).loc main_arg1)
abbrev WP (c : Dev nD) : FVec Ideal S256x2048 .bf16 := m ((c : Thread nD τ).loc main_arg2)
abbrev GP (c : Dev nD) : FVec Ideal S2048 .f32 := m ((c : Thread nD τ).loc main_arg3)
abbrev GG (c : Dev nD) : FVec Ideal S2048 .f32 := m ((c : Thread nD τ).loc main_arg4)
abbrev WG (c : Dev nD) : FVec Ideal S2048x2048 .bf16 := m ((c : Thread nD τ).loc main_arg5)
abbrev GF (c : Dev nD) : FVec Ideal S2048 .f32 := m ((c : Thread nD τ).loc main_arg6)

/-- The whole call at row `r`, column `k`. -/
def layer (x : FVec Ideal S512x2048 .f32) (p : FVec Ideal S512x256 .f32) (wp : FVec Ideal S256x2048 .bf16)
    (gp gg : FVec Ideal S2048 .f32) (wg : FVec Ideal S2048x2048 .bf16) (gf : FVec Ideal S2048 .f32) (r : Fin 512)
    (k : Fin 2048) : EReal :=
  nrm (gated (fun q => x (ix2 r q)) (fun l => p (ix2 r l)) (fun l q => wp (ix2 l q))
      (fun q => gp (ix1 q)) (fun q => gg (ix1 q)) (fun q j => wg (ix2 q j))) (fun q => gf (ix1 q)) k

theorem lt_N (t : Fin cfg0.N) : t.val < 1 := lt_of_lt_of_eq t.isLt N_0

abbrev rowOf (t : Fin cfg0.N) (a : Fin 512) : Fin 512 := ⟨t.val * 512 + a.val, by have := lt_N t; omega⟩

theorem gain_at (c : Dev nD) (t : Fin cfg0.N) (k : Fin 2048) :
    (show FVec Ideal S1x2048 .f32 from iblk m c 3 t) (ix2 0 k) = GP m c (ix1 k)
    ∧ (show FVec Ideal S1x2048 .f32 from iblk m c 4 t) (ix2 0 k) = GG m c (ix1 k)
    ∧ (show FVec Ideal S1x2048 .f32 from iblk m c 6 t) (ix2 0 k) = GF m c (ix1 k) := by
  refine ⟨?_, ?_, ?_⟩
  · blk_simp [iblk]
    entry_read
    have e : ((View.whole main_v0).slice (win0_3.rect t)).emb (ix2 0 k) = (ix2 0 k : S1x2048.Idx) := by blk_ext [idx t]
    exact (congrArg _ e).trans (by pointwise)
  · blk_simp [iblk]
    entry_read
    have e : ((View.whole main_v1).slice (win0_4.rect t)).emb (ix2 0 k) = (ix2 0 k : S1x2048.Idx) := by blk_ext [idx t]
    exact (congrArg _ e).trans (by pointwise)
  · blk_simp [iblk]
    entry_read
    have e : ((View.whole main_v2).slice (win0_6.rect t)).emb (ix2 0 k) = (ix2 0 k : S1x2048.Idx) := by blk_ext [idx t]
    exact (congrArg _ e).trans (by pointwise)

theorem final (c : Dev nD) : (dats m 0 c).arrAt 7 (cfgs 0).N
    = fun i : S512x2048.Idx => layer (X m c) (P m c) (WP m c) (GP m c) (GG m c) (WG m c) (GF m c) (i 0) (i 1) := by
  have hx : ∀ (t : Fin cfg0.N) (r : Fin 512) (k : Fin 2048),
      (show FVec Ideal S512x2048 .f32 from iblk m c 0 t) (ix2 r k) = X m c (ix2 (rowOf t r) k) := by
    intro t r k; blk_ext [iblk, V, idx t]
  have hp : ∀ (t : Fin cfg0.N) (r : Fin 512) (k : Fin 256),
      (show FVec Ideal S512x256 .f32 from iblk m c 1 t) (ix2 r k) = P m c (ix2 (rowOf t r) k) := by
    intro t r k; blk_ext [iblk, V, idx t]
  have hwp : ∀ (t : Fin cfg0.N) (r : Fin 256) (k : Fin 2048),
      (show FVec Ideal S256x2048 .bf16 from iblk m c 2 t) (ix2 r k) = WP m c (ix2 r k) := by
    intro t r k; blk_ext [iblk, V, idx t]
  have hwg : ∀ (t : Fin cfg0.N) (r : Fin 2048) (k : Fin 2048),
      (show FVec Ideal S2048x2048 .bf16 from iblk m c 5 t) (ix2 r k) = WG m c (ix2 r k) := by
    intro t r k; blk_ext [iblk, V, idx t]
  refine (dats m 0 c).arrAt_eq_of_covers 7 _ (by decide +kernel) fun t hf y => ?_
  blk_simp
  rw [after0_7]
  idx_vars y
  have e0 : (((cfg0.win 7).blk t).view.emb (ix2 y0 y1) : S512x2048.Idx) = ix2 (rowOf t y0) y1 := by
    blk_ext [idx t]
  refine Eq.trans ?_ (congrArg (fun i => layer (X m c) (P m c) (WP m c) (GP m c) (GG m c) (WG m c) (GF m c) (i 0) (i 1)) e0).symm
  unfold out0_7
  frame_out
  refine (norm_at _ _ y0 y1).trans ?_
  refine congrFun (congrArg₂ nrm (funext fun q => ?_) (funext fun q => (gain_at m c t q).2.2)) y1
  refine (gated_at _ _ _ _ _ _ y0 q).trans ?_
  exact congrFun (congr (congr (congr (congr (congrArg₂ gated (funext fun k => hx t y0 k) (funext fun k => hp t y0 k))
    (funext fun l => funext fun k => hwp t l k)) (funext fun k => (gain_at m c t k).1)) (funext fun k => (gain_at m c t k).2.1))
    (funext fun l => funext fun k => hwg t l k)) q

end Cert.PlesIdeal.Value

namespace Cert.PlesRefIdeal.Value
open Cert.PlesRefIdeal Cert.PlesRefIdeal.Gen Cert.PlesRefIdeal.Read

theorem ref_at (x : FVec Ideal S512x2048 .f32) (p : FVec Ideal S512x256 .f32) (wp : FVec Ideal S256x2048 .bf16)
    (gp gg : FVec Ideal S2048 .f32) (wg : FVec Ideal S2048x2048 .bf16) (gf : FVec Ideal S2048 .f32) (r : Fin 512)
    (k : Fin 2048) :
    val_main_v50 (F := Ideal) x p wp gp gg wg gf (ix2 r k) = Cert.PlesIdeal.Value.layer x p wp gp gg wg gf r k := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_v27, val_main_v28, val_main_v29, val_main_v30, val_main_v31, val_main_cst_5, val_main_v32, val_main_v33, val_main_cst_6, val_main_v34, val_main_v35, val_main_v36, val_main_v37, val_main_v38, val_main_cst_7, val_main_v39, val_main_v40, val_main_cst_8, val_main_v41, val_main_v42, val_main_cst_9, val_main_v43, val_main_v44, val_main_v45, val_main_v46, val_main_v47, val_main_v48, val_main_v49, val_main_v50, Cert.PlesIdeal.Value.layer, Cert.PlesIdeal.Value.gated, Cert.PlesIdeal.Value.nrm]
  simp only [Cert.PlesIdeal.Value.logistic_eq]

end Cert.PlesRefIdeal.Value
end
-- ==== Proof.PlesClaim.lean ====
module

public import proofs.«01_k».proof.Defs
public import proofs.«01_k».proof.Proof.PlesValue
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem ples_algebraic : Cert.algebraic_PlesIdeal_PlesRefIdeal (hPlesIdeal := Cert.PlesIdeal.Gen.facts)
    (hPlesRefIdeal := Cert.PlesRefIdeal.Gen.facts) := by
  pair_intro
  · run_from Cert.PlesIdeal.Gen.run_main m g
  · run_from Cert.PlesRefIdeal.Value.run m' g'
    rw [Cert.PlesRefIdeal.Read.val_main_v50_eq, Cert.PlesIdeal.Value.final m c]
    obtain ⟨a0, a1, a2, a3, a4, a5, a6⟩ := hagree c
    rw [a0, a1, a2, a3, a4, a5, a6]
    funext i
    idx_vars i
    exact Cert.PlesRefIdeal.Value.ref_at _ _ _ _ _ _ _ i0 i1

end Cert.Proof
end
-- ==== Proof.InpsValue.lean ====
module

public import proofs.«01_k».proof.Proof.Gen.InpsIdeal.Value
public import proofs.«01_k».proof.Proof.ConstMath
public import proofs.«01_k».proof.Proof.Gen.InpsRefIdeal.Run
public import proofs.«01_k».proof.Proof.Gen.InpsRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InpsIdeal.Value
open Cert.InpsIdeal Cert.InpsIdeal.Gen Cert.ConstMath

variable (m : (ℓ : Loc nD τ sig) → Buf (Elt Ideal) ℓ)

/-- A row over its root mean square, scaled. -/
def nrm (f g : Fin 2048 → EReal) (k : Fin 2048) : EReal :=
  f k * Ideal.rsqrt (Ideal.div (∑ l : Fin 2048, f l * f l) (Ideal.ofBits .f32 0x45000000#32) + Ideal.ofBits .f32 0x358637BD#32) * g k

/-- A normalised row against one column of weights. -/
def proj (f g w : Fin 2048 → EReal) : EReal := ∑ q : Fin 2048, nrm f g q * w q

abbrev X (c : Dev nD) : FVec Ideal S512x2048 .f32 := m ((c : Thread nD τ).loc main_arg0)
abbrev G (c : Dev nD) : FVec Ideal S2048 .f32 := m ((c : Thread nD τ).loc main_arg1)
abbrev WM (c : Dev nD) : FVec Ideal S2048x6144 .bf16 := m ((c : Thread nD τ).loc main_arg2)
abbrev WF (c : Dev nD) : FVec Ideal S2048x128 .bf16 := m ((c : Thread nD τ).loc main_arg3)

/-- Row `r` of the stream against column `k` of the main weights. -/
def mainAt (x : FVec Ideal S512x2048 .f32) (g : FVec Ideal S2048 .f32) (w : FVec Ideal S2048x6144 .bf16) (r : Fin 512)
    (k : Fin 6144) : EReal :=
  proj (fun l => x (ix2 r l)) (fun l => g (ix1 l)) (fun q => w (ix2 q k))

/-- Row `r` of the stream against column `k` of the gates' weights. -/
def gateAt (x : FVec Ideal S512x2048 .f32) (g : FVec Ideal S2048 .f32) (w : FVec Ideal S2048x128 .bf16) (r : Fin 512)
    (k : Fin 128) : EReal :=
  proj (fun l => x (ix2 r l)) (fun l => g (ix1 l)) (fun q => w (ix2 q k))

theorem idx : ∀ t : Fin cfg0.N, win0_0.index t = ![t.val, 0] ∧ win0_1.index t = ![0, 0]
    ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem lt_N (t : Fin cfg0.N) : t.val < 2 := lt_of_lt_of_eq t.isLt N_0

abbrev rowOf (t : Fin cfg0.N) (a : Fin 256) : Fin 512 := ⟨t.val * 256 + a.val, by have := lt_N t; omega⟩

theorem rows_at (c : Dev nD) (t : Fin cfg0.N) (r : Fin 256) :
    (fun l => (show FVec Ideal S256x2048 .f32 from iblk m c 0 t) (ix2 r l)) = fun l => X m c (ix2 (rowOf t r) l) := by
  funext l; blk_ext [iblk, V, idx t]

theorem gain_at (c : Dev nD) (t : Fin cfg0.N) :
    (fun k => (show FVec Ideal S1x2048 .f32 from iblk m c 1 t) (ix2 0 k)) = fun k => G m c (ix1 k) := by
  funext k
  blk_simp [iblk]
  entry_read
  have e : ((View.whole main_v0).slice (win0_1.rect t)).emb (ix2 0 k) = (ix2 0 k : S1x2048.Idx) := by blk_ext [idx t]
  exact (congrArg _ e).trans (by pointwise)

theorem main_at (c : Dev nD) (t : Fin cfg0.N) (k : Fin 6144) :
    (fun q => (show FVec Ideal S2048x6144 .bf16 from iblk m c 2 t) (ix2 q k)) = fun q => WM m c (ix2 q k) := by
  funext q; blk_ext [iblk, V, idx t]

theorem gate_at (c : Dev nD) (t : Fin cfg0.N) (k : Fin 128) :
    (fun q => (show FVec Ideal S2048x128 .bf16 from iblk m c 3 t) (ix2 q k)) = fun q => WF m c (ix2 q k) := by
  funext q; blk_ext [iblk, V, idx t]

theorem proj_main (c : Dev nD) (t : Fin cfg0.N) (r : Fin 256) (k : Fin 6144) :
    proj (fun l => (show FVec Ideal S256x2048 .f32 from iblk m c 0 t) (ix2 r l))
      (fun l => (show FVec Ideal S1x2048 .f32 from iblk m c 1 t) (ix2 0 l))
      (fun q => (show FVec Ideal S2048x6144 .bf16 from iblk m c 2 t) (ix2 q k)) = mainAt (X m c) (G m c) (WM m c) (rowOf t r) k := by
  rw [rows_at, gain_at, main_at, mainAt]

theorem proj_gate (c : Dev nD) (t : Fin cfg0.N) (r : Fin 256) (k : Fin 128) :
    proj (fun l => (show FVec Ideal S256x2048 .f32 from iblk m c 0 t) (ix2 r l))
      (fun l => (show FVec Ideal S1x2048 .f32 from iblk m c 1 t) (ix2 0 l))
      (fun q => (show FVec Ideal S2048x128 .bf16 from iblk m c 3 t) (ix2 q k)) = gateAt (X m c) (G m c) (WF m c) (rowOf t r) k := by
  rw [rows_at, gain_at, gate_at, gateAt]

variable (x : FVec Ideal S256x2048 .f32) (g : FVec Ideal S1x2048 .f32) (w : FVec Ideal S2048x6144 .bf16) (f : FVec Ideal S2048x128 .bf16)

theorem out4_at (r : Fin 256) (k : Fin 1024) :
    out0_4 (F := Ideal) x g w f (ix2 r k) = proj (fun l => x (ix2 r l)) (fun l => g (ix2 0 l)) (fun q => w (ix2 q ⟨0 + k.val, by omega⟩)) * invBoth := by
  unfold out0_4
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
    rfl
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    rfl

theorem out5_at (r : Fin 256) (k : Fin 1024) :
    out0_5 (F := Ideal) x g w f (ix2 r k) = proj (fun l => x (ix2 r l)) (fun l => g (ix2 0 l)) (fun q => w (ix2 q ⟨1024 + k.val, by omega⟩)) := by
  unfold out0_5
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out6_at (r : Fin 256) (k : Fin 1024) :
    out0_6 (F := Ideal) x g w f (ix2 r k) = proj (fun l => x (ix2 r l)) (fun l => g (ix2 0 l)) (fun q => w (ix2 q ⟨2048 + k.val, by omega⟩)) := by
  unfold out0_6
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out7_at (r : Fin 256) (k : Fin 512) :
    out0_7 (F := Ideal) x g w f (ix2 r k) = proj (fun l => x (ix2 r l)) (fun l => g (ix2 0 l)) (fun q => w (ix2 q ⟨3072 + k.val, by omega⟩)) * invRoot := by
  unfold out0_7
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
  rfl

theorem out8_at (r : Fin 256) (k : Fin 512) :
    out0_8 (F := Ideal) x g w f (ix2 r k) = proj (fun l => x (ix2 r l)) (fun l => g (ix2 0 l)) (fun q => w (ix2 q ⟨3584 + k.val, by omega⟩)) := by
  unfold out0_8
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out9_at (r : Fin 256) (k : Fin 1024) :
    out0_9 (F := Ideal) x g w f (ix2 r k) = proj (fun l => x (ix2 r l)) (fun l => g (ix2 0 l)) (fun q => w (ix2 q ⟨4096 + k.val, by omega⟩)) := by
  unfold out0_9
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out10_at (r : Fin 256) (k : Fin 1024) :
    out0_10 (F := Ideal) x g w f (ix2 r k) = proj (fun l => x (ix2 r l)) (fun l => g (ix2 0 l)) (fun q => w (ix2 q ⟨5120 + k.val, by omega⟩)) := by
  unfold out0_10
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out11_at (r : Fin 256) (k : Fin 1024) :
    out0_11 (F := Ideal) x g w f (ix2 r k) = proj (fun l => x (ix2 r l)) (fun l => g (ix2 0 l)) (fun q => w (ix2 q ⟨1024 + k.val, by omega⟩)) := by
  unfold out0_11
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out12_at (r : Fin 256) (k : Fin 1024) :
    out0_12 (F := Ideal) x g w f (ix2 r k) = proj (fun l => x (ix2 r l)) (fun l => g (ix2 0 l)) (fun q => w (ix2 q ⟨2048 + k.val, by omega⟩)) := by
  unfold out0_12
  canon_tiles z h
  all_goals obtain rfl : r = z 0 := Fin.ext h0
  · obtain ⟨k, hk⟩ := k
    obtain rfl : k = 512 + (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]
    try simp only [← Nat.add_assoc, Nat.reduceAdd]
  · obtain ⟨k, hk⟩ := k
    obtain rfl : k = (z 1).val := h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

theorem out13_at (r : Fin 256) (k : Fin 128) :
    out0_13 (F := Ideal) x g w f (ix2 r k) = proj (fun l => x (ix2 r l)) (fun l => g (ix2 0 l)) (fun q => f (ix2 q k)) := by
  unfold out0_13
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, proj, nrm]

/-- What output 0 holds. -/
def val4 (c : Dev nD) (i : S512x1024.Idx) : EReal := mainAt (X m c) (G m c) (WM m c) (i 0) ⟨0 + (i 1).val, by have : (i 1).val < 1024 := (i 1).isLt; omega⟩ * invBoth

theorem final4 (c : Dev nD) : (dats m 0 c).arrAt 4 (cfgs 0).N = val4 m c := by
  refine (dats m 0 c).arrAt_eq_of_covers 4 _ (by decide +kernel) fun t hf y => ?_
  blk_simp
  rw [after0_4]
  idx_vars y
  have e0 : (((cfg0.win 4).blk t).view.emb (ix2 y0 y1) : S512x1024.Idx) = ix2 (rowOf t y0) y1 := by blk_ext [idx t]
  exact (out4_at _ _ _ _ y0 y1).trans ((congrArg (· * invBoth) (proj_main m c t y0 _)).trans (congrArg (val4 m c) e0).symm)

/-- What output 1 holds. -/
def val5 (c : Dev nD) (i : S512x1024.Idx) : EReal := mainAt (X m c) (G m c) (WM m c) (i 0) ⟨1024 + (i 1).val, by have : (i 1).val < 1024 := (i 1).isLt; omega⟩

theorem final5 (c : Dev nD) : (dats m 0 c).arrAt 5 (cfgs 0).N = val5 m c := by
  refine (dats m 0 c).arrAt_eq_of_covers 5 _ (by decide +kernel) fun t hf y => ?_
  blk_simp
  rw [after0_5]
  idx_vars y
  have e0 : (((cfg0.win 5).blk t).view.emb (ix2 y0 y1) : S512x1024.Idx) = ix2 (rowOf t y0) y1 := by blk_ext [idx t]
  exact (out5_at _ _ _ _ y0 y1).trans ((proj_main m c t y0 _).trans (congrArg (val5 m c) e0).symm)

/-- What output 2 holds. -/
def val6 (c : Dev nD) (i : S512x1024.Idx) : EReal := mainAt (X m c) (G m c) (WM m c) (i 0) ⟨2048 + (i 1).val, by have : (i 1).val < 1024 := (i 1).isLt; omega⟩

theorem final6 (c : Dev nD) : (dats m 0 c).arrAt 6 (cfgs 0).N = val6 m c := by
  refine (dats m 0 c).arrAt_eq_of_covers 6 _ (by decide +kernel) fun t hf y => ?_
  blk_simp
  rw [after0_6]
  idx_vars y
  have e0 : (((cfg0.win 6).blk t).view.emb (ix2 y0 y1) : S512x1024.Idx) = ix2 (rowOf t y0) y1 := by blk_ext [idx t]
  exact (out6_at _ _ _ _ y0 y1).trans ((proj_main m c t y0 _).trans (congrArg (val6 m c) e0).symm)

/-- What output 3 holds. -/
def val7 (c : Dev nD) (i : S512x512.Idx) : EReal := mainAt (X m c) (G m c) (WM m c) (i 0) ⟨3072 + (i 1).val, by have : (i 1).val < 512 := (i 1).isLt; omega⟩ * invRoot

theorem final7 (c : Dev nD) : (dats m 0 c).arrAt 7 (cfgs 0).N = val7 m c := by
  refine (dats m 0 c).arrAt_eq_of_covers 7 _ (by decide +kernel) fun t hf y => ?_
  blk_simp
  rw [after0_7]
  idx_vars y
  have e0 : (((cfg0.win 7).blk t).view.emb (ix2 y0 y1) : S512x512.Idx) = ix2 (rowOf t y0) y1 := by blk_ext [idx t]
  exact (out7_at _ _ _ _ y0 y1).trans ((congrArg (· * invRoot) (proj_main m c t y0 _)).trans (congrArg (val7 m c) e0).symm)

/-- What output 4 holds. -/
def val8 (c : Dev nD) (i : S512x512.Idx) : EReal := mainAt (X m c) (G m c) (WM m c) (i 0) ⟨3584 + (i 1).val, by have : (i 1).val < 512 := (i 1).isLt; omega⟩

theorem final8 (c : Dev nD) : (dats m 0 c).arrAt 8 (cfgs 0).N = val8 m c := by
  refine (dats m 0 c).arrAt_eq_of_covers 8 _ (by decide +kernel) fun t hf y => ?_
  blk_simp
  rw [after0_8]
  idx_vars y
  have e0 : (((cfg0.win 8).blk t).view.emb (ix2 y0 y1) : S512x512.Idx) = ix2 (rowOf t y0) y1 := by blk_ext [idx t]
  exact (out8_at _ _ _ _ y0 y1).trans ((proj_main m c t y0 _).trans (congrArg (val8 m c) e0).symm)

/-- What output 5 holds. -/
def val9 (c : Dev nD) (i : S512x1024.Idx) : EReal := mainAt (X m c) (G m c) (WM m c) (i 0) ⟨4096 + (i 1).val, by have : (i 1).val < 1024 := (i 1).isLt; omega⟩

theorem final9 (c : Dev nD) : (dats m 0 c).arrAt 9 (cfgs 0).N = val9 m c := by
  refine (dats m 0 c).arrAt_eq_of_covers 9 _ (by decide +kernel) fun t hf y => ?_
  blk_simp
  rw [after0_9]
  idx_vars y
  have e0 : (((cfg0.win 9).blk t).view.emb (ix2 y0 y1) : S512x1024.Idx) = ix2 (rowOf t y0) y1 := by blk_ext [idx t]
  exact (out9_at _ _ _ _ y0 y1).trans ((proj_main m c t y0 _).trans (congrArg (val9 m c) e0).symm)

/-- What output 6 holds. -/
def val10 (c : Dev nD) (i : S512x1024.Idx) : EReal := mainAt (X m c) (G m c) (WM m c) (i 0) ⟨5120 + (i 1).val, by have : (i 1).val < 1024 := (i 1).isLt; omega⟩

theorem final10 (c : Dev nD) : (dats m 0 c).arrAt 10 (cfgs 0).N = val10 m c := by
  refine (dats m 0 c).arrAt_eq_of_covers 10 _ (by decide +kernel) fun t hf y => ?_
  blk_simp
  rw [after0_10]
  idx_vars y
  have e0 : (((cfg0.win 10).blk t).view.emb (ix2 y0 y1) : S512x1024.Idx) = ix2 (rowOf t y0) y1 := by blk_ext [idx t]
  exact (out10_at _ _ _ _ y0 y1).trans ((proj_main m c t y0 _).trans (congrArg (val10 m c) e0).symm)

/-- What output 7 holds. -/
def val11 (c : Dev nD) (i : S512x1024.Idx) : EReal := mainAt (X m c) (G m c) (WM m c) (i 0) ⟨1024 + (i 1).val, by have : (i 1).val < 1024 := (i 1).isLt; omega⟩

theorem final11 (c : Dev nD) : (dats m 0 c).arrAt 11 (cfgs 0).N = val11 m c := by
  refine (dats m 0 c).arrAt_eq_of_covers 11 _ (by decide +kernel) fun t hf y => ?_
  blk_simp
  rw [after0_11]
  idx_vars y
  have e0 : (((cfg0.win 11).blk t).view.emb (ix2 y0 y1) : S512x1024.Idx) = ix2 (rowOf t y0) y1 := by blk_ext [idx t]
  exact (out11_at _ _ _ _ y0 y1).trans ((proj_main m c t y0 _).trans (congrArg (val11 m c) e0).symm)

/-- What output 8 holds. -/
def val12 (c : Dev nD) (i : S512x1024.Idx) : EReal := mainAt (X m c) (G m c) (WM m c) (i 0) ⟨2048 + (i 1).val, by have : (i 1).val < 1024 := (i 1).isLt; omega⟩

theorem final12 (c : Dev nD) : (dats m 0 c).arrAt 12 (cfgs 0).N = val12 m c := by
  refine (dats m 0 c).arrAt_eq_of_covers 12 _ (by decide +kernel) fun t hf y => ?_
  blk_simp
  rw [after0_12]
  idx_vars y
  have e0 : (((cfg0.win 12).blk t).view.emb (ix2 y0 y1) : S512x1024.Idx) = ix2 (rowOf t y0) y1 := by blk_ext [idx t]
  exact (out12_at _ _ _ _ y0 y1).trans ((proj_main m c t y0 _).trans (congrArg (val12 m c) e0).symm)

/-- What output 9 holds. -/
def val13 (c : Dev nD) (i : S512x128.Idx) : EReal := gateAt (X m c) (G m c) (WF m c) (i 0) (i 1)

theorem final13 (c : Dev nD) : (dats m 0 c).arrAt 13 (cfgs 0).N = val13 m c := by
  refine (dats m 0 c).arrAt_eq_of_covers 13 _ (by decide +kernel) fun t hf y => ?_
  blk_simp
  rw [after0_13]
  idx_vars y
  have e0 : (((cfg0.win 13).blk t).view.emb (ix2 y0 y1) : S512x128.Idx) = ix2 (rowOf t y0) y1 := by blk_ext [idx t]
  exact (out13_at _ _ _ _ y0 y1).trans ((proj_gate m c t y0 y1).trans (congrArg (val13 m c) e0).symm)

end Cert.InpsIdeal.Value

namespace Cert.InpsRefIdeal.Value
open Cert.InpsRefIdeal Cert.InpsRefIdeal.Gen Cert.InpsRefIdeal.Read Cert.InpsIdeal.Value Cert.ConstMath

variable (x : FVec Ideal S512x2048 .f32) (g : FVec Ideal S2048 .f32) (w : FVec Ideal S2048x6144 .bf16) (f : FVec Ideal S2048x128 .bf16)

theorem z_at (r : Fin 512) (k : Fin 6144) : val_main_v14 (F := Ideal) x g w (ix2 r k) = mainAt x g w r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, mainAt, proj, nrm]

theorem gate_ref_at (r : Fin 512) (k : Fin 128) : val_main_v39 (F := Ideal) x g f (ix2 r k) = gateAt x g f r k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v38, val_main_v39, gateAt, proj, nrm]

theorem ref4_at (r : Fin 512) (k : Fin 1024) : val_main_v28 (F := Ideal) x g w (ix2 r k) = mainAt x g w r ⟨0 + k.val, by omega⟩ * invBoth := by
  rw [← z_at x g w]
  rw [← div_both]
  pointwise [val_main_v28, val_main_v15, val_main_v27, val_main_v26, val_main_v25, val_main_cst_3, val_main_v24, val_main_v23, val_main_v22, val_main_cst_2]

theorem ref5_at (r : Fin 512) (k : Fin 1024) : val_main_v29 (F := Ideal) x g w (ix2 r k) = mainAt x g w r ⟨1024 + k.val, by omega⟩ := by
  rw [← z_at x g w]
  pointwise [val_main_v29, val_main_v16]

theorem ref6_at (r : Fin 512) (k : Fin 1024) : val_main_v30 (F := Ideal) x g w (ix2 r k) = mainAt x g w r ⟨2048 + k.val, by omega⟩ := by
  rw [← z_at x g w]
  pointwise [val_main_v30, val_main_v17]

theorem ref7_at (r : Fin 512) (k : Fin 512) : val_main_v34 (F := Ideal) x g w (ix2 r k) = mainAt x g w r ⟨3072 + k.val, by omega⟩ * invRoot := by
  rw [← z_at x g w]
  rw [← div_root]
  pointwise [val_main_v34, val_main_v18, val_main_v33, val_main_v32, val_main_v31, val_main_cst_4]

theorem ref8_at (r : Fin 512) (k : Fin 512) : val_main_v35 (F := Ideal) x g w (ix2 r k) = mainAt x g w r ⟨3584 + k.val, by omega⟩ := by
  rw [← z_at x g w]
  pointwise [val_main_v35, val_main_v19]

theorem ref9_at (r : Fin 512) (k : Fin 1024) : val_main_v36 (F := Ideal) x g w (ix2 r k) = mainAt x g w r ⟨4096 + k.val, by omega⟩ := by
  rw [← z_at x g w]
  pointwise [val_main_v36, val_main_v20]

theorem ref10_at (r : Fin 512) (k : Fin 1024) : val_main_v37 (F := Ideal) x g w (ix2 r k) = mainAt x g w r ⟨5120 + k.val, by omega⟩ := by
  rw [← z_at x g w]
  pointwise [val_main_v37, val_main_v21]

theorem ref11_at (r : Fin 512) (k : Fin 1024) : val_main_v16 (F := Ideal) x g w (ix2 r k) = mainAt x g w r ⟨1024 + k.val, by omega⟩ := by
  rw [← z_at x g w]
  pointwise [val_main_v16]

theorem ref12_at (r : Fin 512) (k : Fin 1024) : val_main_v17 (F := Ideal) x g w (ix2 r k) = mainAt x g w r ⟨2048 + k.val, by omega⟩ := by
  rw [← z_at x g w]
  pointwise [val_main_v17]

end Cert.InpsRefIdeal.Value
end
-- ==== Proof.InpsClaim.lean ====
module

public import proofs.«01_k».proof.Defs
public import proofs.«01_k».proof.Proof.InpsValue
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem inps_algebraic : Cert.algebraic_InpsIdeal_InpsRefIdeal (hInpsIdeal := Cert.InpsIdeal.Gen.facts)
    (hInpsRefIdeal := Cert.InpsRefIdeal.Gen.facts) := by
  pair_intro
  · run_from Cert.InpsIdeal.Gen.run_main m g
  · refine (θ_run _ _ _).mono (fun r h c => ?_) (Cert.InpsRefIdeal.Value.run m' g')
    obtain ⟨a0, a1, a2, a3⟩ := hagree c
    obtain ⟨r4, r5, r6, r7, r8, r9, r10, r11, r12, r13, hk⟩ := h c
    rw [a0, a1, a2] at r4 r5 r6 r7 r8 r9 r10 r11 r12
    rw [a0, a1, a3] at r13
    refine ⟨r4.trans ?_, r5.trans ?_, r6.trans ?_, r7.trans ?_, r8.trans ?_, r9.trans ?_, r10.trans ?_, r11.trans ?_,
      r12.trans ?_, r13.trans ?_, hk⟩
    · rw [Cert.InpsIdeal.Value.final4 m c]; funext i; idx_vars i; exact Cert.InpsRefIdeal.Value.ref4_at _ _ _ i0 i1
    · rw [Cert.InpsIdeal.Value.final5 m c]; funext i; idx_vars i; exact Cert.InpsRefIdeal.Value.ref5_at _ _ _ i0 i1
    · rw [Cert.InpsIdeal.Value.final6 m c]; funext i; idx_vars i; exact Cert.InpsRefIdeal.Value.ref6_at _ _ _ i0 i1
    · rw [Cert.InpsIdeal.Value.final7 m c]; funext i; idx_vars i; exact Cert.InpsRefIdeal.Value.ref7_at _ _ _ i0 i1
    · rw [Cert.InpsIdeal.Value.final8 m c]; funext i; idx_vars i; exact Cert.InpsRefIdeal.Value.ref8_at _ _ _ i0 i1
    · rw [Cert.InpsIdeal.Value.final9 m c]; funext i; idx_vars i; exact Cert.InpsRefIdeal.Value.ref9_at _ _ _ i0 i1
    · rw [Cert.InpsIdeal.Value.final10 m c]; funext i; idx_vars i; exact Cert.InpsRefIdeal.Value.ref10_at _ _ _ i0 i1
    · rw [Cert.InpsIdeal.Value.final11 m c]; funext i; idx_vars i; exact Cert.InpsRefIdeal.Value.ref11_at _ _ _ i0 i1
    · rw [Cert.InpsIdeal.Value.final12 m c]; funext i; idx_vars i; exact Cert.InpsRefIdeal.Value.ref12_at _ _ _ i0 i1
    · rw [Cert.InpsIdeal.Value.final13 m c]; funext i; idx_vars i; exact Cert.InpsRefIdeal.Value.gate_ref_at _ _ _ i0 i1

end Cert.Proof
end
-- ==== Proof.AttnStep.lean ====
module

public import proofs.«01_k».proof.Proof.AttnI.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! What one block of keys does to one head's running maximum, sum and accumulator, for a block of any width. -/

/-- The operations of a block that depend on its width: a row's maximum and sum, on every lane; a lane vector
    repeated along the row; and two heads' weights times the two heads' values. -/
structure Wide (W : ℕ) where
  rowMax : FVec Ideal ⟨2, ![256, W]⟩ .f32 → FVec Ideal S256x128 .f32
  rowSum : FVec Ideal ⟨2, ![256, W]⟩ .f32 → FVec Ideal S256x128 .f32
  spread : FVec Ideal S256x128 .f32 → FVec Ideal ⟨2, ![256, W]⟩ .f32
  pv : FVec Ideal ⟨2, ![256, W]⟩ .f32 → FVec Ideal ⟨2, ![256, W]⟩ .f32 → Vec Ideal ⟨2, ![W, 256]⟩ .bf16 → FVec Ideal S512x256 .f32

/-- One head's slab of a scratch array, as a matrix, -/
def up (x : Vec Ideal S1x256x128 .f32) : FVec Ideal S256x128 .f32 := shapeCast S256x128 x shapeCasts_S1x256x128_S256x128
/-- and back. -/
def dn (x : FVec Ideal S256x128 .f32) : FVec Ideal S1x256x128 .f32 := shapeCast S1x256x128 x shapeCasts_S256x128_S1x256x128

section
variable {W : ℕ} (w : Wide W) (t : FVec Ideal ⟨2, ![256, W]⟩ .f32) (m c : Vec Ideal S1x256x128 .f32)

/-- The new running maximum. -/
def nM : FVec Ideal S256x128 .f32 := maximumf (up m) (addf (w.rowMax t) (up c))
/-- The factor the old sums are scaled by. -/
def nF : FVec Ideal S256x128 .f32 := exp2 (subf (up m) (nM w t m c))
/-- The block's weights. -/
def nP : FVec Ideal ⟨2, ![256, W]⟩ .f32 := exp2 (addf t (w.spread (subf (up c) (nM w t m c))))
/-- The new running sum. -/
def nL (l : Vec Ideal S1x256x128 .f32) : FVec Ideal S256x128 .f32 :=
  addf (mulf (nF w t m c) (up l)) (w.rowSum (nP w t m c))
end

section
variable {W : ℕ} (w : Wide W) (t t' : FVec Ideal ⟨2, ![256, W]⟩ .f32) (m c m' c' : Vec Ideal S1x256x128 .f32)
  (v : Vec Ideal ⟨2, ![W, 256]⟩ .bf16)

/-- The two heads' weighted values. -/
def nV : FVec Ideal S512x256 .f32 := w.pv (nP w t m c) (nP w t' m' c') v
/-- The even head's new accumulator, -/
def nA (a : Vec Ideal S1x256x128 .f32) : FVec Ideal S256x128 .f32 :=
  addf (mulf (nF w t m c) (up a)) (extractStridedSlice S256x128 ![0, 0] (nV w t t' m c m' c' v) slices_S512x256_o0_0_S256x128)
/-- and the odd head's. -/
def nA' (a : Vec Ideal S1x256x128 .f32) : FVec Ideal S256x128 .f32 :=
  addf (mulf (nF w t' m' c') (up a)) (extractStridedSlice S256x128 ![256, 128] (nV w t t' m c m' c' v) slices_S512x256_o256_128_S256x128)
end

/-! The three widths. -/

def wide1024 : Wide 1024 where
  rowMax t := broadcastTo S256x128 (shapeCast S256x1 (multiReduction .maximumf [1] S256 t 0xFF800000#32 reduces_S256x1024_S256 (.inl rfl) rfl : FVec Ideal S256 .f32) shapeCasts_S256_S256x1) broadcasts_S256x1_S256x128
  rowSum t := broadcastTo S256x128 (shapeCast S256x1 (multiReduction .add [1] S256 t 0x00000000#32 reduces_S256x1024_S256 (.inl rfl) rfl : FVec Ideal S256 .f32) shapeCasts_S256_S256x1) broadcasts_S256x1_S256x128
  spread u := concatenate S256x1024 1 [⟨S256x128, u⟩, ⟨S256x128, u⟩, ⟨S256x128, u⟩, ⟨S256x128, u⟩, ⟨S256x128, u⟩, ⟨S256x128, u⟩, ⟨S256x128, u⟩, ⟨S256x128, u⟩] concatenates_S256x128_S256x128_S256x128_S256x128_S256x128_S256x128_S256x128_S256x128_S256x1024_d1
  pv p p' v := matmul (φ₁ := .bf16) (φ₂ := .bf16) dot_S512x1024_S1024x256_S512x256_1_0_0_1_n_n none (concatenate S512x1024 0 [⟨S256x1024, truncf .bf16 p bitsLt_bf16_f32⟩, ⟨S256x1024, truncf .bf16 p' bitsLt_bf16_f32⟩] concatenates_S256x1024_S256x1024_S512x1024_d0) v (constant S512x256 .f32 0x00000000#32)

def wide512 : Wide 512 where
  rowMax t := broadcastTo S256x128 (shapeCast S256x1 (multiReduction .maximumf [1] S256 t 0xFF800000#32 reduces_S256x512_S256 (.inl rfl) rfl : FVec Ideal S256 .f32) shapeCasts_S256_S256x1) broadcasts_S256x1_S256x128
  rowSum t := broadcastTo S256x128 (shapeCast S256x1 (multiReduction .add [1] S256 t 0x00000000#32 reduces_S256x512_S256 (.inl rfl) rfl : FVec Ideal S256 .f32) shapeCasts_S256_S256x1) broadcasts_S256x1_S256x128
  spread u := concatenate S256x512 1 [⟨S256x128, u⟩, ⟨S256x128, u⟩, ⟨S256x128, u⟩, ⟨S256x128, u⟩] concatenates_S256x128_S256x128_S256x128_S256x128_S256x512_d1
  pv p p' v := matmul (φ₁ := .bf16) (φ₂ := .bf16) dot_S512x512_S512x256_S512x256_1_0_0_1_n_n none (concatenate S512x512 0 [⟨S256x512, truncf .bf16 p bitsLt_bf16_f32⟩, ⟨S256x512, truncf .bf16 p' bitsLt_bf16_f32⟩] concatenates_S256x512_S256x512_S512x512_d0) v (constant S512x256 .f32 0x00000000#32)

def wide256 : Wide 256 where
  rowMax t := broadcastTo S256x128 (shapeCast S256x1 (multiReduction .maximumf [1] S256 t 0xFF800000#32 reduces_S256x256_S256 (.inl rfl) rfl : FVec Ideal S256 .f32) shapeCasts_S256_S256x1) broadcasts_S256x1_S256x128
  rowSum t := broadcastTo S256x128 (shapeCast S256x1 (multiReduction .add [1] S256 t 0x00000000#32 reduces_S256x256_S256 (.inl rfl) rfl : FVec Ideal S256 .f32) shapeCasts_S256_S256x1) broadcasts_S256x1_S256x128
  spread u := concatenate S256x256 1 [⟨S256x128, u⟩, ⟨S256x128, u⟩] concatenates_S256x128_S256x128_S256x256_d1
  pv p p' v := matmul (φ₁ := .bf16) (φ₂ := .bf16) dot_S512x256_S256x256_S512x256_1_0_0_1_n_n none (concatenate S512x256 0 [⟨S256x256, truncf .bf16 p bitsLt_bf16_f32⟩, ⟨S256x256, truncf .bf16 p' bitsLt_bf16_f32⟩] concatenates_S256x256_S256x256_S512x256_d0) v (constant S512x256 .f32 0x00000000#32)

/-! The scores of a block, before the query's own gate sum is added. -/

def tile1024 (q : Vec Ideal S256x128 .bf16) (k : Vec Ideal S1024x128 .bf16) (ct : Vec Ideal S1x1x1024 .f32) : FVec Ideal S256x1024 .f32 :=
  subf (matmul (φ₁ := .bf16) (φ₂ := .bf16) dot_S256x128_S1024x128_S256x1024_1_1_0_0_n_n none q k (constant S256x1024 .f32 0x00000000#32)) (broadcastTo S256x1024 (shapeCast S1x1024 ct shapeCasts_S1x1x1024_S1x1024) broadcasts_S1x1024_S256x1024)

def tile512 (q : Vec Ideal S256x128 .bf16) (k : Vec Ideal S512x128 .bf16) (ct : Vec Ideal S1x1x512 .f32) : FVec Ideal S256x512 .f32 :=
  subf (matmul (φ₁ := .bf16) (φ₂ := .bf16) dot_S256x128_S512x128_S256x512_1_1_0_0_n_n none q k (constant S256x512 .f32 0x00000000#32)) (broadcastTo S256x512 (shapeCast S1x512 ct shapeCasts_S1x1x512_S1x512) broadcasts_S1x512_S256x512)

def tile256 (q : Vec Ideal S256x128 .bf16) (k : Vec Ideal S256x128 .bf16) (ct : Vec Ideal S1x1x256 .f32) : FVec Ideal S256x256 .f32 :=
  subf (matmul (φ₁ := .bf16) (φ₂ := .bf16) dot_S256x128_S256x128_S256x256_1_1_0_0_n_n none q k (constant S256x256 .f32 0x00000000#32)) (broadcastTo S256x256 (shapeCast S1x256 ct shapeCasts_S1x1x256_S1x256) broadcasts_S1x256_S256x256)

/-- The last block of an odd query block: the keys after the query are masked out. -/
def diag512 (q : Vec Ideal S256x128 .bf16) (k : Vec Ideal S512x128 .bf16) (ct : Vec Ideal S1x1x512 .f32) : FVec Ideal S256x512 .f32 :=
  select (cmpi .sle (iota .tc S256x512 32 [1] iota_S256x512_d1_w32) (addi (iota .tc S256x512 32 [0] iota_S256x512_d0_w32) (broadcast S256x512 256#32)))
    (tile512 q k ct) (broadcast S256x512 (Named.named κ "mask" 0xF149F2CA#32 : Ideal .f32))

/-- The last block of an even query block. -/
def diag256 (q : Vec Ideal S256x128 .bf16) (k : Vec Ideal S256x128 .bf16) (ct : Vec Ideal S1x1x256 .f32) : FVec Ideal S256x256 .f32 :=
  select (cmpi .sle (iota .tc S256x256 32 [1] iota_S256x256_d1_w32) (addi (iota .tc S256x256 32 [0] iota_S256x256_d0_w32) (broadcast S256x256 0#32)))
    (tile256 q k ct) (broadcast S256x256 (Named.named κ "mask" 0xF149F2CA#32 : Ideal .f32))

/-! What they are, entry by entry. -/

/-- The operations of a block do what their names say. -/
structure Wide.Ok {W : ℕ} (w : Wide W) : Prop where
  rowMax : ∀ t r l, w.rowMax t (ix2 r l) = Finset.univ.fold max (⊥ : EReal) fun j : Fin W => t (ix2 r j)
  rowSum : ∀ t r l, w.rowSum t (ix2 r l) = ∑ j : Fin W, t (ix2 r j)
  spread : ∀ u r (g : EReal), (∀ l, u (ix2 r l) = g) → ∀ j, w.spread u (ix2 r j) = g
  pv₀ : ∀ p p' v (r : Fin 256) d, w.pv p p' v (ix2 (r.castAdd 256) d) = ∑ j : Fin W, p (ix2 r j) * v (ix2 j d)
  pv₁ : ∀ p p' v (r : Fin 256) d, w.pv p p' v (ix2 (r.natAdd 256) d) = ∑ j : Fin W, p' (ix2 r j) * v (ix2 j d)

/-- The reductions start from negative infinity. -/
theorem word_bot : Ideal.ofBits .f32 0xFF800000#32 = (⊥ : EReal) := by
  simp [Ideal.ofBits, Ideal.ieee]
/-- The mask constant stands for negative infinity. -/
theorem mask_bot : (Named.named κ "mask" 0xF149F2CA#32 : Ideal .f32) = (⊥ : EReal) := rfl

/-- A choice by the comparison of two small words is the choice by the comparison of their numbers. -/
theorem choice (a b c : ℕ) (h : a < 2 ^ 31) (h' : b + c < 2 ^ 31) (x y : EReal) :
    Scalar.select (IntOp.cmpi .sle (BitVec.ofNat 32 a) (IntOp.addi (BitVec.ofNat 32 b) (BitVec.ofNat 32 c))) x y = if a ≤ b + c then x else y := by
  have e : IntOp.addi (BitVec.ofNat 32 b) (BitVec.ofNat 32 c) = BitVec.ofNat 32 (b + c) := by
    simp [IntOp.addi, BitVec.ofNat_add]
  rw [e]; unfold Scalar.select
  have := WordCmp.cmpi_sle_ofNat_eq_one_iff (w := 32) (a := a) (b := b + c) h h'
  by_cases hc : a ≤ b + c <;> simp_all

theorem wide1024_ok : wide1024.Ok where
  rowMax t r l := by pointwise [wide1024]; rw [word_bot]
  rowSum t r l := by pointwise [wide1024]
  spread u r g h j := by pointwise [wide1024, h]; split_ifs <;> rfl
  pv₀ p p' v r d := by
    pointwise [wide1024]; exact Finset.sum_congr rfl fun j _ => by rw [dif_pos (by simp)]; rfl
  pv₁ p p' v r d := by
    pointwise [wide1024]; exact Finset.sum_congr rfl fun j _ => by rw [dif_neg (by simp)]; simp
theorem wide512_ok : wide512.Ok where
  rowMax t r l := by pointwise [wide512]; rw [word_bot]
  rowSum t r l := by pointwise [wide512]
  spread u r g h j := by pointwise [wide512, h]; split_ifs <;> rfl
  pv₀ p p' v r d := by
    pointwise [wide512]; exact Finset.sum_congr rfl fun j _ => by rw [dif_pos (by simp)]; rfl
  pv₁ p p' v r d := by
    pointwise [wide512]; exact Finset.sum_congr rfl fun j _ => by rw [dif_neg (by simp)]; simp
theorem wide256_ok : wide256.Ok where
  rowMax t r l := by pointwise [wide256]; rw [word_bot]
  rowSum t r l := by pointwise [wide256]
  spread u r g h j := by pointwise [wide256, h]; split_ifs <;> rfl
  pv₀ p p' v r d := by
    pointwise [wide256]; exact Finset.sum_congr rfl fun j _ => by rw [dif_pos (by simp)]; rfl
  pv₁ p p' v r d := by
    pointwise [wide256]; exact Finset.sum_congr rfl fun j _ => by rw [dif_neg (by simp)]; simp

theorem tile1024_at (q k ct) (r : Fin 256) (j : Fin 1024) :
    tile1024 q k ct (ix2 r j) = (∑ d : Fin 128, q (ix2 r d) * k (ix2 j d)) - ct (ix3 0 0 j) := by
  pointwise [tile1024]
theorem tile512_at (q k ct) (r : Fin 256) (j : Fin 512) :
    tile512 q k ct (ix2 r j) = (∑ d : Fin 128, q (ix2 r d) * k (ix2 j d)) - ct (ix3 0 0 j) := by
  pointwise [tile512]
theorem diag512_at (q k ct) (r : Fin 256) (j : Fin 512) :
    diag512 q k ct (ix2 r j) = if j.val ≤ r.val + 256 then (∑ d : Fin 128, q (ix2 r d) * k (ix2 j d)) - ct (ix3 0 0 j) else ⊥ := by
  pointwise [diag512, tile512]
  rw [mask_bot]; exact choice _ _ 256 (by omega) (by omega) _ _
theorem diag256_at (q k ct) (r j : Fin 256) :
    diag256 q k ct (ix2 r j) = if j.val ≤ r.val + 0 then (∑ d : Fin 128, q (ix2 r d) * k (ix2 j d)) - ct (ix3 0 0 j) else ⊥ := by
  pointwise [diag256, tile256]
  rw [mask_bot]; exact choice _ _ 0 (by omega) (by omega) _ _

section
variable {W : ℕ} {w : Wide W} (hw : w.Ok) (t : FVec Ideal ⟨2, ![256, W]⟩ .f32) (m c l : Vec Ideal S1x256x128 .f32) (r : Fin 256)

theorem up_at (x) (r : Fin 256) (l : Fin 128) : up x (ix2 r l) = x (ix3 0 r l) := by pointwise [up]
theorem dn_at (x) (r : Fin 256) (l : Fin 128) : dn x (ix3 0 r l) = x (ix2 r l) := by pointwise [dn]

include hw
theorem nM_at (i : Fin 128) : nM w t m c (ix2 r i) = max (m (ix3 0 r i)) ((Finset.univ.fold max (⊥ : EReal) fun j : Fin W => t (ix2 r j)) + c (ix3 0 r i)) := by
  rw [← hw.rowMax t r i, ← up_at m, ← up_at c]; rfl
omit hw in
theorem nF_at (i : Fin 128) : nF w t m c (ix2 r i) = Ideal.exp2 (m (ix3 0 r i) - nM w t m c (ix2 r i)) := by
  rw [← up_at m]; rfl
theorem nP_at (g M : EReal) (hc : ∀ i, c (ix3 0 r i) = g) (hM : ∀ i, nM w t m c (ix2 r i) = M) (j : Fin W) :
    nP w t m c (ix2 r j) = Ideal.exp2 (t (ix2 r j) + (g - M)) := by
  have := hw.spread (subf (up c) (nM w t m c)) r (g - M) (fun i => by rw [← hc i, ← hM i, ← up_at c]; rfl) j
  rw [← this]; rfl
theorem nL_at (i : Fin 128) : nL w t m c l (ix2 r i) = nF w t m c (ix2 r i) * l (ix3 0 r i) + ∑ j : Fin W, nP w t m c (ix2 r j) := by
  rw [← up_at l, ← hw.rowSum _ r i]; rfl

variable (t' : FVec Ideal ⟨2, ![256, W]⟩ .f32) (m' c' : Vec Ideal S1x256x128 .f32) (v : Vec Ideal ⟨2, ![W, 256]⟩ .bf16)
theorem nA_at (d : Fin 128) : nA w t t' m c m' c' v l (ix2 r d) = nF w t m c (ix2 r d) * l (ix3 0 r d)
    + ∑ j : Fin W, nP w t m c (ix2 r j) * v (ix2 j (d.castAdd 128)) := by
  rw [← hw.pv₀ _ (nP w t' m' c') v r]
  pointwise [nA, nV, up]
  rfl
theorem nA'_at (d : Fin 128) : nA' w t t' m c m' c' v l (ix2 r d) = nF w t' m' c' (ix2 r d) * l (ix3 0 r d)
    + ∑ j : Fin W, nP w t' m' c' (ix2 r j) * v (ix2 j (d.natAdd 128)) := by
  rw [← hw.pv₁ (nP w t m c) _ v r]
  pointwise [nA', nV, up]
  rfl
end

end Cert.AttnIdeal.Value

end
-- ==== Proof.AttnMath.lean ====
module

public import Idealize.ShloMosaic.Lib.Pointwise

@[expose] public section

noncomputable section

open Idealize.ShloMosaic

/-! A softmax in base two accumulated over blocks of keys, on the extended reals. -/

namespace Online

theorem fold_eq_sup {ι : Type*} (s : Finset ι) (f : ι → EReal) : s.fold max (⊥ : EReal) f = s.sup f := rfl

theorem exp2_bot : Ideal.exp2 ⊥ = 0 := rfl
theorem exp2_coe (x : ℝ) : Ideal.exp2 (x : EReal) = ((2 ^ x : ℝ) : EReal) := rfl

theorem coe_sum {ι : Type*} (s : Finset ι) (f : ι → ℝ) : ((∑ j ∈ s, f j : ℝ) : EReal) = ∑ j ∈ s, (f j : EReal) := by
  classical
  induction s using Finset.induction_on with
  | empty => simp
  | insert a s h ih => rw [Finset.sum_insert h, Finset.sum_insert h, EReal.coe_add, ih]

/-- A nonnegative real factor goes into a sum of extended reals. -/
theorem coe_mul_sum {ι : Type*} (s : Finset ι) (a : ℝ) (ha : 0 ≤ a) (f : ι → EReal) : (a : EReal) * ∑ j ∈ s, f j = ∑ j ∈ s, (a : EReal) * f j := by
  classical
  induction s using Finset.induction_on with
  | empty => simp
  | insert b s h ih => rw [Finset.sum_insert h, Finset.sum_insert h, ← ih, EReal.left_distrib_of_nonneg_of_ne_top (by exact_mod_cast ha) (EReal.coe_ne_top a)]

/-- The weight of key `j` of a row whose last key is `Q`. -/
def wt (u : ℕ → ℝ) (Q j : ℕ) : ℝ := if j ≤ Q then 2 ^ u j else 0

theorem wt_nonneg (u : ℕ → ℝ) (Q j : ℕ) : 0 ≤ wt u Q j := by
  unfold wt; split_ifs <;> positivity

/-- The greatest of finitely many scores, one of them real and each real or negative infinity, is real. -/
theorem sup_real {ι : Type*} (s : Finset ι) (f : ι → EReal) (hf : ∀ i ∈ s, f i = ⊥ ∨ ∃ x : ℝ, f i = x)
    (i : ι) (hi : i ∈ s) (x : ℝ) (hx : f i = x) : ∃ y : ℝ, s.sup f = y := by
  have h1 : s.sup f ≠ ⊥ := fun h => by
    have := Finset.le_sup (f := f) hi
    rw [h, hx] at this; simp at this
  have h2 : s.sup f < ⊤ := (Finset.sup_lt_iff (by simp)).mpr fun j hj => by
    rcases hf j hj with h | ⟨y, h⟩ <;> simp [h]
  exact ⟨(s.sup f).toReal, (EReal.coe_toReal h2.ne h1).symm⟩

/-- What a row holds after its first `n` keys: nothing yet, or the maximum, the sum and the accumulator to a common scale. -/
def Holds (u : ℕ → ℝ) (v : Fin 128 → ℕ → EReal) (Q n : ℕ) (m l : EReal) (a : Fin 128 → EReal) : Prop :=
  (n = 0 ∧ m = ⊥ ∧ l = 0 ∧ ∀ d, a d = 0) ∨ ∃ M : ℝ, m = M ∧ l = ((∑ j ∈ Finset.range n, 2 ^ (-M) * wt u Q j : ℝ) : EReal)
    ∧ ∀ d, a d = ∑ j ∈ Finset.range n, ((2 ^ (-M) * wt u Q j : ℝ) : EReal) * v d j

variable {u : ℕ → ℝ} {v : Fin 128 → ℕ → EReal} {Q n W : ℕ} {m l : EReal} {a : Fin 128 → EReal}

/-- One block of `W` keys. -/
theorem Holds.step (h : Holds u v Q n m l a) (hW : 0 < W) (hn : n ≤ Q) (t : Fin W → EReal) (g : ℝ)
    (ht : ∀ j : Fin W, t j = if n + j.val ≤ Q then ((u (n + j.val) - g : ℝ) : EReal) else ⊥)
    (m' f : EReal) (p : Fin W → EReal) (hm : m' = max m (Finset.univ.fold max (⊥ : EReal) t + g)) (hf : f = Ideal.exp2 (m - m'))
    (hp : ∀ j, p j = Ideal.exp2 (t j + (g - m'))) :
    Holds u v Q (n + W) m' (f * l + ∑ j, p j) fun d => f * a d + ∑ j, p j * v d (n + j.val) := by
  right
  obtain ⟨S, hS⟩ := sup_real Finset.univ t (fun i _ => by rw [ht]; split_ifs; exacts [.inr ⟨_, rfl⟩, .inl rfl]) ⟨0, hW⟩ (Finset.mem_univ _) (u n - g)
    (by rw [ht, if_pos (by simpa using hn)]; simp)
  rw [fold_eq_sup, hS] at hm
  obtain ⟨M, hM⟩ : ∃ M : ℝ, m' = M := by
    rcases h with ⟨-, rfl, -⟩ | ⟨M, rfl, -⟩
    · exact ⟨S + g, by rw [hm]; simp⟩
    · exact ⟨max M (S + g), by rw [hm]; push_cast; rfl⟩
  have hp' : ∀ j, p j = ((2 ^ (-M) * wt u Q (n + j.val) : ℝ) : EReal) := fun j => by
    rw [hp, ht, hM]; unfold wt
    split_ifs
    · have : ((u (n + j.val) - g : ℝ) : EReal) + ((g : EReal) - (M : EReal)) = ((-M + u (n + j.val) : ℝ) : EReal) := by
        norm_cast; ring_nf
      rw [this, exp2_coe, Real.rpow_add two_pos]
    · rw [EReal.bot_add, exp2_bot]; simp
  have key : ∃ F : ℝ, f = F ∧ (f * l = ((∑ j ∈ Finset.range n, 2 ^ (-M) * wt u Q j : ℝ) : EReal))
      ∧ ∀ d, f * a d = ∑ j ∈ Finset.range n, ((2 ^ (-M) * wt u Q j : ℝ) : EReal) * v d j := by
    rcases h with ⟨rfl, rfl, rfl, ha⟩ | ⟨N, rfl, rfl, ha⟩
    · exact ⟨0, by rw [hf, hM, EReal.bot_sub, exp2_bot]; rfl, by simp, fun d => by simp [ha]⟩
    · have hF : f = ((2 ^ (N - M) : ℝ) : EReal) := by rw [hf, hM, ← exp2_coe]; norm_cast
      have e : ∀ j, (2 ^ (N - M) : ℝ) * (2 ^ (-N) * wt u Q j) = 2 ^ (-M) * wt u Q j := fun j => by
        rw [← mul_assoc, ← Real.rpow_add two_pos]; ring_nf
      refine ⟨_, hF, ?_, fun d => ?_⟩
      · rw [hF, ← EReal.coe_mul, Finset.mul_sum]; simp only [e]
      · rw [hF, ha, coe_mul_sum _ _ (by positivity)]
        refine Finset.sum_congr rfl fun j _ => ?_
        rw [← mul_assoc, ← EReal.coe_mul, e]
  obtain ⟨F, -, k1, k2⟩ := key
  refine ⟨M, hM, ?_, fun d => ?_⟩
  · rw [k1, Finset.sum_range_add, EReal.coe_add, Finset.sum_range, Finset.sum_range (n := W), coe_sum (Finset.univ : Finset (Fin W))]
    simp only [hp']
  · show f * a d + _ = _
    rw [k2, Finset.sum_range_add]; congr 1
    rw [Finset.sum_range]; simp only [hp']

/-- The quotient is the softmax's weighted average. -/
theorem Holds.quot (h : Holds u v Q n m l a) (hn : Q < n) (d : Fin 128) :
    Ideal.div (a d) l = ∑ j ∈ Finset.range n, ((wt u Q j / ∑ i ∈ Finset.range n, wt u Q i : ℝ) : EReal) * v d j := by
  rcases h with ⟨rfl, -⟩ | ⟨M, -, rfl, ha⟩
  · exact absurd hn (by omega)
  have hs : 0 < ∑ i ∈ Finset.range n, wt u Q i :=
    Finset.sum_pos' (fun i _ => wt_nonneg u Q i) ⟨0, by simpa using by omega, by unfold wt; simp; positivity⟩
  have h2 : (0 : ℝ) < 2 ^ (-M) := by positivity
  have hl : (∑ j ∈ Finset.range n, 2 ^ (-M) * wt u Q j) = 2 ^ (-M) * ∑ i ∈ Finset.range n, wt u Q i := by rw [Finset.mul_sum]
  rw [hl, Ideal.div, if_neg (by norm_cast; positivity), ← EReal.coe_inv, mul_comm, ha, coe_mul_sum _ _ (by positivity)]
  refine Finset.sum_congr rfl fun j _ => ?_
  rw [← mul_assoc, ← EReal.coe_mul]
  congr 2
  field_simp

/-- Keys after the last one weigh nothing. -/
theorem sum_extend (hn : Q < n) (N : ℕ) (hN : n ≤ N) (d : Fin 128) :
    (∑ j ∈ Finset.range n, ((wt u Q j / ∑ i ∈ Finset.range n, wt u Q i : ℝ) : EReal) * v d j)
      = ∑ j ∈ Finset.range N, ((wt u Q j / ∑ i ∈ Finset.range N, wt u Q i : ℝ) : EReal) * v d j := by
  have h0 : ∀ j ∈ Finset.range N, j ∉ Finset.range n → wt u Q j = 0 := fun j _ hj => by
    unfold wt; rw [if_neg]; simp at hj; omega
  have hs := Finset.sum_subset (Finset.range_subset_range.mpr hN) h0
  rw [hs]
  refine Finset.sum_subset (Finset.range_subset_range.mpr hN) fun j hj hj' => ?_
  rw [h0 j hj hj']; simp

/-- The plain softmax of the same scores. -/
theorem plain (N : ℕ) (hQ : Q < N) (s : Fin N → EReal) (hs : ∀ j : Fin N, s j = if j.val ≤ Q then ((u j.val : ℝ) : EReal) else ⊥) (d : Fin 128) :
    (∑ j : Fin N, Ideal.div (Ideal.exp2 (s j - Finset.univ.fold max (⊥ : EReal) s)) (∑ i : Fin N, Ideal.exp2 (s i - Finset.univ.fold max (⊥ : EReal) s)) * v d j.val)
      = ∑ j ∈ Finset.range N, ((wt u Q j / ∑ i ∈ Finset.range N, wt u Q i : ℝ) : EReal) * v d j := by
  obtain ⟨M, hM⟩ := sup_real Finset.univ s (fun i _ => by rw [hs]; split_ifs; exacts [.inr ⟨_, rfl⟩, .inl rfl]) ⟨0, by omega⟩ (Finset.mem_univ _) (u 0)
    (by rw [hs, if_pos (by simp)])
  rw [fold_eq_sup, hM]
  have hp : ∀ j : Fin N, Ideal.exp2 (s j - (M : EReal)) = ((2 ^ (-M) * wt u Q j.val : ℝ) : EReal) := fun j => by
    rw [hs]; unfold wt
    split_ifs
    · have : ((u j.val : ℝ) : EReal) - (M : EReal) = ((-M + u j.val : ℝ) : EReal) := by norm_cast; ring_nf
      rw [this, exp2_coe, Real.rpow_add two_pos]
    · rw [EReal.bot_sub, exp2_bot]; simp
  simp only [hp]
  have hpos : 0 < ∑ i ∈ Finset.range N, wt u Q i :=
    Finset.sum_pos' (fun i _ => wt_nonneg u Q i) ⟨0, by simpa using by omega, by unfold wt; simp; positivity⟩
  have h2 : (0 : ℝ) < 2 ^ (-M) := by positivity
  rw [← coe_sum, ← Finset.sum_range (fun j => 2 ^ (-M) * wt u Q j), ← Finset.mul_sum, Finset.sum_range (fun j => (_ : EReal) * v d j)]
  refine Finset.sum_congr rfl fun j _ => ?_
  rw [Ideal.div, if_neg (by norm_cast; positivity), ← EReal.coe_inv, ← EReal.coe_mul]
  congr 2
  field_simp

end Online

end
-- ==== Proof.AttnSlab.lean ====
module

public import proofs.«01_k».proof.Proof.AttnStep
public import proofs.«01_k».proof.Proof.AttnMath
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The scratch arrays hold a slab per head. Stores of whole slabs, and what a load of a slab reads after them. -/

/-- One head's slab of a scratch array. -/
abbrev Slab := Vec Ideal S1x256x128 .f32
/-- A store into a scratch array. -/
abbrev Pc := View.Piece (Elt Ideal) S8x256x128 .f32
/-- A scratch array. -/
abbrev Scr := Memref sig .tc .vmem S8x256x128 .f32

/-- A table over the eight heads. -/
def pick8 {β : Type} (x₀ x₁ x₂ x₃ x₄ x₅ x₆ x₇ : β) : ℕ → β
  | 0 => x₀ | 1 => x₁ | 2 => x₂ | 3 => x₃ | 4 => x₄ | 5 => x₅ | 6 => x₆ | _ => x₇
/-- A table over the four pairs of heads. -/
def pick4 {β : Type} (x₀ x₁ x₂ x₃ : β) : ℕ → β
  | 0 => x₀ | 1 => x₁ | 2 => x₂ | _ => x₃
/-- The `n`-th of a list of stores. -/
def nth (d : List Pc) : List (List Pc) → ℕ → List Pc
  | [], _ => d
  | x :: _, 0 => x
  | _ :: l, n + 1 => nth d l n
/-- A head's number, kept below eight, -/
def hd : ℕ → ℕ := pick8 0 1 2 3 4 5 6 7
/-- and a pair's, below four. -/
def hp : ℕ → ℕ := pick4 0 1 2 3

theorem pick8_of {β : Type} (P : ℕ → β → Prop) (x₀ x₁ x₂ x₃ x₄ x₅ x₆ x₇ : β)
    (e : ∀ h : Fin 8, P h.val (pick8 x₀ x₁ x₂ x₃ x₄ x₅ x₆ x₇ h.val)) (h : ℕ) : P (hd h) (pick8 x₀ x₁ x₂ x₃ x₄ x₅ x₆ x₇ h) := by
  match h with
  | 0 => exact e 0
  | 1 => exact e 1
  | 2 => exact e 2
  | 3 => exact e 3
  | 4 => exact e 4
  | 5 => exact e 5
  | 6 => exact e 6
  | _ + 7 => exact e 7
theorem pick4_of {β : Type} (P : ℕ → β → Prop) (x₀ x₁ x₂ x₃ : β)
    (e : ∀ h : Fin 4, P h.val (pick4 x₀ x₁ x₂ x₃ h.val)) (h : ℕ) : P (hp h) (pick4 x₀ x₁ x₂ x₃ h) := by
  match h with
  | 0 => exact e 0
  | 1 => exact e 1
  | 2 => exact e 2
  | _ + 3 => exact e 3
theorem hd_lt (h : ℕ) : hd h < 8 := pick8_of (fun _ x => x < 8) 0 1 2 3 4 5 6 7 (by decide) h
theorem hp_lt (h : ℕ) : hp h < 4 := pick4_of (fun _ x => x < 4) 0 1 2 3 (by decide) h
theorem hd_eq (h : Fin 8) : hd h.val = h.val := by revert h; decide
theorem hp_eq (h : Fin 4) : hp h.val = h.val := by revert h; decide

theorem slab_inb (h : ℕ) : ∀ a, (![hd h, 0, 0] : Fin 3 → ℕ) a + S1x256x128.size a ≤ S8x256x128.size a := by
  have := hd_lt h
  intro a; fin_cases a <;> simp <;> omega

/-- Head `h`'s slab, as a rectangle. -/
def rc (h : ℕ) : Rect S8x256x128 := Rect.unit ![hd h, 0, 0] S1x256x128.size (slab_inb h)

/-- The stores of slabs `0` to `n - 1`, after those of `base`, last first. -/
def slabs (P : ℕ → Slab) (base : List Pc) : ℕ → List Pc
  | 0 => base
  | n + 1 => ⟨rc n, P n⟩ :: slabs P base n

/-- Slab `h` after the stores `L`. -/
def look (a : Scr) (L : List Pc) (h : ℕ) : Slab := a.view.readCov L (rc h).toLoadRect
/-- Slab `h` of contents `f`. -/
def peek (a : Scr) (f : BufTy.Contents (Elt Ideal) a.view.ty) (h : ℕ) : Slab := a.view.readAt (Elt Ideal) (rc h).toLoadRect f

theorem rc_disj : ∀ h k : Fin 8, h ≠ k → LoadRect.disj (rc k.val) (rc h.val).toLoadRect = true := by decide +kernel

theorem look_cons_self (a : Scr) (P : Slab) (L : List Pc) (h : ℕ) : look a (⟨rc h, P⟩ :: L) h = P :=
  View.readCov_cons_toLoadRect a.view (rc h) P L
theorem look_cons_ne (a : Scr) (P : Slab) (L : List Pc) (h k : ℕ) (hh : h < 8) (hk : k < 8) (hne : h ≠ k) :
    look a (⟨rc k, P⟩ :: L) h = look a L h :=
  View.readCov_skip a.view (rc k) P L _ (rc_disj ⟨h, hh⟩ ⟨k, hk⟩ (by simpa using hne))

theorem look_slabs (a : Scr) (P : ℕ → Slab) (base : List Pc) (h : ℕ) (hh : h < 8) (n : ℕ) (hn : n ≤ 8) :
    look a (slabs P base n) h = if h < n then P h else look a base h := by
  induction n with
  | zero => simp [slabs]
  | succ n ih =>
    by_cases e : h = n
    · subst e; rw [if_pos (by omega)]; exact look_cons_self a _ _ _
    · rw [slabs, look_cons_ne a _ _ h n hh (by omega) e, ih (by omega)]
      by_cases c : h < n
      · rw [if_pos c, if_pos (by omega)]
      · rw [if_neg c, if_neg (by omega)]

theorem mem_slabs (P : ℕ → Slab) (h n : ℕ) (hn : h < n) : (⟨rc h, P h⟩ : Pc) ∈ slabs P [] n := by
  induction n with
  | zero => omega
  | succ n ih =>
    rcases Nat.lt_succ_iff_lt_or_eq.mp hn with e | rfl
    · exact List.mem_cons_of_mem _ (ih e)
    · exact List.mem_cons_self

theorem peek_slabs (a : Scr) (f) (P : ℕ → Slab) (h : ℕ) (hh : h < 8) : peek a (a.view.writes (Elt Ideal) f (slabs P [] 8)) h = P h := by
  have e := View.readAt_writes_of_cover a.view f (slabs P [] 8) (rc h).toLoadRect fun j => ⟨_, mem_slabs P h 8 hh, (rc h).toLoadRect.idx_mem j⟩
  exact e.trans ((look_slabs a P [] h hh 8 le_rfl).trans (if_pos hh))

theorem peek_append (a : Scr) (f) (L L' : List Pc) : a.view.writes (Elt Ideal) f (L ++ L') = a.view.writes (Elt Ideal) (a.view.writes (Elt Ideal) f L') L :=
  View.writes_append a.view f L L'

/-! What a block of keys stores, from the slabs it finds. -/

section
variable {W : ℕ} (w : Wide W) (t : ℕ → FVec Ideal ⟨2, ![256, W]⟩ .f32) (c : ℕ → Slab) (v : ℕ → Vec Ideal ⟨2, ![W, 256]⟩ .bf16)
  (M L A : ℕ → Slab)

def pM (h : ℕ) : Slab := dn (nM w (t h) (M h) (c h))
def pL (h : ℕ) : Slab := dn (nL w (t h) (M h) (c h) (L h))
def pA₀ (p : ℕ) : Slab := dn (nA w (t (2 * p)) (t (2 * p + 1)) (M (2 * p)) (c (2 * p)) (M (2 * p + 1)) (c (2 * p + 1)) (v p) (A (2 * p)))
def pA₁ (p : ℕ) : Slab := dn (nA' w (t (2 * p)) (t (2 * p + 1)) (M (2 * p)) (c (2 * p)) (M (2 * p + 1)) (c (2 * p + 1)) (v p) (A (2 * p + 1)))
def pA (h : ℕ) : Slab := if h % 2 = 0 then pA₀ w t c v M A (h / 2) else pA₁ w t c v M A (h / 2)

/-- The accumulators' stores, two heads at a time. -/
def pairs (P₀ P₁ : ℕ → Slab) (base : List Pc) : ℕ → List Pc
  | 0 => base
  | p + 1 => ⟨rc (2 * p + 1), P₁ p⟩ :: ⟨rc (2 * p), P₀ p⟩ :: pairs P₀ P₁ base p

theorem pairs_eq (base : List Pc) (p : ℕ) : pairs (pA₀ w t c v M A) (pA₁ w t c v M A) base p = slabs (pA w t c v M A) base (2 * p) := by
  induction p with
  | zero => rfl
  | succ p ih =>
    have e₀ : pA w t c v M A (2 * p) = pA₀ w t c v M A p := by unfold pA; rw [if_pos (by omega)]; congr 1; omega
    have e₁ : pA w t c v M A (2 * p + 1) = pA₁ w t c v M A p := by unfold pA; rw [if_neg (by omega)]; congr 1; omega
    rw [pairs, ih, ← e₀, ← e₁]; rfl

variable (a8 a9 a10 : Scr) (b8 b9 b10 : List Pc)

/-- The stores of a block whose loads read the slabs through the stores before them, one head after those of the heads before it:
    the maximum's, after the maxima's `m`, -/
def stM (n : ℕ) (m : List Pc) : List Pc := ⟨rc n, dn (nM w (t n) (look a8 m n) (c n))⟩ :: m
/-- the sum's, after the maxima's `m` and the sums' `l`, -/
def stL (n : ℕ) (m l : List Pc) : List Pc := ⟨rc n, dn (nL w (t n) (look a8 m n) (c n) (look a9 l n))⟩ :: l
/-- and the two accumulators', after the maxima's `m` and `m'` and the accumulators' `a`. -/
def stA₀ (p : ℕ) (m m' a : List Pc) : List Pc :=
  ⟨rc (2 * p), dn (nA w (t (2 * p)) (t (2 * p + 1)) (look a8 m (2 * p)) (c (2 * p)) (look a8 m' (2 * p + 1)) (c (2 * p + 1)) (v p) (look a10 a (2 * p)))⟩ :: a
def stA₁ (p : ℕ) (m m' a : List Pc) : List Pc :=
  ⟨rc (2 * p + 1), dn (nA' w (t (2 * p)) (t (2 * p + 1)) (look a8 m (2 * p)) (c (2 * p)) (look a8 m' (2 * p + 1)) (c (2 * p + 1)) (v p) (look a10 a (2 * p + 1)))⟩ :: a

/-- The maxima's stores of the first heads, -/
def runM : ℕ → List Pc
  | 0 => b8
  | n + 1 => stM w t c a8 n (runM n)
/-- the sums', -/
def runL : ℕ → List Pc
  | 0 => b9
  | n + 1 => stL w t c a8 a9 n (runM w t c a8 b8 n) (runL n)
/-- and the accumulators', by pairs of heads. -/
def runA : ℕ → List Pc
  | 0 => b10
  | p + 1 => stA₁ w t c v a8 a10 p (runM w t c a8 b8 (2 * p)) (runM w t c a8 b8 (2 * p + 1))
      (stA₀ w t c v a8 a10 p (runM w t c a8 b8 (2 * p)) (runM w t c a8 b8 (2 * p + 1)) (runA p))

/-- Lists that follow one another so are these. -/
theorem runs_of (T8 T9 T10 : ℕ → List Pc) (h8 : T8 0 = b8) (h9 : T9 0 = b9) (h10 : T10 0 = b10)
    (hM : ∀ n < 8, T8 (n + 1) = stM w t c a8 n (T8 n)) (hL : ∀ n < 8, T9 (n + 1) = stL w t c a8 a9 n (T8 n) (T9 n))
    (hA : ∀ p < 4, T10 (2 * p + 1) = stA₀ w t c v a8 a10 p (T8 (2 * p)) (T8 (2 * p + 1)) (T10 (2 * p))
      ∧ T10 (2 * p + 2) = stA₁ w t c v a8 a10 p (T8 (2 * p)) (T8 (2 * p + 1)) (T10 (2 * p + 1))) :
    T8 8 = runM w t c a8 b8 8 ∧ T9 8 = runL w t c a8 a9 b8 b9 8 ∧ T10 8 = runA w t c v a8 a10 b8 b10 4 := by
  have m : ∀ n ≤ 8, T8 n = runM w t c a8 b8 n := fun n => by
    induction n with
    | zero => exact fun _ => h8
    | succ n ih => intro hn; rw [hM n (by omega), ih (by omega)]; rfl
  have l : ∀ n ≤ 8, T9 n = runL w t c a8 a9 b8 b9 n := fun n => by
    induction n with
    | zero => exact fun _ => h9
    | succ n ih => intro hn; rw [hL n (by omega), ih (by omega), m n (by omega)]; rfl
  have a : ∀ p ≤ 4, T10 (2 * p) = runA w t c v a8 a10 b8 b10 p := fun p => by
    induction p with
    | zero => exact fun _ => h10
    | succ p ih =>
      intro hp
      rw [show 2 * (p + 1) = 2 * p + 2 by ring, (hA p (by omega)).2, (hA p (by omega)).1, ih (by omega), m _ (by omega), m _ (by omega)]; rfl
  exact ⟨m 8 le_rfl, l 8 le_rfl, a 4 le_rfl⟩

theorem runM_eq (n : ℕ) (hn : n ≤ 8) : runM w t c a8 b8 n = slabs (pM w t c (look a8 b8)) b8 n := by
  induction n with
  | zero => rfl
  | succ n ih =>
    rw [runM, stM, slabs, ih (by omega), look_slabs a8 _ _ n (by omega) n (by omega), if_neg (by omega)]; rfl

theorem look_runM (n : ℕ) (hn : n < 8) : look a8 (runM w t c a8 b8 n) n = look a8 b8 n := by
  rw [runM_eq w t c a8 b8 n (by omega), look_slabs a8 _ _ n (by omega) n (by omega), if_neg (by omega)]

theorem runL_eq (n : ℕ) (hn : n ≤ 8) : runL w t c a8 a9 b8 b9 n = slabs (pL w t c (look a8 b8) (look a9 b9)) b9 n := by
  induction n with
  | zero => rfl
  | succ n ih =>
    rw [runL, stL, slabs, ih (by omega), look_runM _ _ _ _ _ n (by omega), look_slabs a9 _ _ n (by omega) n (by omega), if_neg (by omega)]; rfl

theorem runA_eq (p : ℕ) (hp : p ≤ 4) : runA w t c v a8 a10 b8 b10 p = slabs (pA w t c v (look a8 b8) (look a10 b10)) b10 (2 * p) := by
  rw [← pairs_eq]
  induction p with
  | zero => rfl
  | succ p ih =>
    have e := ih (by omega)
    rw [runA, stA₁, stA₀, pairs, look_runM _ _ _ _ _ (2 * p) (by omega), look_runM _ _ _ _ _ (2 * p + 1) (by omega),
      look_cons_ne a10 _ _ (2 * p + 1) (2 * p) (by omega) (by omega) (by omega), e, pairs_eq,
      look_slabs a10 _ _ (2 * p) (by omega) _ (by omega), if_neg (by omega),
      look_slabs a10 _ _ (2 * p + 1) (by omega) _ (by omega), if_neg (by omega)]
    rfl
end

/-! The invariant. -/

/-- What one head's slabs hold after `n` keys. -/
def Inv (u : Fin 256 → ℕ → ℝ) (v : Fin 128 → ℕ → EReal) (Q : Fin 256 → ℕ) (n : ℕ) (m l a : Slab) : Prop :=
  ∀ r : Fin 256, ∃ μ s : EReal, (∀ i, m (ix3 0 r i) = μ) ∧ (∀ i, l (ix3 0 r i) = s)
    ∧ Online.Holds (u r) v (Q r) n μ s fun d => a (ix3 0 r d)

section
variable {W : ℕ} {w : Wide W} (hw : w.Ok) {u : Fin 256 → ℕ → ℝ} {v : Fin 128 → ℕ → EReal} {Q : Fin 256 → ℕ} {n : ℕ} {m l a c : Slab}
  (g : Fin 256 → ℝ) (h : Inv u v Q n m l a) (hW : 0 < W) (hn : ∀ r, n ≤ Q r)
  (hc : ∀ r i, c (ix3 0 r i) = g r) (t : FVec Ideal ⟨2, ![256, W]⟩ .f32)
  (ht : ∀ (r : Fin 256) (j : Fin W), t (ix2 r j) = if n + j.val ≤ Q r then ((u r (n + j.val) - g r : ℝ) : EReal) else ⊥)
include hw g h hW hn hc t ht

theorem Inv.step (a' : Slab) (ha' : ∀ r d, a' (ix3 0 r d) = nF w t m c (ix2 r d) * a (ix3 0 r d) + ∑ j : Fin W, nP w t m c (ix2 r j) * v d (n + j.val)) :
    Inv u v Q (n + W) (dn (nM w t m c)) (dn (nL w t m c l)) a' := by
  intro r
  obtain ⟨μ, s, hm, hl, H⟩ := h r
  have hM : ∀ i, nM w t m c (ix2 r i) = max μ ((Finset.univ.fold max (⊥ : EReal) fun j : Fin W => t (ix2 r j)) + (g r : EReal)) := fun i => by
    rw [nM_at hw, hm, hc]
  have hF : ∀ i, nF w t m c (ix2 r i) = Ideal.exp2 (μ - max μ ((Finset.univ.fold max (⊥ : EReal) fun j : Fin W => t (ix2 r j)) + (g r : EReal))) := fun i => by
    rw [nF_at, hM, hm]
  have hP := fun j => nP_at hw t m c r (g r) _ (hc r) hM j
  refine ⟨_, _, fun i => (dn_at _ _ _).trans (hM i), fun i => (dn_at _ _ _).trans ((nL_at hw t m c l r i).trans (by rw [hF, hl])), ?_⟩
  have := H.step hW (hn r) (fun j => t (ix2 r j)) (g r) (ht r) _ _ (fun j => nP w t m c (ix2 r j)) rfl rfl hP
  simpa only [ha', hF] using this

theorem Inv.step₀ (t' : FVec Ideal ⟨2, ![256, W]⟩ .f32) (m' c' : Slab) (vb : Vec Ideal ⟨2, ![W, 256]⟩ .bf16)
    (hv : ∀ (j : Fin W) (d : Fin 128), vb (ix2 j (d.castAdd 128)) = v d (n + j.val)) :
    Inv u v Q (n + W) (dn (nM w t m c)) (dn (nL w t m c l)) (dn (nA w t t' m c m' c' vb a)) :=
  Inv.step hw g h hW hn hc t ht _ fun r d => by rw [dn_at, nA_at hw]; simp only [hv]

theorem Inv.step₁ (t' : FVec Ideal ⟨2, ![256, W]⟩ .f32) (m' c' : Slab) (vb : Vec Ideal ⟨2, ![W, 256]⟩ .bf16)
    (hv : ∀ (j : Fin W) (d : Fin 128), vb (ix2 j (d.natAdd 128)) = v d (n + j.val)) :
    Inv u v Q (n + W) (dn (nM w t m c)) (dn (nL w t m c l)) (dn (nA' w t' t m' c' m c vb a)) :=
  Inv.step hw g h hW hn hc t ht _ fun r d => by rw [dn_at, nA'_at hw]; simp only [hv]
end

end Cert.AttnIdeal.Value

end
-- ==== Proof.AttnOffs.lean ====
module

public import proofs.«01_k».proof.Proof.AttnSlab

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! Where a block of keys loads from. -/

/-- The offsets at which a block of `W` keys from key `s` on is loaded: keys and their gate sums by head, values by pair of heads. -/
structure Offs (W s : ℕ) where
  k : ℕ → Fin 2 → ℕ
  c : ℕ → Fin 3 → ℕ
  v : ℕ → Fin 2 → ℕ
  hk : ∀ h, k h = ![s, 128 * hd h]
  hc : ∀ h, c h = ![0, hd h, s]
  hv : ∀ p, v p = ![s, 256 * hp p]
  hs : s + W ≤ 2048

section
variable {W s : ℕ} (o : Offs W s)
theorem Offs.k_inb (h : ℕ) : ∀ a, o.k h a + (⟨2, ![W, 128]⟩ : Shape).size a ≤ S2048x1024.size a := by
  have := hd_lt h; have := o.hs; rw [o.hk]; intro a; fin_cases a <;> simp <;> omega
theorem Offs.c_inb (h : ℕ) : ∀ a, o.c h a + (⟨3, ![1, 1, W]⟩ : Shape).size a ≤ S1x8x2048.size a := by
  have := hd_lt h; have := o.hs; rw [o.hc]; intro a; fin_cases a <;> simp <;> omega
theorem Offs.v_inb (p : ℕ) : ∀ a, o.v p a + (⟨2, ![W, 256]⟩ : Shape).size a ≤ S2048x1024.size a := by
  have := hp_lt p; have := o.hs; rw [o.hv]; intro a; fin_cases a <;> simp <;> omega

variable (arg2 : Memref sig .tc .vmem S256x1024 .bf16) (X2 : BufTy.Contents (Elt Ideal) arg2.view.ty)
  (arg3 : Memref sig .tc .vmem S2048x1024 .bf16) (X3 : BufTy.Contents (Elt Ideal) arg3.view.ty)
  (arg4 : Memref sig .tc .vmem S2048x1024 .bf16) (X4 : BufTy.Contents (Elt Ideal) arg4.view.ty)
  (arg6 : Memref sig .tc .vmem S1x8x2048 .f32) (X6 : BufTy.Contents (Elt Ideal) arg6.view.ty)

theorem q_inb (h : ℕ) : ∀ a, (![0, pick8 0 128 256 384 512 640 768 896 h] : Fin 2 → ℕ) a + S256x128.size a ≤ S256x1024.size a := by
  have := pick8_of (fun h x => x = 128 * h) 0 128 256 384 512 640 768 896 (by decide) h
  have := hd_lt h
  intro a; fin_cases a <;> simp <;> omega

/-- Head `h`'s queries, -/
def qs (h : ℕ) : Vec Ideal S256x128 .bf16 := View.readAt (Elt Ideal) arg2.view (Rect.unit (s := S256x1024) ![0, pick8 0 128 256 384 512 640 768 896 h] S256x128.size (q_inb h)).toLoadRect X2
/-- the block's keys, -/
def ks (h : ℕ) : Vec Ideal ⟨2, ![W, 128]⟩ .bf16 := View.readAt (Elt Ideal) arg3.view (Rect.unit (s := S2048x1024) (o.k h) (⟨2, ![W, 128]⟩ : Shape).size (o.k_inb h)).toLoadRect X3
/-- their gate sums, -/
def cs (h : ℕ) : Vec Ideal ⟨3, ![1, 1, W]⟩ .f32 := View.readAt (Elt Ideal) arg6.view (Rect.unit (s := S1x8x2048) (o.c h) (⟨3, ![1, 1, W]⟩ : Shape).size (o.c_inb h)).toLoadRect X6
/-- and the values of a pair of heads. -/
def vs (p : ℕ) : Vec Ideal ⟨2, ![W, 256]⟩ .bf16 := View.readAt (Elt Ideal) arg4.view (Rect.unit (s := S2048x1024) (o.v p) (⟨2, ![W, 256]⟩ : Shape).size (o.v_inb p)).toLoadRect X4
end

theorem trips1 : ∀ i : grid0.Coords, (k0_t1_loop i).trips = (i 1).val / 4 := by decide +kernel
theorem trips2 : ∀ i : grid0.Coords, (k0_t2_loop i).trips = 0 := by decide +kernel

/-- The loop's blocks: 1024 keys each. -/
def offs1 (i : grid0.Coords) (k : Fin (k0_t1_loop i).trips) : Offs 1024 (1024 * k.val) where
  k := pick8 (k0_off1 i k) (k0_off3 i k) (k0_off6 i k) (k0_off8 i k) (k0_off11 i k) (k0_off13 i k) (k0_off16 i k) (k0_off18 i k)
  c := pick8 (k0_off2 i k) (k0_off4 i k) (k0_off7 i k) (k0_off9 i k) (k0_off12 i k) (k0_off14 i k) (k0_off17 i k) (k0_off19 i k)
  v := pick4 (k0_off5 i k) (k0_off10 i k) (k0_off15 i k) (k0_off20 i k)
  hk h := pick8_of (fun h x => x = ![1024 * k.val, 128 * h]) _ _ _ _ _ _ _ _ (by revert i; decide +kernel) h
  hc h := pick8_of (fun h x => x = ![0, h, 1024 * k.val]) _ _ _ _ _ _ _ _ (by revert i; decide +kernel) h
  hv h := pick4_of (fun h x => x = ![1024 * k.val, 256 * h]) _ _ _ _ (by revert i; decide +kernel) h
  hs := by have := lt_of_lt_of_eq k.isLt (trips1 i); have : (i 1).val < 8 := (i 1).isLt; omega
/-- The block of 512 keys before the last, where the loop stops short of it. -/
def offsU (i : grid0.Coords) (h2 : 2 ≤ (i 1).val % 4) : Offs 512 (1024 * ((i 1).val / 4)) where
  k := pick8 (k0_off41 i) (k0_off43 i) (k0_off46 i) (k0_off48 i) (k0_off51 i) (k0_off53 i) (k0_off56 i) (k0_off58 i)
  c := pick8 (k0_off42 i) (k0_off44 i) (k0_off47 i) (k0_off49 i) (k0_off52 i) (k0_off54 i) (k0_off57 i) (k0_off59 i)
  v := pick4 (k0_off45 i) (k0_off50 i) (k0_off55 i) (k0_off60 i)
  hk h := pick8_of (fun h x => x = ![1024 * ((i 1).val / 4), 128 * h]) _ _ _ _ _ _ _ _ (by revert i; decide +kernel) h
  hc h := pick8_of (fun h x => x = ![0, h, 1024 * ((i 1).val / 4)]) _ _ _ _ _ _ _ _ (by revert i; decide +kernel) h
  hv h := pick4_of (fun h x => x = ![1024 * ((i 1).val / 4), 256 * h]) _ _ _ _ (by revert i; decide +kernel) h
  hs := by have : (i 1).val < 8 := (i 1).isLt; omega
/-- The last block of an odd query block: 512 keys. -/
def offsD (i : grid0.Coords) (h1 : (i 1).val % 2 = 1) : Offs 512 (256 * (i 1).val - 256) where
  k := pick8 (k0_off61 i) (k0_off63 i) (k0_off66 i) (k0_off68 i) (k0_off71 i) (k0_off73 i) (k0_off76 i) (k0_off78 i)
  c := pick8 (k0_off62 i) (k0_off64 i) (k0_off67 i) (k0_off69 i) (k0_off72 i) (k0_off74 i) (k0_off77 i) (k0_off79 i)
  v := pick4 (k0_off65 i) (k0_off70 i) (k0_off75 i) (k0_off80 i)
  hk h := pick8_of (fun h x => x = ![256 * (i 1).val - 256, 128 * h]) _ _ _ _ _ _ _ _ (by revert i; decide +kernel) h
  hc h := pick8_of (fun h x => x = ![0, h, 256 * (i 1).val - 256]) _ _ _ _ _ _ _ _ (by revert i; decide +kernel) h
  hv h := pick4_of (fun h x => x = ![256 * (i 1).val - 256, 256 * h]) _ _ _ _ (by revert i; decide +kernel) h
  hs := by have : (i 1).val < 8 := (i 1).isLt; omega
/-- The last block of an even query block: 256 keys. -/
def offsE (i : grid0.Coords) : Offs 256 (256 * (i 1).val) where
  k := pick8 (k0_off81 i) (k0_off83 i) (k0_off86 i) (k0_off88 i) (k0_off91 i) (k0_off93 i) (k0_off96 i) (k0_off98 i)
  c := pick8 (k0_off82 i) (k0_off84 i) (k0_off87 i) (k0_off89 i) (k0_off92 i) (k0_off94 i) (k0_off97 i) (k0_off99 i)
  v := pick4 (k0_off85 i) (k0_off90 i) (k0_off95 i) (k0_off100 i)
  hk h := pick8_of (fun h x => x = ![256 * (i 1).val, 128 * h]) _ _ _ _ _ _ _ _ (by revert i; decide +kernel) h
  hc h := pick8_of (fun h x => x = ![0, h, 256 * (i 1).val]) _ _ _ _ _ _ _ _ (by revert i; decide +kernel) h
  hv h := pick4_of (fun h x => x = ![256 * (i 1).val, 256 * h]) _ _ _ _ (by revert i; decide +kernel) h
  hs := by have : (i 1).val < 8 := (i 1).isLt; omega

end Cert.AttnIdeal.Value

end
-- ==== Proof.AttnTrip.lean ====
module

public import proofs.«01_k».proof.Proof.AttnOffs

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! One trip of the loop over the blocks. -/

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole) (arg1 : BitVec 32) (v56 : FVec Ideal S256x128 .f32)
  (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X11 : BufTy.Contents (Elt Ideal) arg11.view.ty)

/-- The scores of a block of the loop. -/
def t1 (k : Fin (k0_t1_loop i).trips) (h : ℕ) : FVec Ideal ⟨2, ![256, 1024]⟩ .f32 :=
  tile1024 (qs arg2 X2 h) (ks (offs1 i k) arg3 X3 h) (cs (offs1 i k) arg6 X6 h)

set_option maxHeartbeats 4000000 in
theorem trip_eq (k : Fin (k0_t1_loop i).trips) (f8 : BufTy.Contents (Elt Ideal) arg8.view.ty) (f9 : BufTy.Contents (Elt Ideal) arg9.view.ty) (f10 : BufTy.Contents (Elt Ideal) arg10.view.ty) :
    tripL_k0_t1 Variants.none c none i arg2 harg2 arg3 harg3 arg4 harg4 arg5 harg5 arg6 harg6 arg7 harg7 arg8 harg8 arg9 harg9 arg10 harg10 arg11 harg11 arg1 v56 X2 X3 X4 X6 X11 k f8 f9 f10
      = (slabs (pM wide1024 (t1 i arg2 arg3 arg6 X2 X3 X6 k) (peek arg11 X11) (peek arg8 f8)) [] 8,
         slabs (pL wide1024 (t1 i arg2 arg3 arg6 X2 X3 X6 k) (peek arg11 X11) (peek arg8 f8) (peek arg9 f9)) [] 8,
         slabs (pA wide1024 (t1 i arg2 arg3 arg6 X2 X3 X6 k) (peek arg11 X11) (vs (offs1 i k) arg4 X4) (peek arg8 f8) (peek arg10 f10)) [] 8) := by
  have e := pairs_eq wide1024 (t1 i arg2 arg3 arg6 X2 X3 X6 k) (peek arg11 X11) (vs (offs1 i k) arg4 X4) (peek arg8 f8) (peek arg10 f10) [] 4
  rw [show slabs (pA wide1024 (t1 i arg2 arg3 arg6 X2 X3 X6 k) (peek arg11 X11) (vs (offs1 i k) arg4 X4) (peek arg8 f8) (peek arg10 f10)) [] 8 = _ from e.symm]
  unfold tripL_k0_t1 trip_k0_t1
  refine Prod.ext ?_ (Prod.ext ?_ ?_)
  · dsimp only [slabs, pairs, pM, pL, pA₀, pA₁, t1, nM, nF, nP, nL, nV, nA, nA', dn, up, wide1024, tile1024, peek, qs, ks, cs, vs, offs1, pick8, pick4, rc, hd]
    rfl
  · dsimp only [slabs, pairs, pM, pL, pA₀, pA₁, t1, nM, nF, nP, nL, nV, nA, nA', dn, up, wide1024, tile1024, peek, qs, ks, cs, vs, offs1, pick8, pick4, rc, hd]
    rfl
  · dsimp only [slabs, pairs, pM, pL, pA₀, pA₁, t1, nM, nF, nP, nL, nV, nA, nA', dn, up, wide1024, tile1024, peek, qs, ks, cs, vs, offs1, pick8, pick4, rc, hd]
    rfl
end

end Cert.AttnIdeal.Value

end
-- ==== Proof.AttnBase.lean ====
module

public import proofs.«01_k».proof.Proof.AttnTrip

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! What the kernel's body leaves before its last blocks. -/

/-- The maxima at the start, -/
def i8 : List Pc := [⟨Rect.unit (s := S8x256x128) ![0, 0, 0] S8x256x128.size inb_S8x256x128_S8x256x128_0_0_0, k0_pay434 (F := Ideal)⟩]
/-- the sums -/
def i9 : List Pc := [⟨Rect.unit (s := S8x256x128) ![0, 0, 0] S8x256x128.size inb_S8x256x128_S8x256x128_0_0_0, k0_pay435 (F := Ideal)⟩]
/-- and the accumulators. -/
def i10 : List Pc := [⟨Rect.unit (s := S8x256x128) ![0, 0, 0] S8x256x128.size inb_S8x256x128_S8x256x128_0_0_0, k0_pay436 (F := Ideal)⟩]

theorem g_inb (h : ℕ) : ∀ a, (![0, hd h] : Fin 2 → ℕ) a + S256x1.size a ≤ S256x128.size a := by
  have := hd_lt h
  intro a; fin_cases a <;> simp <;> omega

/-- A head's gate sums at the queries, spread along the lanes. -/
def gate (arg5 : Memref sig .tc .vmem S256x128 .f32) (X5 : BufTy.Contents (Elt Ideal) arg5.view.ty) (h : ℕ) : Slab :=
  dn (broadcastTo S256x128 (shapeCast S256x1 (View.readAt (Elt Ideal) arg5.view (Rect.unit (s := S256x128) ![0, hd h] S256x1.size (g_inb h)).toLoadRect X5) shapeCasts_S256x1_S256x1) broadcasts_S256x1_S256x128)

/-- The stores of an output block: the accumulators over the sums, head by head. -/
def outs (L A : ℕ → Slab) : ℕ → List (View.Piece (Elt Ideal) S256x1024 .bf16)
  | 0 => []
  | h + 1 => ⟨Rect.unit (s := S256x1024) ![0, pick8 0 128 256 384 512 640 768 896 h] S256x128.size (q_inb h), truncf .bf16 (divf (up (A h)) (up (L h))) bitsLt_bf16_f32⟩ :: outs L A h

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32) (v56 : FVec Ideal S256x128 .f32) (v81 : BitVec 32)

/-- The gate sums' scratch array. -/
abbrev gx : BufTy.Contents (Elt Ideal) arg11.view.ty := arg11.view.writes (Elt Ideal) arg11.view.junk (slabs (gate arg5 (harg5.unread x3)) [] 8)

/-- The stores of the loop's first `n` blocks. -/
abbrev lp (n : ℕ) : List Pc × List Pc × List Pc :=
  pb_k0_t1 Variants.none c none i arg2 harg2 arg3 harg3 arg4 harg4 arg5 harg5 arg6 harg6 arg7 harg7 arg8 harg8 arg9 harg9 arg10 harg10 arg11 harg11 (BitVec.ofNat 32 (i 1).val) v56 (harg2.unread x0) (harg3.unread x1) (harg4.unread x2) (harg6.unread x4)
    (gx arg5 harg5 arg11 x3) (arg8.view.writes (Elt Ideal) arg8.view.junk i8) (arg9.view.writes (Elt Ideal) arg9.view.junk i9) (arg10.view.writes (Elt Ideal) arg10.view.junk i10) n

/-- The stores of the loop's remainder. -/
abbrev rem (n : ℕ) : List Pc × List Pc × List Pc :=
  pb_k0_t2 Variants.none c none i arg2 harg2 arg3 harg3 arg4 harg4 arg5 harg5 arg6 harg6 arg7 harg7 arg8 harg8 arg9 harg9 arg10 harg10 arg11 harg11 (BitVec.ofNat 32 (i 1).val) v56 v81 (harg2.unread x0) (harg3.unread x1) (harg4.unread x2) (harg6.unread x4)
    (gx arg5 harg5 arg11 x3) (arg8.view.writes (Elt Ideal) arg8.view.junk ((lp c i arg2 harg2 arg3 harg3 arg4 harg4 arg5 harg5 arg6 harg6 arg7 harg7 arg8 harg8 arg9 harg9 arg10 harg10 arg11 harg11 x0 x1 x2 x3 x4 v56 (k0_t1_loop i).trips).1 ++ i8)) (arg9.view.writes (Elt Ideal) arg9.view.junk ((lp c i arg2 harg2 arg3 harg3 arg4 harg4 arg5 harg5 arg6 harg6 arg7 harg7 arg8 harg8 arg9 harg9 arg10 harg10 arg11 harg11 x0 x1 x2 x3 x4 v56 (k0_t1_loop i).trips).2.1 ++ i9)) (arg10.view.writes (Elt Ideal) arg10.view.junk ((lp c i arg2 harg2 arg3 harg3 arg4 harg4 arg5 harg5 arg6 harg6 arg7 harg7 arg8 harg8 arg9 harg9 arg10 harg10 arg11 harg11 x0 x1 x2 x3 x4 v56 (k0_t1_loop i).trips).2.2 ++ i10)) n

/-- Everything stored before the last blocks. -/
abbrev b8 : List Pc := (rem c i arg2 harg2 arg3 harg3 arg4 harg4 arg5 harg5 arg6 harg6 arg7 harg7 arg8 harg8 arg9 harg9 arg10 harg10 arg11 harg11 x0 x1 x2 x3 x4 v56 v81 (k0_t2_loop i).trips).1 ++ ((lp c i arg2 harg2 arg3 harg3 arg4 harg4 arg5 harg5 arg6 harg6 arg7 harg7 arg8 harg8 arg9 harg9 arg10 harg10 arg11 harg11 x0 x1 x2 x3 x4 v56 (k0_t1_loop i).trips).1 ++ i8)
abbrev b9 : List Pc := (rem c i arg2 harg2 arg3 harg3 arg4 harg4 arg5 harg5 arg6 harg6 arg7 harg7 arg8 harg8 arg9 harg9 arg10 harg10 arg11 harg11 x0 x1 x2 x3 x4 v56 v81 (k0_t2_loop i).trips).2.1 ++ ((lp c i arg2 harg2 arg3 harg3 arg4 harg4 arg5 harg5 arg6 harg6 arg7 harg7 arg8 harg8 arg9 harg9 arg10 harg10 arg11 harg11 x0 x1 x2 x3 x4 v56 (k0_t1_loop i).trips).2.1 ++ i9)
abbrev b10 : List Pc := (rem c i arg2 harg2 arg3 harg3 arg4 harg4 arg5 harg5 arg6 harg6 arg7 harg7 arg8 harg8 arg9 harg9 arg10 harg10 arg11 harg11 x0 x1 x2 x3 x4 v56 v81 (k0_t2_loop i).trips).2.2 ++ ((lp c i arg2 harg2 arg3 harg3 arg4 harg4 arg5 harg5 arg6 harg6 arg7 harg7 arg8 harg8 arg9 harg9 arg10 harg10 arg11 harg11 x0 x1 x2 x3 x4 v56 (k0_t1_loop i).trips).2.2 ++ i10)

/-- The last block's scores, of an even query block -/
def tE (h : ℕ) : FVec Ideal ⟨2, ![256, 256]⟩ .f32 := diag256 (qs arg2 (harg2.unread x0) h) (ks (offsE i) arg3 (harg3.unread x1) h) (cs (offsE i) arg6 (harg6.unread x4) h)
/-- and of an odd one; -/
def tD (h1 : (i 1).val % 2 = 1) (h : ℕ) : FVec Ideal ⟨2, ![256, 512]⟩ .f32 := diag512 (qs arg2 (harg2.unread x0) h) (ks (offsD i h1) arg3 (harg3.unread x1) h) (cs (offsD i h1) arg6 (harg6.unread x4) h)
/-- the scores of the block between. -/
def tU (h2 : 2 ≤ (i 1).val % 4) (h : ℕ) : FVec Ideal ⟨2, ![256, 512]⟩ .f32 := tile512 (qs arg2 (harg2.unread x0) h) (ks (offsU i h2) arg3 (harg3.unread x1) h) (cs (offsU i h2) arg6 (harg6.unread x4) h)
end

end Cert.AttnIdeal.Value

end
-- ==== Proof.AttnValue.lean ====
module

public import proofs.«01_k».proof.Proof.AttnBase

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The values of an output block, from real queries, keys and gate sums. -/

/-- Column `d` of head `h`. -/
def col (h : ℕ) (d : Fin 128) : Fin 1024 := ⟨128 * hd h + d.val, by have := hd_lt h; omega⟩
/-- Head `h`, as an index, -/
def hx (h : ℕ) : Fin 8 := ⟨hd h, hd_lt h⟩
/-- and as a lane. -/
def hl (h : ℕ) : Fin 128 := ⟨hd h, by have := hd_lt h; omega⟩

section
variable {W s : ℕ} (o : Offs W s) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32)

theorem qs_at (h : ℕ) (r : Fin 256) (d : Fin 128) : qs arg2 (harg2.unread x0) h (ix2 r d) = x0 (ix2 r (col h d)) := by
  unfold qs
  rw [View.readAt_apply, harg2.read_unread]
  have e := pick8_of (fun h x => x = 128 * h) 0 128 256 384 512 640 768 896 (by decide) h
  refine congrArg x0 (funext fun a => Fin.ext ?_)
  fin_cases a
  · show 0 + 1 * r.val = r.val; omega
  · show pick8 0 128 256 384 512 640 768 896 h + 1 * d.val = 128 * hd h + d.val; omega
theorem ks_at (h : ℕ) (j : Fin W) (d : Fin 128) : ks o arg3 (harg3.unread x1) h (ix2 j d) = x1 (ix2 ⟨s + j.val, by have := o.hs; omega⟩ (col h d)) := by
  unfold ks
  rw [View.readAt_apply, harg3.read_unread]
  refine congrArg x1 (funext fun a => Fin.ext ?_)
  fin_cases a
  · show o.k h 0 + 1 * j.val = s + j.val; rw [o.hk]; show s + 1 * j.val = _; omega
  · show o.k h 1 + 1 * d.val = 128 * hd h + d.val; rw [o.hk]; show 128 * hd h + 1 * d.val = _; omega
theorem cs_at (h : ℕ) (j : Fin W) : cs o arg6 (harg6.unread x4) h (ix3 0 0 j) = x4 (ix3 0 (hx h) ⟨s + j.val, by have := o.hs; omega⟩) := by
  unfold cs
  rw [View.readAt_apply, harg6.read_unread]
  refine congrArg x4 (funext fun a => Fin.ext ?_)
  fin_cases a
  · show o.c h 0 + 1 * 0 = 0; rw [o.hc]; rfl
  · show o.c h 1 + 1 * 0 = hd h; rw [o.hc]; rfl
  · show o.c h 2 + 1 * j.val = s + j.val; rw [o.hc]; show s + 1 * j.val = _; omega
theorem vs_at (p : ℕ) (j : Fin W) (e : Fin 256) : vs o arg4 (harg4.unread x2) p (ix2 j e)
    = x2 (ix2 ⟨s + j.val, by have := o.hs; omega⟩ ⟨256 * hp p + e.val, by have := hp_lt p; omega⟩) := by
  unfold vs
  rw [View.readAt_apply, harg4.read_unread]
  refine congrArg x2 (funext fun a => Fin.ext ?_)
  fin_cases a
  · show o.v p 0 + 1 * j.val = s + j.val; rw [o.hv]; show s + 1 * j.val = _; omega
  · show o.v p 1 + 1 * e.val = 256 * hp p + e.val; rw [o.hv]; show 256 * hp p + 1 * e.val = _; omega
theorem gate_at (h : ℕ) (r : Fin 256) (l : Fin 128) : gate arg5 (harg5.unread x3) h (ix3 0 r l) = x3 (ix2 r (hl h)) := by
  unfold gate
  rw [dn_at]
  have e : ∀ y : Vec Ideal S256x1 .f32, (broadcastTo S256x128 (shapeCast S256x1 y shapeCasts_S256x1_S256x1) broadcasts_S256x1_S256x128 : FVec Ideal S256x128 .f32) (ix2 r l) = y (ix2 r 0) := fun y => by pointwise []
  rw [e, View.readAt_apply, harg5.read_unread]
  refine congrArg x3 (funext fun a => Fin.ext ?_)
  fin_cases a
  · show 0 + 1 * r.val = r.val; omega
  · show hd h + 1 * 0 = hd h; omega

/-- The values of head `h`, key by key. -/
def V (h : ℕ) (d : Fin 128) (j : ℕ) : EReal := if hj : j < 2048 then x2 (ix2 ⟨j, hj⟩ (col h d)) else 0
/-- The scores of head `h`, from real queries, keys and gate sums. -/
def U (q : Fin 256 → Fin 1024 → ℝ) (k : Fin 2048 → Fin 1024 → ℝ) (g : Fin 256 → Fin 8 → ℝ) (t : Fin 8 → Fin 2048 → ℝ) (h : ℕ) (r : Fin 256) (j : ℕ) : ℝ :=
  if hj : j < 2048 then (∑ d : Fin 128, q r (col h d) * k ⟨j, hj⟩ (col h d)) + g r (hx h) - t (hx h) ⟨j, hj⟩ else 0

/-- The blocks' entries are these reals. -/
structure Reals (q : Fin 256 → Fin 1024 → ℝ) (k : Fin 2048 → Fin 1024 → ℝ) (g : Fin 256 → Fin 8 → ℝ) (t : Fin 8 → Fin 2048 → ℝ) : Prop where
  q : ∀ r e, x0 (ix2 r e) = ((q r e : ℝ) : EReal)
  k : ∀ j e, x1 (ix2 j e) = ((k j e : ℝ) : EReal)
  g : ∀ r h, x3 (ix2 r (hl h)) = ((g r (hx h) : ℝ) : EReal)
  t : ∀ h j, x4 (ix3 0 h j) = ((t h j : ℝ) : EReal)

variable {q : Fin 256 → Fin 1024 → ℝ} {k : Fin 2048 → Fin 1024 → ℝ} {g : Fin 256 → Fin 8 → ℝ} {t : Fin 8 → Fin 2048 → ℝ} (R : Reals x0 x1 x3 x4 q k g t)
include R
theorem score (h : ℕ) (r : Fin 256) (j : Fin W) :
    (∑ d : Fin 128, qs arg2 (harg2.unread x0) h (ix2 r d) * ks o arg3 (harg3.unread x1) h (ix2 j d)) - cs o arg6 (harg6.unread x4) h (ix3 0 0 j)
      = ((U q k g t h r (s + j.val) - g r (hx h) : ℝ) : EReal) := by
  have e : ∀ d : Fin 128, (qs arg2 (harg2.unread x0) h (ix2 r d) * ks o arg3 (harg3.unread x1) h (ix2 j d) : EReal)
      = ((q r (col h d) * k ⟨s + j.val, by have := o.hs; omega⟩ (col h d) : ℝ) : EReal) := fun d => by
    rw [qs_at, ks_at, R.q, R.k, EReal.coe_mul]
  rw [Finset.sum_congr rfl fun d _ => e d, ← Online.coe_sum, cs_at, R.t, U, dif_pos (by have := o.hs; omega)]
  rw [← EReal.coe_sub]
  congr 1
  ring
end

/-- The last key that query `r` of a block sees. -/
def last (i : grid0.Coords) (r : Fin 256) : ℕ := 256 * (i 1).val + r.val

section
variable {W s : ℕ} {w : Wide W} (hw : w.Ok) (hW : 0 < W) (o : Offs W s) (arg4 : Memref sig .tc .vmem S2048x1024 .bf16) (harg4 : arg4.IsWhole) (x2 : Vec Ideal S2048x1024 .bf16)
  (Q : Fin 256 → ℕ) (u : ℕ → Fin 256 → ℕ → ℝ) (g : Fin 256 → Fin 8 → ℝ)
  (t : ℕ → FVec Ideal ⟨2, ![256, W]⟩ .f32)
  (ht : ∀ h r (j : Fin W), t h (ix2 r j) = if s + j.val ≤ Q r then ((u h r (s + j.val) - g r (hx h) : ℝ) : EReal) else ⊥)
  (hQ : ∀ r, s ≤ Q r) (c : ℕ → Slab) (hc : ∀ h < 8, ∀ r l, c h (ix3 0 r l) = ((g r (hx h) : ℝ) : EReal))
include hw hW ht hQ hc

/-- A block of keys, for every head. -/
theorem block (M L A : ℕ → Slab) (H : ∀ h < 8, Inv (u h) (V x2 h) Q s (M h) (L h) (A h)) :
    ∀ h < 8, Inv (u h) (V x2 h) Q (s + W) (pM w t c M h) (pL w t c M L h) (pA w t c (vs o arg4 (harg4.unread x2)) M A h) := by
  intro h hh
  rcases Nat.even_or_odd' h with ⟨p, rfl | rfl⟩
  · have e : pA w t c (vs o arg4 (harg4.unread x2)) M A (2 * p) = pA₀ w t c (vs o arg4 (harg4.unread x2)) M A p := by
      unfold pA; rw [if_pos (by omega)]; congr 1; omega
    rw [e]
    refine Inv.step₀ hw (fun r => g r (hx (2 * p))) (H _ hh) hW hQ (hc _ hh) _ (ht _) _ _ _ _ fun j d => ?_
    rw [vs_at, V, dif_pos (by have := o.hs; omega)]
    refine congrArg x2 (congrArg (ix2 _) (Fin.ext ?_))
    have h1 := hd_eq ⟨2 * p, hh⟩
    have h2 := hp_eq ⟨p, by omega⟩
    show 256 * hp p + d.val = 128 * hd (2 * p) + d.val
    simp only at h1 h2; omega
  · have e : pA w t c (vs o arg4 (harg4.unread x2)) M A (2 * p + 1) = pA₁ w t c (vs o arg4 (harg4.unread x2)) M A p := by
      unfold pA; rw [if_neg (by omega)]; congr 1; omega
    rw [e]
    refine Inv.step₁ hw (fun r => g r (hx (2 * p + 1))) (H _ hh) hW hQ (hc _ hh) _ (ht _) _ _ _ _ fun j d => ?_
    rw [vs_at, V, dif_pos (by have := o.hs; omega)]
    refine congrArg x2 (congrArg (ix2 _) (Fin.ext ?_))
    have h1 := hd_eq ⟨2 * p + 1, hh⟩
    have h2 := hp_eq ⟨p, by omega⟩
    show 256 * hp p + (128 + d.val) = 128 * hd (2 * p + 1) + d.val
    simp only at h1 h2; omega

/-- The same, for stores that follow one another. -/
theorem blockL (a8 a9 a10 : Scr) (b8 b9 b10 : List Pc) (H : ∀ h < 8, Inv (u h) (V x2 h) Q s (look a8 b8 h) (look a9 b9 h) (look a10 b10 h)) :
    ∀ h < 8, Inv (u h) (V x2 h) Q (s + W) (look a8 (runM w t c a8 b8 8) h) (look a9 (runL w t c a8 a9 b8 b9 8) h)
      (look a10 (runA w t c (vs o arg4 (harg4.unread x2)) a8 a10 b8 b10 4) h) := by
  intro h hh
  rw [runM_eq _ _ _ _ _ 8 le_rfl, runL_eq _ _ _ _ _ _ _ 8 le_rfl, runA_eq _ _ _ _ _ _ _ _ 4 le_rfl,
    look_slabs a8 _ _ h hh 8 le_rfl, look_slabs a9 _ _ h hh 8 le_rfl, look_slabs a10 _ _ h hh (2 * 4) (by omega), if_pos hh, if_pos hh, if_pos (by omega)]
  exact block hw hW o arg4 harg4 x2 Q u g t ht hQ c hc _ _ _ H h hh
end

/-! The output block's entries. -/

/-- Head `h`'s columns of an output block. -/
def oc (h : ℕ) : Rect S256x1024 := Rect.unit ![0, pick8 0 128 256 384 512 640 768 896 h] S256x128.size (q_inb h)
theorem oc_disj : ∀ h k : Fin 8, h ≠ k → LoadRect.disj (oc k.val) (oc h.val).toLoadRect = true := by decide +kernel

theorem outs_read (v : View sig .tc .vmem S256x1024 .bf16) (L A : ℕ → Slab) (h : ℕ) (hh : h < 8) (n : ℕ) (hn : n ≤ 8) (hl : h < n) :
    v.readCov (outs L A n) (oc h).toLoadRect = (truncf .bf16 (divf (up (A h)) (up (L h))) bitsLt_bf16_f32 : FVec Ideal S256x128 .bf16) := by
  induction n with
  | zero => omega
  | succ n ih =>
    by_cases e : h = n
    · subst e; exact View.readCov_cons_toLoadRect v (oc h) _ _
    · exact (View.readCov_skip v (oc n) _ _ _ (oc_disj ⟨h, hh⟩ ⟨n, by omega⟩ (by simpa using e))).trans (ih (by omega) (by omega))

end Cert.AttnIdeal.Value

end
-- ==== Proof.AttnRows.lean ====
module

public import proofs.«01_k».proof.Proof.AttnValue

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The loop, and what the slabs hold before the last blocks. -/

theorem pay434 (y) : (k0_pay434 (F := Ideal) y : EReal) = ⊥ := by unfold k0_pay434; exact word_bot
theorem pay435 (y) : (k0_pay435 (F := Ideal) y : EReal) = 0 := by unfold k0_pay435; exact Ideal.ofBits_zero .f32
theorem pay436 (y) : (k0_pay436 (F := Ideal) y : EReal) = 0 := by unfold k0_pay436; exact Ideal.ofBits_zero .f32

section
variable (a8 a9 a10 : Scr) (u : Fin 256 → ℕ → ℝ) (v : Fin 128 → ℕ → EReal) (Q : Fin 256 → ℕ)
/-- A slab of an array filled with one number. -/
theorem fill_at (a : Scr) (K : FVec Ideal S8x256x128 .f32) (z : EReal) (hK : ∀ y, (K y : EReal) = z) (h : ℕ) (y) :
    peek a (a.view.writes (Elt Ideal) a.view.junk [⟨Rect.unit (s := S8x256x128) ![0, 0, 0] S8x256x128.size inb_S8x256x128_S8x256x128_0_0_0, K⟩]) h y = z := by
  have e := View.readCov_fill (Val := Elt Ideal) a.view inb_S8x256x128_S8x256x128_0_0_0 K [] (rc h) (by decide)
  exact (congrFun e y).trans (hK _)
/-- At the start the slabs hold nothing. -/
theorem inv_init (h : ℕ) : Inv u v Q 0 (peek a8 (a8.view.writes (Elt Ideal) a8.view.junk i8) h) (peek a9 (a9.view.writes (Elt Ideal) a9.view.junk i9) h)
    (peek a10 (a10.view.writes (Elt Ideal) a10.view.junk i10) h) := by
  have e8 := fill_at a8 _ _ pay434 h
  have e9 := fill_at a9 _ _ pay435 h
  have e10 := fill_at a10 _ _ pay436 h
  exact fun r => ⟨⊥, 0, fun _ => e8 _, fun _ => e9 _, .inl ⟨rfl, rfl, rfl, fun _ => e10 _⟩⟩
end

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32) (v56 : FVec Ideal S256x128 .f32) (v81 : BitVec 32)
  {q : Fin 256 → Fin 1024 → ℝ} {k : Fin 2048 → Fin 1024 → ℝ} {g : Fin 256 → Fin 8 → ℝ} {t : Fin 8 → Fin 2048 → ℝ} (R : Reals x0 x1 x3 x4 q k g t)
include R

theorem gate_real (h : ℕ) (hh : h < 8) (r : Fin 256) (l : Fin 128) : look arg11 (slabs (gate arg5 (harg5.unread x3)) [] 8) h (ix3 0 r l) = ((g r (hx h) : ℝ) : EReal) := by
  rw [look_slabs arg11 _ _ h hh 8 le_rfl, if_pos hh, gate_at, R.g]
theorem gate_real' (h : ℕ) (hh : h < 8) (r : Fin 256) (l : Fin 128) : peek arg11 (gx arg5 harg5 arg11 x3) h (ix3 0 r l) = ((g r (hx h) : ℝ) : EReal) := by
  rw [peek_slabs arg11 _ _ h hh, gate_at, R.g]

theorem loop_inv (n : ℕ) (hn : n ≤ (i 1).val / 4) : ∀ h < 8, Inv (U q k g t h) (V x2 h) (last i) (1024 * n)
    (peek arg8 (arg8.view.writes (Elt Ideal) (arg8.view.writes (Elt Ideal) arg8.view.junk i8) (lp c i arg2 harg2 arg3 harg3 arg4 harg4 arg5 harg5 arg6 harg6 arg7 harg7 arg8 harg8 arg9 harg9 arg10 harg10 arg11 harg11 x0 x1 x2 x3 x4 v56 n).1) h) (peek arg9 (arg9.view.writes (Elt Ideal) (arg9.view.writes (Elt Ideal) arg9.view.junk i9) (lp c i arg2 harg2 arg3 harg3 arg4 harg4 arg5 harg5 arg6 harg6 arg7 harg7 arg8 harg8 arg9 harg9 arg10 harg10 arg11 harg11 x0 x1 x2 x3 x4 v56 n).2.1) h) (peek arg10 (arg10.view.writes (Elt Ideal) (arg10.view.writes (Elt Ideal) arg10.view.junk i10) (lp c i arg2 harg2 arg3 harg3 arg4 harg4 arg5 harg5 arg6 harg6 arg7 harg7 arg8 harg8 arg9 harg9 arg10 harg10 arg11 harg11 x0 x1 x2 x3 x4 v56 n).2.2) h) := by
  induction n with
  | zero => exact fun h _ => inv_init arg8 arg9 arg10 _ _ _ h
  | succ n ih =>
    intro h hh
    have hk : n < (k0_t1_loop i).trips := by rw [trips1]; omega
    have e : lp c i arg2 harg2 arg3 harg3 arg4 harg4 arg5 harg5 arg6 harg6 arg7 harg7 arg8 harg8 arg9 harg9 arg10 harg10 arg11 harg11 x0 x1 x2 x3 x4 v56 (n + 1) = _ := pb_k0_t1_succ Variants.none c none i arg2 harg2 arg3 harg3 arg4 harg4 arg5 harg5 arg6 harg6 arg7 harg7 arg8 harg8 arg9 harg9 arg10 harg10 arg11 harg11 (BitVec.ofNat 32 (i 1).val) v56 (harg2.unread x0) (harg3.unread x1) (harg4.unread x2) (harg6.unread x4)
      (gx arg5 harg5 arg11 x3) (arg8.view.writes (Elt Ideal) arg8.view.junk i8) (arg9.view.writes (Elt Ideal) arg9.view.junk i9) (arg10.view.writes (Elt Ideal) arg10.view.junk i10) ⟨n, hk⟩
    rw [trip_eq] at e
    rw [e]
    dsimp only
    rw [peek_append, peek_append, peek_append, peek_slabs _ _ _ h hh, peek_slabs _ _ _ h hh, peek_slabs _ _ _ h hh]
    rw [show 1024 * (n + 1) = 1024 * n + 1024 by ring]
    refine block wide1024_ok (by decide) (offs1 i ⟨n, hk⟩) arg4 harg4 x2 (last i) (U q k g t) g _ (fun h r j => ?_) (fun r => ?_) _ (fun h hh r l => gate_real' arg5 harg5 arg11 x0 x1 x3 x4 R h hh r l) _ _ _ (ih (by omega)) h hh
    · rw [if_pos (by unfold last; have := j.isLt; have : ((⟨n, hk⟩ : Fin (k0_t1_loop i).trips).val) = n := rfl; omega)]
      exact (tile1024_at _ _ _ r j).trans (score (offs1 i ⟨n, hk⟩) arg2 harg2 arg3 harg3 arg6 harg6 x0 x1 x3 x4 R h r j)
    · have : ((⟨n, hk⟩ : Fin (k0_t1_loop i).trips).val) = n := rfl
      unfold last; omega

/-- Before the last blocks the slabs hold the keys of the loop. -/
theorem before : ∀ h < 8, Inv (U q k g t h) (V x2 h) (last i) (1024 * ((i 1).val / 4)) (look arg8 (b8 c i arg2 harg2 arg3 harg3 arg4 harg4 arg5 harg5 arg6 harg6 arg7 harg7 arg8 harg8 arg9 harg9 arg10 harg10 arg11 harg11 x0 x1 x2 x3 x4 v56 v81) h) (look arg9 (b9 c i arg2 harg2 arg3 harg3 arg4 harg4 arg5 harg5 arg6 harg6 arg7 harg7 arg8 harg8 arg9 harg9 arg10 harg10 arg11 harg11 x0 x1 x2 x3 x4 v56 v81) h) (look arg10 (b10 c i arg2 harg2 arg3 harg3 arg4 harg4 arg5 harg5 arg6 harg6 arg7 harg7 arg8 harg8 arg9 harg9 arg10 harg10 arg11 harg11 x0 x1 x2 x3 x4 v56 v81) h) := by
  intro h hh
  have e : rem c i arg2 harg2 arg3 harg3 arg4 harg4 arg5 harg5 arg6 harg6 arg7 harg7 arg8 harg8 arg9 harg9 arg10 harg10 arg11 harg11 x0 x1 x2 x3 x4 v56 v81 (k0_t2_loop i).trips = ([], [], []) := by rw [trips2 i]; rfl
  have H := loop_inv c i arg2 harg2 arg3 harg3 arg4 harg4 arg5 harg5 arg6 harg6 arg7 harg7 arg8 harg8 arg9 harg9 arg10 harg10 arg11 harg11 x0 x1 x2 x3 x4 v56 R ((i 1).val / 4) le_rfl h hh
  rw [← trips1 i, ← peek_append, ← peek_append, ← peek_append, trips1 i] at H
  rw [show (b8 c i arg2 harg2 arg3 harg3 arg4 harg4 arg5 harg5 arg6 harg6 arg7 harg7 arg8 harg8 arg9 harg9 arg10 harg10 arg11 harg11 x0 x1 x2 x3 x4 v56 v81) = _ from congrArg (fun x : List Pc × List Pc × List Pc => x.1 ++ ((lp c i arg2 harg2 arg3 harg3 arg4 harg4 arg5 harg5 arg6 harg6 arg7 harg7 arg8 harg8 arg9 harg9 arg10 harg10 arg11 harg11 x0 x1 x2 x3 x4 v56 (k0_t1_loop i).trips).1 ++ i8)) e,
    show (b9 c i arg2 harg2 arg3 harg3 arg4 harg4 arg5 harg5 arg6 harg6 arg7 harg7 arg8 harg8 arg9 harg9 arg10 harg10 arg11 harg11 x0 x1 x2 x3 x4 v56 v81) = _ from congrArg (fun x : List Pc × List Pc × List Pc => x.2.1 ++ ((lp c i arg2 harg2 arg3 harg3 arg4 harg4 arg5 harg5 arg6 harg6 arg7 harg7 arg8 harg8 arg9 harg9 arg10 harg10 arg11 harg11 x0 x1 x2 x3 x4 v56 (k0_t1_loop i).trips).2.1 ++ i9)) e,
    show (b10 c i arg2 harg2 arg3 harg3 arg4 harg4 arg5 harg5 arg6 harg6 arg7 harg7 arg8 harg8 arg9 harg9 arg10 harg10 arg11 harg11 x0 x1 x2 x3 x4 v56 v81) = _ from congrArg (fun x : List Pc × List Pc × List Pc => x.2.2 ++ ((lp c i arg2 harg2 arg3 harg3 arg4 harg4 arg5 harg5 arg6 harg6 arg7 harg7 arg8 harg8 arg9 harg9 arg10 harg10 arg11 harg11 x0 x1 x2 x3 x4 v56 (k0_t1_loop i).trips).2.2 ++ i10)) e]
  rw [trips1 i]
  exact H

/-- The block of 512 keys between. -/
theorem between (h2 : 2 ≤ (i 1).val % 4) (b8 b9 b10 : List Pc)
    (H : ∀ h < 8, Inv (U q k g t h) (V x2 h) (last i) (1024 * ((i 1).val / 4)) (look arg8 b8 h) (look arg9 b9 h) (look arg10 b10 h)) :
    ∀ h < 8, Inv (U q k g t h) (V x2 h) (last i) (1024 * ((i 1).val / 4) + 512)
      (look arg8 (runM wide512 (tU i arg2 harg2 arg3 harg3 arg6 harg6 x0 x1 x4 h2) (look arg11 (slabs (gate arg5 (harg5.unread x3)) [] 8)) arg8 b8 8) h)
      (look arg9 (runL wide512 (tU i arg2 harg2 arg3 harg3 arg6 harg6 x0 x1 x4 h2) (look arg11 (slabs (gate arg5 (harg5.unread x3)) [] 8)) arg8 arg9 b8 b9 8) h)
      (look arg10 (runA wide512 (tU i arg2 harg2 arg3 harg3 arg6 harg6 x0 x1 x4 h2) (look arg11 (slabs (gate arg5 (harg5.unread x3)) [] 8)) (vs (offsU i h2) arg4 (harg4.unread x2)) arg8 arg10 b8 b10 4) h) := by
  refine blockL wide512_ok (by decide) (offsU i h2) arg4 harg4 x2 (last i) (U q k g t) g _ (fun h r j => ?_) (fun r => ?_) _ (gate_real arg5 harg5 arg11 x0 x1 x3 x4 R) _ _ _ _ _ _ H
  · rw [if_pos (by unfold last; have := j.isLt; omega)]
    exact (tile512_at _ _ _ r j).trans (score (offsU i h2) arg2 harg2 arg3 harg3 arg6 harg6 x0 x1 x3 x4 R h r j)
  · unfold last; omega

/-- The last block of an odd query block. -/
theorem lastOdd (h1 : (i 1).val % 2 = 1) (b8 b9 b10 : List Pc) (n : ℕ) (hn : n = 256 * (i 1).val - 256)
    (H : ∀ h < 8, Inv (U q k g t h) (V x2 h) (last i) n (look arg8 b8 h) (look arg9 b9 h) (look arg10 b10 h)) :
    ∀ h < 8, Inv (U q k g t h) (V x2 h) (last i) (256 * (i 1).val - 256 + 512)
      (look arg8 (runM wide512 (tD i arg2 harg2 arg3 harg3 arg6 harg6 x0 x1 x4 h1) (look arg11 (slabs (gate arg5 (harg5.unread x3)) [] 8)) arg8 b8 8) h)
      (look arg9 (runL wide512 (tD i arg2 harg2 arg3 harg3 arg6 harg6 x0 x1 x4 h1) (look arg11 (slabs (gate arg5 (harg5.unread x3)) [] 8)) arg8 arg9 b8 b9 8) h)
      (look arg10 (runA wide512 (tD i arg2 harg2 arg3 harg3 arg6 harg6 x0 x1 x4 h1) (look arg11 (slabs (gate arg5 (harg5.unread x3)) [] 8)) (vs (offsD i h1) arg4 (harg4.unread x2)) arg8 arg10 b8 b10 4) h) := by
  subst hn
  refine blockL wide512_ok (by decide) (offsD i h1) arg4 harg4 x2 (last i) (U q k g t) g _ (fun h r j => ?_) (fun r => ?_) _ (gate_real arg5 harg5 arg11 x0 x1 x3 x4 R) _ _ _ _ _ _ H
  · refine (diag512_at _ _ _ r j).trans ?_
    rw [score (offsD i h1) arg2 harg2 arg3 harg3 arg6 harg6 x0 x1 x3 x4 R h r j]
    exact if_congr (by unfold last; omega) rfl rfl
  · unfold last; omega

/-- The last block of an even query block. -/
theorem lastEven (b8 b9 b10 : List Pc) (n : ℕ) (hn : n = 256 * (i 1).val)
    (H : ∀ h < 8, Inv (U q k g t h) (V x2 h) (last i) n (look arg8 b8 h) (look arg9 b9 h) (look arg10 b10 h)) :
    ∀ h < 8, Inv (U q k g t h) (V x2 h) (last i) (256 * (i 1).val + 256)
      (look arg8 (runM wide256 (tE i arg2 harg2 arg3 harg3 arg6 harg6 x0 x1 x4) (look arg11 (slabs (gate arg5 (harg5.unread x3)) [] 8)) arg8 b8 8) h)
      (look arg9 (runL wide256 (tE i arg2 harg2 arg3 harg3 arg6 harg6 x0 x1 x4) (look arg11 (slabs (gate arg5 (harg5.unread x3)) [] 8)) arg8 arg9 b8 b9 8) h)
      (look arg10 (runA wide256 (tE i arg2 harg2 arg3 harg3 arg6 harg6 x0 x1 x4) (look arg11 (slabs (gate arg5 (harg5.unread x3)) [] 8)) (vs (offsE i) arg4 (harg4.unread x2)) arg8 arg10 b8 b10 4) h) := by
  subst hn
  refine blockL wide256_ok (by decide) (offsE i) arg4 harg4 x2 (last i) (U q k g t) g _ (fun h r j => ?_) (fun r => ?_) _ (gate_real arg5 harg5 arg11 x0 x1 x3 x4 R) _ _ _ _ _ _ H
  · refine (diag256_at _ _ _ r j).trans ?_
    rw [score (offsE i) arg2 harg2 arg3 harg3 arg6 harg6 x0 x1 x3 x4 R h r j]
    exact if_congr (by unfold last; omega) rfl rfl
  · unfold last; omega
end

/-- The weighted mean of head `h`'s values that query `r` sees. -/
def mean (x2 : Vec Ideal S2048x1024 .bf16) (u : ℕ → Fin 256 → ℕ → ℝ) (Q : Fin 256 → ℕ) (h : ℕ) (r : Fin 256) (d : Fin 128) : EReal :=
  ∑ j ∈ Finset.range 2048, ((Online.wt (u h r) (Q r) j / ∑ i ∈ Finset.range 2048, Online.wt (u h r) (Q r) i : ℝ) : EReal) * V x2 h d j

/-- Once the slabs hold every key a query sees, the output block holds the weighted means. -/
theorem finish (v : View sig .tc .vmem S256x1024 .bf16) (x2 : Vec Ideal S2048x1024 .bf16) (u : ℕ → Fin 256 → ℕ → ℝ) (Q : Fin 256 → ℕ) (n : ℕ) (M L A : ℕ → Slab)
    (hQ : ∀ r, Q r < n) (hn : n ≤ 2048) (H : ∀ h < 8, Inv (u h) (V x2 h) Q n (M h) (L h) (A h)) (h : ℕ) (hh : h < 8) (r : Fin 256) (d : Fin 128) :
    v.read (Elt Ideal) (v.writes (Elt Ideal) v.junk (outs L A 8)) (ix2 r (col h d)) = mean x2 u Q h r d := by
  have e : (oc h).idx (ix2 r d) = ix2 r (col h d) := by
    have e := pick8_of (fun h x => x = 128 * h) 0 128 256 384 512 640 768 896 (by decide) h
    refine funext fun a => Fin.ext ?_
    fin_cases a
    · show 0 + 1 * r.val = r.val; omega
    · show pick8 0 128 256 384 512 640 768 896 h + 1 * d.val = 128 * hd h + d.val; omega
  rw [← e]
  refine (congrFun (outs_read v L A h hh 8 le_rfl hh) (ix2 r d)).trans ?_
  obtain ⟨μ, s, -, hl, HH⟩ := H h hh r
  have e1 : (truncf .bf16 (divf (up (A h)) (up (L h))) bitsLt_bf16_f32 : FVec Ideal S256x128 .bf16) (ix2 r d) = Ideal.div (up (A h) (ix2 r d)) (up (L h) (ix2 r d)) := rfl
  rw [e1, up_at, up_at, hl]
  exact (HH.quot (hQ r) d).trans (Online.sum_extend (hQ r) 2048 hn d)

end Cert.AttnIdeal.Value

end
-- ==== Proof.AttnCaseA.lean ====
module

public import proofs.«01_k».proof.Proof.AttnBase
public import proofs.«01_k».proof.Proof.AttnI.Frame

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The stores of an output block where the kernel takes this way. -/

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32)
set_option maxHeartbeats 8000000 in
/-- The last block. -/
theorem lastA (hc2 : cond0_2 i) :
    nth [] [(b8 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)), (kernelRun0_A.sl.HS0_1_1 c i arg2 harg2 arg3 harg3 arg4 harg4 arg5 harg5 arg6 harg6 arg7 harg7 arg8 harg8 arg9 harg9 arg10 harg10 arg11 harg11 hc2 x0 x1 x2 x3 x4), (kernelRun0_A.sl.HS0_2 c i arg2 harg2 arg3 harg3 arg4 harg4 arg5 harg5 arg6 harg6 arg7 harg7 arg8 harg8 arg9 harg9 arg10 harg10 arg11 harg11 hc2 x0 x1 x2 x3 x4), (kernelRun0_A.sl.HS0_3 c i arg2 harg2 arg3 harg3 arg4 harg4 arg5 harg5 arg6 harg6 arg7 harg7 arg8 harg8 arg9 harg9 arg10 harg10 arg11 harg11 hc2 x0 x1 x2 x3 x4), (kernelRun0_A.sl.HS0_4 c i arg2 harg2 arg3 harg3 arg4 harg4 arg5 harg5 arg6 harg6 arg7 harg7 arg8 harg8 arg9 harg9 arg10 harg10 arg11 harg11 hc2 x0 x1 x2 x3 x4), (kernelRun0_A.sl.HS0_5 c i arg2 harg2 arg3 harg3 arg4 harg4 arg5 harg5 arg6 harg6 arg7 harg7 arg8 harg8 arg9 harg9 arg10 harg10 arg11 harg11 hc2 x0 x1 x2 x3 x4), (kernelRun0_A.sl.HS0_6 c i arg2 harg2 arg3 harg3 arg4 harg4 arg5 harg5 arg6 harg6 arg7 harg7 arg8 harg8 arg9 harg9 arg10 harg10 arg11 harg11 hc2 x0 x1 x2 x3 x4), (kernelRun0_A.sl.HS0_7 c i arg2 harg2 arg3 harg3 arg4 harg4 arg5 harg5 arg6 harg6 arg7 harg7 arg8 harg8 arg9 harg9 arg10 harg10 arg11 harg11 hc2 x0 x1 x2 x3 x4), stM wide256 (tE i arg2 harg2 arg3 harg3 arg6 harg6 x0 x1 x4) (look arg11 (slabs (gate arg5 (harg5.unread x3)) [] 8)) arg8 7 (kernelRun0_A.sl.HS0_7 c i arg2 harg2 arg3 harg3 arg4 harg4 arg5 harg5 arg6 harg6 arg7 harg7 arg8 harg8 arg9 harg9 arg10 harg10 arg11 harg11 hc2 x0 x1 x2 x3 x4)] 8 = runM wide256 (tE i arg2 harg2 arg3 harg3 arg6 harg6 x0 x1 x4) (look arg11 (slabs (gate arg5 (harg5.unread x3)) [] 8)) arg8 (b8 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)) 8
      ∧ (kernelRun0_A.sl.HS1_8 c i arg2 harg2 arg3 harg3 arg4 harg4 arg5 harg5 arg6 harg6 arg7 harg7 arg8 harg8 arg9 harg9 arg10 harg10 arg11 harg11 hc2 x0 x1 x2 x3 x4) = runL wide256 (tE i arg2 harg2 arg3 harg3 arg6 harg6 x0 x1 x4) (look arg11 (slabs (gate arg5 (harg5.unread x3)) [] 8)) arg8 arg9 (b8 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)) (b9 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)) 8
      ∧ (kernelRun0_A.sl.HS2_8 c i arg2 harg2 arg3 harg3 arg4 harg4 arg5 harg5 arg6 harg6 arg7 harg7 arg8 harg8 arg9 harg9 arg10 harg10 arg11 harg11 hc2 x0 x1 x2 x3 x4) = runA wide256 (tE i arg2 harg2 arg3 harg3 arg6 harg6 x0 x1 x4) (look arg11 (slabs (gate arg5 (harg5.unread x3)) [] 8)) (vs (offsE i) arg4 (harg4.unread x2)) arg8 arg10 (b8 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)) (b10 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)) 4 := by
  refine runs_of wide256 (tE i arg2 harg2 arg3 harg3 arg6 harg6 x0 x1 x4) (look arg11 (slabs (gate arg5 (harg5.unread x3)) [] 8)) (vs (offsE i) arg4 (harg4.unread x2)) arg8 arg9 arg10 (b8 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)) (b9 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)) (b10 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i))
    (nth [] [(b8 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)),
    (kernelRun0_A.sl.HS0_1_1 c i arg2 harg2 arg3 harg3 arg4 harg4 arg5 harg5 arg6 harg6 arg7 harg7 arg8 harg8 arg9 harg9 arg10 harg10 arg11 harg11 hc2 x0 x1 x2 x3 x4),
    (kernelRun0_A.sl.HS0_2 c i arg2 harg2 arg3 harg3 arg4 harg4 arg5 harg5 arg6 harg6 arg7 harg7 arg8 harg8 arg9 harg9 arg10 harg10 arg11 harg11 hc2 x0 x1 x2 x3 x4),
    (kernelRun0_A.sl.HS0_3 c i arg2 harg2 arg3 harg3 arg4 harg4 arg5 harg5 arg6 harg6 arg7 harg7 arg8 harg8 arg9 harg9 arg10 harg10 arg11 harg11 hc2 x0 x1 x2 x3 x4),
    (kernelRun0_A.sl.HS0_4 c i arg2 harg2 arg3 harg3 arg4 harg4 arg5 harg5 arg6 harg6 arg7 harg7 arg8 harg8 arg9 harg9 arg10 harg10 arg11 harg11 hc2 x0 x1 x2 x3 x4),
    (kernelRun0_A.sl.HS0_5 c i arg2 harg2 arg3 harg3 arg4 harg4 arg5 harg5 arg6 harg6 arg7 harg7 arg8 harg8 arg9 harg9 arg10 harg10 arg11 harg11 hc2 x0 x1 x2 x3 x4),
    (kernelRun0_A.sl.HS0_6 c i arg2 harg2 arg3 harg3 arg4 harg4 arg5 harg5 arg6 harg6 arg7 harg7 arg8 harg8 arg9 harg9 arg10 harg10 arg11 harg11 hc2 x0 x1 x2 x3 x4),
    (kernelRun0_A.sl.HS0_7 c i arg2 harg2 arg3 harg3 arg4 harg4 arg5 harg5 arg6 harg6 arg7 harg7 arg8 harg8 arg9 harg9 arg10 harg10 arg11 harg11 hc2 x0 x1 x2 x3 x4),
    stM wide256 (tE i arg2 harg2 arg3 harg3 arg6 harg6 x0 x1 x4) (look arg11 (slabs (gate arg5 (harg5.unread x3)) [] 8)) arg8 7 (kernelRun0_A.sl.HS0_7 c i arg2 harg2 arg3 harg3 arg4 harg4 arg5 harg5 arg6 harg6 arg7 harg7 arg8 harg8 arg9 harg9 arg10 harg10 arg11 harg11 hc2 x0 x1 x2 x3 x4)])
    (nth [] [(b9 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)),
    (kernelRun0_A.sl.HS1_1_1 c i arg2 harg2 arg3 harg3 arg4 harg4 arg5 harg5 arg6 harg6 arg7 harg7 arg8 harg8 arg9 harg9 arg10 harg10 arg11 harg11 hc2 x0 x1 x2 x3 x4),
    (kernelRun0_A.sl.HS1_2 c i arg2 harg2 arg3 harg3 arg4 harg4 arg5 harg5 arg6 harg6 arg7 harg7 arg8 harg8 arg9 harg9 arg10 harg10 arg11 harg11 hc2 x0 x1 x2 x3 x4),
    (kernelRun0_A.sl.HS1_3 c i arg2 harg2 arg3 harg3 arg4 harg4 arg5 harg5 arg6 harg6 arg7 harg7 arg8 harg8 arg9 harg9 arg10 harg10 arg11 harg11 hc2 x0 x1 x2 x3 x4),
    (kernelRun0_A.sl.HS1_4 c i arg2 harg2 arg3 harg3 arg4 harg4 arg5 harg5 arg6 harg6 arg7 harg7 arg8 harg8 arg9 harg9 arg10 harg10 arg11 harg11 hc2 x0 x1 x2 x3 x4),
    (kernelRun0_A.sl.HS1_5 c i arg2 harg2 arg3 harg3 arg4 harg4 arg5 harg5 arg6 harg6 arg7 harg7 arg8 harg8 arg9 harg9 arg10 harg10 arg11 harg11 hc2 x0 x1 x2 x3 x4),
    (kernelRun0_A.sl.HS1_6 c i arg2 harg2 arg3 harg3 arg4 harg4 arg5 harg5 arg6 harg6 arg7 harg7 arg8 harg8 arg9 harg9 arg10 harg10 arg11 harg11 hc2 x0 x1 x2 x3 x4),
    (kernelRun0_A.sl.HS1_7 c i arg2 harg2 arg3 harg3 arg4 harg4 arg5 harg5 arg6 harg6 arg7 harg7 arg8 harg8 arg9 harg9 arg10 harg10 arg11 harg11 hc2 x0 x1 x2 x3 x4),
    (kernelRun0_A.sl.HS1_8 c i arg2 harg2 arg3 harg3 arg4 harg4 arg5 harg5 arg6 harg6 arg7 harg7 arg8 harg8 arg9 harg9 arg10 harg10 arg11 harg11 hc2 x0 x1 x2 x3 x4)])
    (nth [] [(b10 c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i)),
    (kernelRun0_A.sl.HS2_1_1 c i arg2 harg2 arg3 harg3 arg4 harg4 arg5 harg5 arg6 harg6 arg7 harg7 arg8 harg8 arg9 harg9 arg10 harg10 arg11 harg11 hc2 x0 x1 x2 x3 x4),
    (kernelRun0_A.sl.HS2_2 c i arg2 harg2 arg3 harg3 arg4 harg4 arg5 harg5 arg6 harg6 arg7 harg7 arg8 harg8 arg9 harg9 arg10 harg10 arg11 harg11 hc2 x0 x1 x2 x3 x4),
    (kernelRun0_A.sl.HS2_3 c i arg2 harg2 arg3 harg3 arg4 harg4 arg5 harg5 arg6 harg6 arg7 harg7 arg8 harg8 arg9 harg9 arg10 harg10 arg11 harg11 hc2 x0 x1 x2 x3 x4),
    (kernelRun0_A.sl.HS2_4 c i arg2 harg2 arg3 harg3 arg4 harg4 arg5 harg5 arg6 harg6 arg7 harg7 arg8 harg8 arg9 harg9 arg10 harg10 arg11 harg11 hc2 x0 x1 x2 x3 x4),
    (kernelRun0_A.sl.HS2_5 c i arg2 harg2 arg3 harg3 arg4 harg4 arg5 harg5 arg6 harg6 arg7 harg7 arg8 harg8 arg9 harg9 arg10 harg10 arg11 harg11 hc2 x0 x1 x2 x3 x4),
    (kernelRun0_A.sl.HS2_6 c i arg2 harg2 arg3 harg3 arg4 harg4 arg5 harg5 arg6 harg6 arg7 harg7 arg8 harg8 arg9 harg9 arg10 harg10 arg11 harg11 hc2 x0 x1 x2 x3 x4),
    (kernelRun0_A.sl.HS2_7 c i arg2 harg2 arg3 harg3 arg4 harg4 arg5 harg5 arg6 harg6 arg7 harg7 arg8 harg8 arg9 harg9 arg10 harg10 arg11 harg11 hc2 x0 x1 x2 x3 x4),
    (kernelRun0_A.sl.HS2_8 c i arg2 harg2 arg3 harg3 arg4 harg4 arg5 harg5 arg6 harg6 arg7 harg7 arg8 harg8 arg9 harg9 arg10 harg10 arg11 harg11 hc2 x0 x1 x2 x3 x4)])
    rfl rfl rfl ?_ ?_ ?_
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> constructor <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)

set_option maxHeartbeats 8000000 in
/-- The output block's stores. -/
theorem outsA (hc0 : ¬cond0_0 i) (hc1 : ¬cond0_1 i) (hc2 : cond0_2 i) : (kernelRun0_A c i arg2 harg2 arg3 harg3 arg4 harg4 arg5 harg5 arg6 harg6 arg7 harg7 arg8 harg8 arg9 harg9 arg10 harg10 arg11 harg11 hc0 hc1 hc2 x0 x1 x2 x3 x4).1 = outs (look arg9 (kernelRun0_A.sl.HS1_8 c i arg2 harg2 arg3 harg3 arg4 harg4 arg5 harg5 arg6 harg6 arg7 harg7 arg8 harg8 arg9 harg9 arg10 harg10 arg11 harg11 hc2 x0 x1 x2 x3 x4)) (look arg10 (kernelRun0_A.sl.HS2_8 c i arg2 harg2 arg3 harg3 arg4 harg4 arg5 harg5 arg6 harg6 arg7 harg7 arg8 harg8 arg9 harg9 arg10 harg10 arg11 harg11 hc2 x0 x1 x2 x3 x4)) 8 := by
  dsimp only [outs, look, up, pick8, rc, hd]
  rfl
end

end Cert.AttnIdeal.Value

end
-- ==== Proof.AttnCaseB.lean ====
module

public import proofs.«01_k».proof.Proof.AttnBase
public import proofs.«01_k».proof.Proof.AttnI.Frame

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The stores of an output block where the kernel takes this way. -/

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32)
set_option maxHeartbeats 8000000 in
/-- The last block. -/
theorem lastB (hc1 : cond0_1 i) (g1 : (i 1).val % 2 = 1) :
    nth [] [(b8 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)), (kernelRun0_B.sl.HS0_1_1 c i arg2 harg2 arg3 harg3 arg4 harg4 arg5 harg5 arg6 harg6 arg7 harg7 arg8 harg8 arg9 harg9 arg10 harg10 arg11 harg11 hc1 x0 x1 x2 x3 x4), (kernelRun0_B.sl.HS0_2 c i arg2 harg2 arg3 harg3 arg4 harg4 arg5 harg5 arg6 harg6 arg7 harg7 arg8 harg8 arg9 harg9 arg10 harg10 arg11 harg11 hc1 x0 x1 x2 x3 x4), (kernelRun0_B.sl.HS0_3 c i arg2 harg2 arg3 harg3 arg4 harg4 arg5 harg5 arg6 harg6 arg7 harg7 arg8 harg8 arg9 harg9 arg10 harg10 arg11 harg11 hc1 x0 x1 x2 x3 x4), (kernelRun0_B.sl.HS0_4 c i arg2 harg2 arg3 harg3 arg4 harg4 arg5 harg5 arg6 harg6 arg7 harg7 arg8 harg8 arg9 harg9 arg10 harg10 arg11 harg11 hc1 x0 x1 x2 x3 x4), (kernelRun0_B.sl.HS0_5 c i arg2 harg2 arg3 harg3 arg4 harg4 arg5 harg5 arg6 harg6 arg7 harg7 arg8 harg8 arg9 harg9 arg10 harg10 arg11 harg11 hc1 x0 x1 x2 x3 x4), (kernelRun0_B.sl.HS0_6 c i arg2 harg2 arg3 harg3 arg4 harg4 arg5 harg5 arg6 harg6 arg7 harg7 arg8 harg8 arg9 harg9 arg10 harg10 arg11 harg11 hc1 x0 x1 x2 x3 x4), (kernelRun0_B.sl.HS0_7 c i arg2 harg2 arg3 harg3 arg4 harg4 arg5 harg5 arg6 harg6 arg7 harg7 arg8 harg8 arg9 harg9 arg10 harg10 arg11 harg11 hc1 x0 x1 x2 x3 x4), stM wide512 (tD i arg2 harg2 arg3 harg3 arg6 harg6 x0 x1 x4 g1) (look arg11 (slabs (gate arg5 (harg5.unread x3)) [] 8)) arg8 7 (kernelRun0_B.sl.HS0_7 c i arg2 harg2 arg3 harg3 arg4 harg4 arg5 harg5 arg6 harg6 arg7 harg7 arg8 harg8 arg9 harg9 arg10 harg10 arg11 harg11 hc1 x0 x1 x2 x3 x4)] 8 = runM wide512 (tD i arg2 harg2 arg3 harg3 arg6 harg6 x0 x1 x4 g1) (look arg11 (slabs (gate arg5 (harg5.unread x3)) [] 8)) arg8 (b8 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)) 8
      ∧ (kernelRun0_B.sl.HS1_8 c i arg2 harg2 arg3 harg3 arg4 harg4 arg5 harg5 arg6 harg6 arg7 harg7 arg8 harg8 arg9 harg9 arg10 harg10 arg11 harg11 hc1 x0 x1 x2 x3 x4) = runL wide512 (tD i arg2 harg2 arg3 harg3 arg6 harg6 x0 x1 x4 g1) (look arg11 (slabs (gate arg5 (harg5.unread x3)) [] 8)) arg8 arg9 (b8 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)) (b9 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)) 8
      ∧ (kernelRun0_B.sl.HS2_8 c i arg2 harg2 arg3 harg3 arg4 harg4 arg5 harg5 arg6 harg6 arg7 harg7 arg8 harg8 arg9 harg9 arg10 harg10 arg11 harg11 hc1 x0 x1 x2 x3 x4) = runA wide512 (tD i arg2 harg2 arg3 harg3 arg6 harg6 x0 x1 x4 g1) (look arg11 (slabs (gate arg5 (harg5.unread x3)) [] 8)) (vs (offsD i g1) arg4 (harg4.unread x2)) arg8 arg10 (b8 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)) (b10 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)) 4 := by
  refine runs_of wide512 (tD i arg2 harg2 arg3 harg3 arg6 harg6 x0 x1 x4 g1) (look arg11 (slabs (gate arg5 (harg5.unread x3)) [] 8)) (vs (offsD i g1) arg4 (harg4.unread x2)) arg8 arg9 arg10 (b8 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)) (b9 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)) (b10 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i))
    (nth [] [(b8 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)),
    (kernelRun0_B.sl.HS0_1_1 c i arg2 harg2 arg3 harg3 arg4 harg4 arg5 harg5 arg6 harg6 arg7 harg7 arg8 harg8 arg9 harg9 arg10 harg10 arg11 harg11 hc1 x0 x1 x2 x3 x4),
    (kernelRun0_B.sl.HS0_2 c i arg2 harg2 arg3 harg3 arg4 harg4 arg5 harg5 arg6 harg6 arg7 harg7 arg8 harg8 arg9 harg9 arg10 harg10 arg11 harg11 hc1 x0 x1 x2 x3 x4),
    (kernelRun0_B.sl.HS0_3 c i arg2 harg2 arg3 harg3 arg4 harg4 arg5 harg5 arg6 harg6 arg7 harg7 arg8 harg8 arg9 harg9 arg10 harg10 arg11 harg11 hc1 x0 x1 x2 x3 x4),
    (kernelRun0_B.sl.HS0_4 c i arg2 harg2 arg3 harg3 arg4 harg4 arg5 harg5 arg6 harg6 arg7 harg7 arg8 harg8 arg9 harg9 arg10 harg10 arg11 harg11 hc1 x0 x1 x2 x3 x4),
    (kernelRun0_B.sl.HS0_5 c i arg2 harg2 arg3 harg3 arg4 harg4 arg5 harg5 arg6 harg6 arg7 harg7 arg8 harg8 arg9 harg9 arg10 harg10 arg11 harg11 hc1 x0 x1 x2 x3 x4),
    (kernelRun0_B.sl.HS0_6 c i arg2 harg2 arg3 harg3 arg4 harg4 arg5 harg5 arg6 harg6 arg7 harg7 arg8 harg8 arg9 harg9 arg10 harg10 arg11 harg11 hc1 x0 x1 x2 x3 x4),
    (kernelRun0_B.sl.HS0_7 c i arg2 harg2 arg3 harg3 arg4 harg4 arg5 harg5 arg6 harg6 arg7 harg7 arg8 harg8 arg9 harg9 arg10 harg10 arg11 harg11 hc1 x0 x1 x2 x3 x4),
    stM wide512 (tD i arg2 harg2 arg3 harg3 arg6 harg6 x0 x1 x4 g1) (look arg11 (slabs (gate arg5 (harg5.unread x3)) [] 8)) arg8 7 (kernelRun0_B.sl.HS0_7 c i arg2 harg2 arg3 harg3 arg4 harg4 arg5 harg5 arg6 harg6 arg7 harg7 arg8 harg8 arg9 harg9 arg10 harg10 arg11 harg11 hc1 x0 x1 x2 x3 x4)])
    (nth [] [(b9 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)),
    (kernelRun0_B.sl.HS1_1_1 c i arg2 harg2 arg3 harg3 arg4 harg4 arg5 harg5 arg6 harg6 arg7 harg7 arg8 harg8 arg9 harg9 arg10 harg10 arg11 harg11 hc1 x0 x1 x2 x3 x4),
    (kernelRun0_B.sl.HS1_2 c i arg2 harg2 arg3 harg3 arg4 harg4 arg5 harg5 arg6 harg6 arg7 harg7 arg8 harg8 arg9 harg9 arg10 harg10 arg11 harg11 hc1 x0 x1 x2 x3 x4),
    (kernelRun0_B.sl.HS1_3 c i arg2 harg2 arg3 harg3 arg4 harg4 arg5 harg5 arg6 harg6 arg7 harg7 arg8 harg8 arg9 harg9 arg10 harg10 arg11 harg11 hc1 x0 x1 x2 x3 x4),
    (kernelRun0_B.sl.HS1_4 c i arg2 harg2 arg3 harg3 arg4 harg4 arg5 harg5 arg6 harg6 arg7 harg7 arg8 harg8 arg9 harg9 arg10 harg10 arg11 harg11 hc1 x0 x1 x2 x3 x4),
    (kernelRun0_B.sl.HS1_5 c i arg2 harg2 arg3 harg3 arg4 harg4 arg5 harg5 arg6 harg6 arg7 harg7 arg8 harg8 arg9 harg9 arg10 harg10 arg11 harg11 hc1 x0 x1 x2 x3 x4),
    (kernelRun0_B.sl.HS1_6 c i arg2 harg2 arg3 harg3 arg4 harg4 arg5 harg5 arg6 harg6 arg7 harg7 arg8 harg8 arg9 harg9 arg10 harg10 arg11 harg11 hc1 x0 x1 x2 x3 x4),
    (kernelRun0_B.sl.HS1_7 c i arg2 harg2 arg3 harg3 arg4 harg4 arg5 harg5 arg6 harg6 arg7 harg7 arg8 harg8 arg9 harg9 arg10 harg10 arg11 harg11 hc1 x0 x1 x2 x3 x4),
    (kernelRun0_B.sl.HS1_8 c i arg2 harg2 arg3 harg3 arg4 harg4 arg5 harg5 arg6 harg6 arg7 harg7 arg8 harg8 arg9 harg9 arg10 harg10 arg11 harg11 hc1 x0 x1 x2 x3 x4)])
    (nth [] [(b10 c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i)),
    (kernelRun0_B.sl.HS2_1_1 c i arg2 harg2 arg3 harg3 arg4 harg4 arg5 harg5 arg6 harg6 arg7 harg7 arg8 harg8 arg9 harg9 arg10 harg10 arg11 harg11 hc1 x0 x1 x2 x3 x4),
    (kernelRun0_B.sl.HS2_2 c i arg2 harg2 arg3 harg3 arg4 harg4 arg5 harg5 arg6 harg6 arg7 harg7 arg8 harg8 arg9 harg9 arg10 harg10 arg11 harg11 hc1 x0 x1 x2 x3 x4),
    (kernelRun0_B.sl.HS2_3 c i arg2 harg2 arg3 harg3 arg4 harg4 arg5 harg5 arg6 harg6 arg7 harg7 arg8 harg8 arg9 harg9 arg10 harg10 arg11 harg11 hc1 x0 x1 x2 x3 x4),
    (kernelRun0_B.sl.HS2_4 c i arg2 harg2 arg3 harg3 arg4 harg4 arg5 harg5 arg6 harg6 arg7 harg7 arg8 harg8 arg9 harg9 arg10 harg10 arg11 harg11 hc1 x0 x1 x2 x3 x4),
    (kernelRun0_B.sl.HS2_5 c i arg2 harg2 arg3 harg3 arg4 harg4 arg5 harg5 arg6 harg6 arg7 harg7 arg8 harg8 arg9 harg9 arg10 harg10 arg11 harg11 hc1 x0 x1 x2 x3 x4),
    (kernelRun0_B.sl.HS2_6 c i arg2 harg2 arg3 harg3 arg4 harg4 arg5 harg5 arg6 harg6 arg7 harg7 arg8 harg8 arg9 harg9 arg10 harg10 arg11 harg11 hc1 x0 x1 x2 x3 x4),
    (kernelRun0_B.sl.HS2_7 c i arg2 harg2 arg3 harg3 arg4 harg4 arg5 harg5 arg6 harg6 arg7 harg7 arg8 harg8 arg9 harg9 arg10 harg10 arg11 harg11 hc1 x0 x1 x2 x3 x4),
    (kernelRun0_B.sl.HS2_8 c i arg2 harg2 arg3 harg3 arg4 harg4 arg5 harg5 arg6 harg6 arg7 harg7 arg8 harg8 arg9 harg9 arg10 harg10 arg11 harg11 hc1 x0 x1 x2 x3 x4)])
    rfl rfl rfl ?_ ?_ ?_
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> constructor <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)

set_option maxHeartbeats 8000000 in
/-- The output block's stores. -/
theorem outsB (hc0 : ¬cond0_0 i) (hc1 : cond0_1 i) (hc2 : ¬cond0_2 i) : (kernelRun0_B c i arg2 harg2 arg3 harg3 arg4 harg4 arg5 harg5 arg6 harg6 arg7 harg7 arg8 harg8 arg9 harg9 arg10 harg10 arg11 harg11 hc0 hc1 hc2 x0 x1 x2 x3 x4).1 = outs (look arg9 (kernelRun0_B.sl.HS1_8 c i arg2 harg2 arg3 harg3 arg4 harg4 arg5 harg5 arg6 harg6 arg7 harg7 arg8 harg8 arg9 harg9 arg10 harg10 arg11 harg11 hc1 x0 x1 x2 x3 x4)) (look arg10 (kernelRun0_B.sl.HS2_8 c i arg2 harg2 arg3 harg3 arg4 harg4 arg5 harg5 arg6 harg6 arg7 harg7 arg8 harg8 arg9 harg9 arg10 harg10 arg11 harg11 hc1 x0 x1 x2 x3 x4)) 8 := by
  dsimp only [outs, look, up, pick8, rc, hd]
  rfl
end

end Cert.AttnIdeal.Value

end
-- ==== Proof.AttnCaseC.lean ====
module

public import proofs.«01_k».proof.Proof.AttnBase
public import proofs.«01_k».proof.Proof.AttnI.Frame

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The stores of an output block where the kernel takes this way. -/

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32)
set_option maxHeartbeats 8000000 in
/-- The block before the last. -/
theorem upperC (hc0 : cond0_0 i) (g2 : 2 ≤ (i 1).val % 4) :
    nth [] [(b8 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)), (kernelRun0_C.sl.HS0_1_1 c i arg2 harg2 arg3 harg3 arg4 harg4 arg5 harg5 arg6 harg6 arg7 harg7 arg8 harg8 arg9 harg9 arg10 harg10 arg11 harg11 hc0 x0 x1 x2 x3 x4), (kernelRun0_C.sl.HS0_2 c i arg2 harg2 arg3 harg3 arg4 harg4 arg5 harg5 arg6 harg6 arg7 harg7 arg8 harg8 arg9 harg9 arg10 harg10 arg11 harg11 hc0 x0 x1 x2 x3 x4), (kernelRun0_C.sl.HS0_3 c i arg2 harg2 arg3 harg3 arg4 harg4 arg5 harg5 arg6 harg6 arg7 harg7 arg8 harg8 arg9 harg9 arg10 harg10 arg11 harg11 hc0 x0 x1 x2 x3 x4), (kernelRun0_C.sl.HS0_4 c i arg2 harg2 arg3 harg3 arg4 harg4 arg5 harg5 arg6 harg6 arg7 harg7 arg8 harg8 arg9 harg9 arg10 harg10 arg11 harg11 hc0 x0 x1 x2 x3 x4), (kernelRun0_C.sl.HS0_5 c i arg2 harg2 arg3 harg3 arg4 harg4 arg5 harg5 arg6 harg6 arg7 harg7 arg8 harg8 arg9 harg9 arg10 harg10 arg11 harg11 hc0 x0 x1 x2 x3 x4), (kernelRun0_C.sl.HS0_6 c i arg2 harg2 arg3 harg3 arg4 harg4 arg5 harg5 arg6 harg6 arg7 harg7 arg8 harg8 arg9 harg9 arg10 harg10 arg11 harg11 hc0 x0 x1 x2 x3 x4), (kernelRun0_C.sl.HS0_7 c i arg2 harg2 arg3 harg3 arg4 harg4 arg5 harg5 arg6 harg6 arg7 harg7 arg8 harg8 arg9 harg9 arg10 harg10 arg11 harg11 hc0 x0 x1 x2 x3 x4), (kernelRun0_C.sl.HS0_8 c i arg2 harg2 arg3 harg3 arg4 harg4 arg5 harg5 arg6 harg6 arg7 harg7 arg8 harg8 arg9 harg9 arg10 harg10 arg11 harg11 hc0 x0 x1 x2 x3 x4)] 8 = runM wide512 (tU i arg2 harg2 arg3 harg3 arg6 harg6 x0 x1 x4 g2) (look arg11 (slabs (gate arg5 (harg5.unread x3)) [] 8)) arg8 (b8 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)) 8
      ∧ (kernelRun0_C.sl.HS1_8 c i arg2 harg2 arg3 harg3 arg4 harg4 arg5 harg5 arg6 harg6 arg7 harg7 arg8 harg8 arg9 harg9 arg10 harg10 arg11 harg11 hc0 x0 x1 x2 x3 x4) = runL wide512 (tU i arg2 harg2 arg3 harg3 arg6 harg6 x0 x1 x4 g2) (look arg11 (slabs (gate arg5 (harg5.unread x3)) [] 8)) arg8 arg9 (b8 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)) (b9 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)) 8
      ∧ (kernelRun0_C.sl.HS2_8 c i arg2 harg2 arg3 harg3 arg4 harg4 arg5 harg5 arg6 harg6 arg7 harg7 arg8 harg8 arg9 harg9 arg10 harg10 arg11 harg11 hc0 x0 x1 x2 x3 x4) = runA wide512 (tU i arg2 harg2 arg3 harg3 arg6 harg6 x0 x1 x4 g2) (look arg11 (slabs (gate arg5 (harg5.unread x3)) [] 8)) (vs (offsU i g2) arg4 (harg4.unread x2)) arg8 arg10 (b8 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)) (b10 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)) 4 := by
  refine runs_of wide512 (tU i arg2 harg2 arg3 harg3 arg6 harg6 x0 x1 x4 g2) (look arg11 (slabs (gate arg5 (harg5.unread x3)) [] 8)) (vs (offsU i g2) arg4 (harg4.unread x2)) arg8 arg9 arg10 (b8 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)) (b9 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)) (b10 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i))
    (nth [] [(b8 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)),
    (kernelRun0_C.sl.HS0_1_1 c i arg2 harg2 arg3 harg3 arg4 harg4 arg5 harg5 arg6 harg6 arg7 harg7 arg8 harg8 arg9 harg9 arg10 harg10 arg11 harg11 hc0 x0 x1 x2 x3 x4),
    (kernelRun0_C.sl.HS0_2 c i arg2 harg2 arg3 harg3 arg4 harg4 arg5 harg5 arg6 harg6 arg7 harg7 arg8 harg8 arg9 harg9 arg10 harg10 arg11 harg11 hc0 x0 x1 x2 x3 x4),
    (kernelRun0_C.sl.HS0_3 c i arg2 harg2 arg3 harg3 arg4 harg4 arg5 harg5 arg6 harg6 arg7 harg7 arg8 harg8 arg9 harg9 arg10 harg10 arg11 harg11 hc0 x0 x1 x2 x3 x4),
    (kernelRun0_C.sl.HS0_4 c i arg2 harg2 arg3 harg3 arg4 harg4 arg5 harg5 arg6 harg6 arg7 harg7 arg8 harg8 arg9 harg9 arg10 harg10 arg11 harg11 hc0 x0 x1 x2 x3 x4),
    (kernelRun0_C.sl.HS0_5 c i arg2 harg2 arg3 harg3 arg4 harg4 arg5 harg5 arg6 harg6 arg7 harg7 arg8 harg8 arg9 harg9 arg10 harg10 arg11 harg11 hc0 x0 x1 x2 x3 x4),
    (kernelRun0_C.sl.HS0_6 c i arg2 harg2 arg3 harg3 arg4 harg4 arg5 harg5 arg6 harg6 arg7 harg7 arg8 harg8 arg9 harg9 arg10 harg10 arg11 harg11 hc0 x0 x1 x2 x3 x4),
    (kernelRun0_C.sl.HS0_7 c i arg2 harg2 arg3 harg3 arg4 harg4 arg5 harg5 arg6 harg6 arg7 harg7 arg8 harg8 arg9 harg9 arg10 harg10 arg11 harg11 hc0 x0 x1 x2 x3 x4),
    (kernelRun0_C.sl.HS0_8 c i arg2 harg2 arg3 harg3 arg4 harg4 arg5 harg5 arg6 harg6 arg7 harg7 arg8 harg8 arg9 harg9 arg10 harg10 arg11 harg11 hc0 x0 x1 x2 x3 x4)])
    (nth [] [(b9 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)),
    (kernelRun0_C.sl.HS1_1_1 c i arg2 harg2 arg3 harg3 arg4 harg4 arg5 harg5 arg6 harg6 arg7 harg7 arg8 harg8 arg9 harg9 arg10 harg10 arg11 harg11 hc0 x0 x1 x2 x3 x4),
    (kernelRun0_C.sl.HS1_2 c i arg2 harg2 arg3 harg3 arg4 harg4 arg5 harg5 arg6 harg6 arg7 harg7 arg8 harg8 arg9 harg9 arg10 harg10 arg11 harg11 hc0 x0 x1 x2 x3 x4),
    (kernelRun0_C.sl.HS1_3 c i arg2 harg2 arg3 harg3 arg4 harg4 arg5 harg5 arg6 harg6 arg7 harg7 arg8 harg8 arg9 harg9 arg10 harg10 arg11 harg11 hc0 x0 x1 x2 x3 x4),
    (kernelRun0_C.sl.HS1_4 c i arg2 harg2 arg3 harg3 arg4 harg4 arg5 harg5 arg6 harg6 arg7 harg7 arg8 harg8 arg9 harg9 arg10 harg10 arg11 harg11 hc0 x0 x1 x2 x3 x4),
    (kernelRun0_C.sl.HS1_5 c i arg2 harg2 arg3 harg3 arg4 harg4 arg5 harg5 arg6 harg6 arg7 harg7 arg8 harg8 arg9 harg9 arg10 harg10 arg11 harg11 hc0 x0 x1 x2 x3 x4),
    (kernelRun0_C.sl.HS1_6 c i arg2 harg2 arg3 harg3 arg4 harg4 arg5 harg5 arg6 harg6 arg7 harg7 arg8 harg8 arg9 harg9 arg10 harg10 arg11 harg11 hc0 x0 x1 x2 x3 x4),
    (kernelRun0_C.sl.HS1_7 c i arg2 harg2 arg3 harg3 arg4 harg4 arg5 harg5 arg6 harg6 arg7 harg7 arg8 harg8 arg9 harg9 arg10 harg10 arg11 harg11 hc0 x0 x1 x2 x3 x4),
    (kernelRun0_C.sl.HS1_8 c i arg2 harg2 arg3 harg3 arg4 harg4 arg5 harg5 arg6 harg6 arg7 harg7 arg8 harg8 arg9 harg9 arg10 harg10 arg11 harg11 hc0 x0 x1 x2 x3 x4)])
    (nth [] [(b10 c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i)),
    (kernelRun0_C.sl.HS2_1_1 c i arg2 harg2 arg3 harg3 arg4 harg4 arg5 harg5 arg6 harg6 arg7 harg7 arg8 harg8 arg9 harg9 arg10 harg10 arg11 harg11 hc0 x0 x1 x2 x3 x4),
    (kernelRun0_C.sl.HS2_2 c i arg2 harg2 arg3 harg3 arg4 harg4 arg5 harg5 arg6 harg6 arg7 harg7 arg8 harg8 arg9 harg9 arg10 harg10 arg11 harg11 hc0 x0 x1 x2 x3 x4),
    (kernelRun0_C.sl.HS2_3 c i arg2 harg2 arg3 harg3 arg4 harg4 arg5 harg5 arg6 harg6 arg7 harg7 arg8 harg8 arg9 harg9 arg10 harg10 arg11 harg11 hc0 x0 x1 x2 x3 x4),
    (kernelRun0_C.sl.HS2_4 c i arg2 harg2 arg3 harg3 arg4 harg4 arg5 harg5 arg6 harg6 arg7 harg7 arg8 harg8 arg9 harg9 arg10 harg10 arg11 harg11 hc0 x0 x1 x2 x3 x4),
    (kernelRun0_C.sl.HS2_5 c i arg2 harg2 arg3 harg3 arg4 harg4 arg5 harg5 arg6 harg6 arg7 harg7 arg8 harg8 arg9 harg9 arg10 harg10 arg11 harg11 hc0 x0 x1 x2 x3 x4),
    (kernelRun0_C.sl.HS2_6 c i arg2 harg2 arg3 harg3 arg4 harg4 arg5 harg5 arg6 harg6 arg7 harg7 arg8 harg8 arg9 harg9 arg10 harg10 arg11 harg11 hc0 x0 x1 x2 x3 x4),
    (kernelRun0_C.sl.HS2_7 c i arg2 harg2 arg3 harg3 arg4 harg4 arg5 harg5 arg6 harg6 arg7 harg7 arg8 harg8 arg9 harg9 arg10 harg10 arg11 harg11 hc0 x0 x1 x2 x3 x4),
    (kernelRun0_C.sl.HS2_8 c i arg2 harg2 arg3 harg3 arg4 harg4 arg5 harg5 arg6 harg6 arg7 harg7 arg8 harg8 arg9 harg9 arg10 harg10 arg11 harg11 hc0 x0 x1 x2 x3 x4)])
    rfl rfl rfl ?_ ?_ ?_
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> constructor <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)

set_option maxHeartbeats 8000000 in
/-- The last block. -/
theorem lastC (hc0 : cond0_0 i) (hc2 : cond0_2 i) :
    nth [] [(kernelRun0_C.sl.HS0_8 c i arg2 harg2 arg3 harg3 arg4 harg4 arg5 harg5 arg6 harg6 arg7 harg7 arg8 harg8 arg9 harg9 arg10 harg10 arg11 harg11 hc0 x0 x1 x2 x3 x4), (kernelRun0_C.sl.HS0_9 c i arg2 harg2 arg3 harg3 arg4 harg4 arg5 harg5 arg6 harg6 arg7 harg7 arg8 harg8 arg9 harg9 arg10 harg10 arg11 harg11 hc0 hc2 x0 x1 x2 x3 x4), (kernelRun0_C.sl.HS0_10 c i arg2 harg2 arg3 harg3 arg4 harg4 arg5 harg5 arg6 harg6 arg7 harg7 arg8 harg8 arg9 harg9 arg10 harg10 arg11 harg11 hc0 hc2 x0 x1 x2 x3 x4), (kernelRun0_C.sl.HS0_11 c i arg2 harg2 arg3 harg3 arg4 harg4 arg5 harg5 arg6 harg6 arg7 harg7 arg8 harg8 arg9 harg9 arg10 harg10 arg11 harg11 hc0 hc2 x0 x1 x2 x3 x4), (kernelRun0_C.sl.HS0_12 c i arg2 harg2 arg3 harg3 arg4 harg4 arg5 harg5 arg6 harg6 arg7 harg7 arg8 harg8 arg9 harg9 arg10 harg10 arg11 harg11 hc0 hc2 x0 x1 x2 x3 x4), (kernelRun0_C.sl.HS0_13 c i arg2 harg2 arg3 harg3 arg4 harg4 arg5 harg5 arg6 harg6 arg7 harg7 arg8 harg8 arg9 harg9 arg10 harg10 arg11 harg11 hc0 hc2 x0 x1 x2 x3 x4), (kernelRun0_C.sl.HS0_14 c i arg2 harg2 arg3 harg3 arg4 harg4 arg5 harg5 arg6 harg6 arg7 harg7 arg8 harg8 arg9 harg9 arg10 harg10 arg11 harg11 hc0 hc2 x0 x1 x2 x3 x4), (kernelRun0_C.sl.HS0_15 c i arg2 harg2 arg3 harg3 arg4 harg4 arg5 harg5 arg6 harg6 arg7 harg7 arg8 harg8 arg9 harg9 arg10 harg10 arg11 harg11 hc0 hc2 x0 x1 x2 x3 x4), stM wide256 (tE i arg2 harg2 arg3 harg3 arg6 harg6 x0 x1 x4) (look arg11 (slabs (gate arg5 (harg5.unread x3)) [] 8)) arg8 7 (kernelRun0_C.sl.HS0_15 c i arg2 harg2 arg3 harg3 arg4 harg4 arg5 harg5 arg6 harg6 arg7 harg7 arg8 harg8 arg9 harg9 arg10 harg10 arg11 harg11 hc0 hc2 x0 x1 x2 x3 x4)] 8 = runM wide256 (tE i arg2 harg2 arg3 harg3 arg6 harg6 x0 x1 x4) (look arg11 (slabs (gate arg5 (harg5.unread x3)) [] 8)) arg8 (kernelRun0_C.sl.HS0_8 c i arg2 harg2 arg3 harg3 arg4 harg4 arg5 harg5 arg6 harg6 arg7 harg7 arg8 harg8 arg9 harg9 arg10 harg10 arg11 harg11 hc0 x0 x1 x2 x3 x4) 8
      ∧ (kernelRun0_C.sl.HS1_16 c i arg2 harg2 arg3 harg3 arg4 harg4 arg5 harg5 arg6 harg6 arg7 harg7 arg8 harg8 arg9 harg9 arg10 harg10 arg11 harg11 hc0 hc2 x0 x1 x2 x3 x4) = runL wide256 (tE i arg2 harg2 arg3 harg3 arg6 harg6 x0 x1 x4) (look arg11 (slabs (gate arg5 (harg5.unread x3)) [] 8)) arg8 arg9 (kernelRun0_C.sl.HS0_8 c i arg2 harg2 arg3 harg3 arg4 harg4 arg5 harg5 arg6 harg6 arg7 harg7 arg8 harg8 arg9 harg9 arg10 harg10 arg11 harg11 hc0 x0 x1 x2 x3 x4) (kernelRun0_C.sl.HS1_8 c i arg2 harg2 arg3 harg3 arg4 harg4 arg5 harg5 arg6 harg6 arg7 harg7 arg8 harg8 arg9 harg9 arg10 harg10 arg11 harg11 hc0 x0 x1 x2 x3 x4) 8
      ∧ (kernelRun0_C.sl.HS2_16 c i arg2 harg2 arg3 harg3 arg4 harg4 arg5 harg5 arg6 harg6 arg7 harg7 arg8 harg8 arg9 harg9 arg10 harg10 arg11 harg11 hc0 hc2 x0 x1 x2 x3 x4) = runA wide256 (tE i arg2 harg2 arg3 harg3 arg6 harg6 x0 x1 x4) (look arg11 (slabs (gate arg5 (harg5.unread x3)) [] 8)) (vs (offsE i) arg4 (harg4.unread x2)) arg8 arg10 (kernelRun0_C.sl.HS0_8 c i arg2 harg2 arg3 harg3 arg4 harg4 arg5 harg5 arg6 harg6 arg7 harg7 arg8 harg8 arg9 harg9 arg10 harg10 arg11 harg11 hc0 x0 x1 x2 x3 x4) (kernelRun0_C.sl.HS2_8 c i arg2 harg2 arg3 harg3 arg4 harg4 arg5 harg5 arg6 harg6 arg7 harg7 arg8 harg8 arg9 harg9 arg10 harg10 arg11 harg11 hc0 x0 x1 x2 x3 x4) 4 := by
  refine runs_of wide256 (tE i arg2 harg2 arg3 harg3 arg6 harg6 x0 x1 x4) (look arg11 (slabs (gate arg5 (harg5.unread x3)) [] 8)) (vs (offsE i) arg4 (harg4.unread x2)) arg8 arg9 arg10 (kernelRun0_C.sl.HS0_8 c i arg2 harg2 arg3 harg3 arg4 harg4 arg5 harg5 arg6 harg6 arg7 harg7 arg8 harg8 arg9 harg9 arg10 harg10 arg11 harg11 hc0 x0 x1 x2 x3 x4) (kernelRun0_C.sl.HS1_8 c i arg2 harg2 arg3 harg3 arg4 harg4 arg5 harg5 arg6 harg6 arg7 harg7 arg8 harg8 arg9 harg9 arg10 harg10 arg11 harg11 hc0 x0 x1 x2 x3 x4) (kernelRun0_C.sl.HS2_8 c i arg2 harg2 arg3 harg3 arg4 harg4 arg5 harg5 arg6 harg6 arg7 harg7 arg8 harg8 arg9 harg9 arg10 harg10 arg11 harg11 hc0 x0 x1 x2 x3 x4)
    (nth [] [(kernelRun0_C.sl.HS0_8 c i arg2 harg2 arg3 harg3 arg4 harg4 arg5 harg5 arg6 harg6 arg7 harg7 arg8 harg8 arg9 harg9 arg10 harg10 arg11 harg11 hc0 x0 x1 x2 x3 x4),
    (kernelRun0_C.sl.HS0_9 c i arg2 harg2 arg3 harg3 arg4 harg4 arg5 harg5 arg6 harg6 arg7 harg7 arg8 harg8 arg9 harg9 arg10 harg10 arg11 harg11 hc0 hc2 x0 x1 x2 x3 x4),
    (kernelRun0_C.sl.HS0_10 c i arg2 harg2 arg3 harg3 arg4 harg4 arg5 harg5 arg6 harg6 arg7 harg7 arg8 harg8 arg9 harg9 arg10 harg10 arg11 harg11 hc0 hc2 x0 x1 x2 x3 x4),
    (kernelRun0_C.sl.HS0_11 c i arg2 harg2 arg3 harg3 arg4 harg4 arg5 harg5 arg6 harg6 arg7 harg7 arg8 harg8 arg9 harg9 arg10 harg10 arg11 harg11 hc0 hc2 x0 x1 x2 x3 x4),
    (kernelRun0_C.sl.HS0_12 c i arg2 harg2 arg3 harg3 arg4 harg4 arg5 harg5 arg6 harg6 arg7 harg7 arg8 harg8 arg9 harg9 arg10 harg10 arg11 harg11 hc0 hc2 x0 x1 x2 x3 x4),
    (kernelRun0_C.sl.HS0_13 c i arg2 harg2 arg3 harg3 arg4 harg4 arg5 harg5 arg6 harg6 arg7 harg7 arg8 harg8 arg9 harg9 arg10 harg10 arg11 harg11 hc0 hc2 x0 x1 x2 x3 x4),
    (kernelRun0_C.sl.HS0_14 c i arg2 harg2 arg3 harg3 arg4 harg4 arg5 harg5 arg6 harg6 arg7 harg7 arg8 harg8 arg9 harg9 arg10 harg10 arg11 harg11 hc0 hc2 x0 x1 x2 x3 x4),
    (kernelRun0_C.sl.HS0_15 c i arg2 harg2 arg3 harg3 arg4 harg4 arg5 harg5 arg6 harg6 arg7 harg7 arg8 harg8 arg9 harg9 arg10 harg10 arg11 harg11 hc0 hc2 x0 x1 x2 x3 x4),
    stM wide256 (tE i arg2 harg2 arg3 harg3 arg6 harg6 x0 x1 x4) (look arg11 (slabs (gate arg5 (harg5.unread x3)) [] 8)) arg8 7 (kernelRun0_C.sl.HS0_15 c i arg2 harg2 arg3 harg3 arg4 harg4 arg5 harg5 arg6 harg6 arg7 harg7 arg8 harg8 arg9 harg9 arg10 harg10 arg11 harg11 hc0 hc2 x0 x1 x2 x3 x4)])
    (nth [] [(kernelRun0_C.sl.HS1_8 c i arg2 harg2 arg3 harg3 arg4 harg4 arg5 harg5 arg6 harg6 arg7 harg7 arg8 harg8 arg9 harg9 arg10 harg10 arg11 harg11 hc0 x0 x1 x2 x3 x4),
    (kernelRun0_C.sl.HS1_9 c i arg2 harg2 arg3 harg3 arg4 harg4 arg5 harg5 arg6 harg6 arg7 harg7 arg8 harg8 arg9 harg9 arg10 harg10 arg11 harg11 hc0 hc2 x0 x1 x2 x3 x4),
    (kernelRun0_C.sl.HS1_10 c i arg2 harg2 arg3 harg3 arg4 harg4 arg5 harg5 arg6 harg6 arg7 harg7 arg8 harg8 arg9 harg9 arg10 harg10 arg11 harg11 hc0 hc2 x0 x1 x2 x3 x4),
    (kernelRun0_C.sl.HS1_11 c i arg2 harg2 arg3 harg3 arg4 harg4 arg5 harg5 arg6 harg6 arg7 harg7 arg8 harg8 arg9 harg9 arg10 harg10 arg11 harg11 hc0 hc2 x0 x1 x2 x3 x4),
    (kernelRun0_C.sl.HS1_12 c i arg2 harg2 arg3 harg3 arg4 harg4 arg5 harg5 arg6 harg6 arg7 harg7 arg8 harg8 arg9 harg9 arg10 harg10 arg11 harg11 hc0 hc2 x0 x1 x2 x3 x4),
    (kernelRun0_C.sl.HS1_13 c i arg2 harg2 arg3 harg3 arg4 harg4 arg5 harg5 arg6 harg6 arg7 harg7 arg8 harg8 arg9 harg9 arg10 harg10 arg11 harg11 hc0 hc2 x0 x1 x2 x3 x4),
    (kernelRun0_C.sl.HS1_14 c i arg2 harg2 arg3 harg3 arg4 harg4 arg5 harg5 arg6 harg6 arg7 harg7 arg8 harg8 arg9 harg9 arg10 harg10 arg11 harg11 hc0 hc2 x0 x1 x2 x3 x4),
    (kernelRun0_C.sl.HS1_15 c i arg2 harg2 arg3 harg3 arg4 harg4 arg5 harg5 arg6 harg6 arg7 harg7 arg8 harg8 arg9 harg9 arg10 harg10 arg11 harg11 hc0 hc2 x0 x1 x2 x3 x4),
    (kernelRun0_C.sl.HS1_16 c i arg2 harg2 arg3 harg3 arg4 harg4 arg5 harg5 arg6 harg6 arg7 harg7 arg8 harg8 arg9 harg9 arg10 harg10 arg11 harg11 hc0 hc2 x0 x1 x2 x3 x4)])
    (nth [] [(kernelRun0_C.sl.HS2_8 c i arg2 harg2 arg3 harg3 arg4 harg4 arg5 harg5 arg6 harg6 arg7 harg7 arg8 harg8 arg9 harg9 arg10 harg10 arg11 harg11 hc0 x0 x1 x2 x3 x4),
    (kernelRun0_C.sl.HS2_9 c i arg2 harg2 arg3 harg3 arg4 harg4 arg5 harg5 arg6 harg6 arg7 harg7 arg8 harg8 arg9 harg9 arg10 harg10 arg11 harg11 hc0 hc2 x0 x1 x2 x3 x4),
    (kernelRun0_C.sl.HS2_10 c i arg2 harg2 arg3 harg3 arg4 harg4 arg5 harg5 arg6 harg6 arg7 harg7 arg8 harg8 arg9 harg9 arg10 harg10 arg11 harg11 hc0 hc2 x0 x1 x2 x3 x4),
    (kernelRun0_C.sl.HS2_11 c i arg2 harg2 arg3 harg3 arg4 harg4 arg5 harg5 arg6 harg6 arg7 harg7 arg8 harg8 arg9 harg9 arg10 harg10 arg11 harg11 hc0 hc2 x0 x1 x2 x3 x4),
    (kernelRun0_C.sl.HS2_12 c i arg2 harg2 arg3 harg3 arg4 harg4 arg5 harg5 arg6 harg6 arg7 harg7 arg8 harg8 arg9 harg9 arg10 harg10 arg11 harg11 hc0 hc2 x0 x1 x2 x3 x4),
    (kernelRun0_C.sl.HS2_13 c i arg2 harg2 arg3 harg3 arg4 harg4 arg5 harg5 arg6 harg6 arg7 harg7 arg8 harg8 arg9 harg9 arg10 harg10 arg11 harg11 hc0 hc2 x0 x1 x2 x3 x4),
    (kernelRun0_C.sl.HS2_14 c i arg2 harg2 arg3 harg3 arg4 harg4 arg5 harg5 arg6 harg6 arg7 harg7 arg8 harg8 arg9 harg9 arg10 harg10 arg11 harg11 hc0 hc2 x0 x1 x2 x3 x4),
    (kernelRun0_C.sl.HS2_15 c i arg2 harg2 arg3 harg3 arg4 harg4 arg5 harg5 arg6 harg6 arg7 harg7 arg8 harg8 arg9 harg9 arg10 harg10 arg11 harg11 hc0 hc2 x0 x1 x2 x3 x4),
    (kernelRun0_C.sl.HS2_16 c i arg2 harg2 arg3 harg3 arg4 harg4 arg5 harg5 arg6 harg6 arg7 harg7 arg8 harg8 arg9 harg9 arg10 harg10 arg11 harg11 hc0 hc2 x0 x1 x2 x3 x4)])
    rfl rfl rfl ?_ ?_ ?_
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> constructor <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)

set_option maxHeartbeats 8000000 in
/-- The output block's stores. -/
theorem outsC (hc0 : cond0_0 i) (hc1 : ¬cond0_1 i) (hc2 : cond0_2 i) : (kernelRun0_C c i arg2 harg2 arg3 harg3 arg4 harg4 arg5 harg5 arg6 harg6 arg7 harg7 arg8 harg8 arg9 harg9 arg10 harg10 arg11 harg11 hc0 hc1 hc2 x0 x1 x2 x3 x4).1 = outs (look arg9 (kernelRun0_C.sl.HS1_16 c i arg2 harg2 arg3 harg3 arg4 harg4 arg5 harg5 arg6 harg6 arg7 harg7 arg8 harg8 arg9 harg9 arg10 harg10 arg11 harg11 hc0 hc2 x0 x1 x2 x3 x4)) (look arg10 (kernelRun0_C.sl.HS2_16 c i arg2 harg2 arg3 harg3 arg4 harg4 arg5 harg5 arg6 harg6 arg7 harg7 arg8 harg8 arg9 harg9 arg10 harg10 arg11 harg11 hc0 hc2 x0 x1 x2 x3 x4)) 8 := by
  dsimp only [outs, look, up, pick8, rc, hd]
  rfl
end

end Cert.AttnIdeal.Value

end
-- ==== Proof.AttnCaseD.lean ====
module

public import proofs.«01_k».proof.Proof.AttnBase
public import proofs.«01_k».proof.Proof.AttnI.Frame

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The stores of an output block where the kernel takes this way. -/

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32)
set_option maxHeartbeats 8000000 in
/-- The block before the last. -/
theorem upperD (hc0 : cond0_0 i) (g2 : 2 ≤ (i 1).val % 4) :
    nth [] [(b8 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)), (kernelRun0_D.sl.HS0_1_1 c i arg2 harg2 arg3 harg3 arg4 harg4 arg5 harg5 arg6 harg6 arg7 harg7 arg8 harg8 arg9 harg9 arg10 harg10 arg11 harg11 hc0 x0 x1 x2 x3 x4), (kernelRun0_D.sl.HS0_2 c i arg2 harg2 arg3 harg3 arg4 harg4 arg5 harg5 arg6 harg6 arg7 harg7 arg8 harg8 arg9 harg9 arg10 harg10 arg11 harg11 hc0 x0 x1 x2 x3 x4), (kernelRun0_D.sl.HS0_3 c i arg2 harg2 arg3 harg3 arg4 harg4 arg5 harg5 arg6 harg6 arg7 harg7 arg8 harg8 arg9 harg9 arg10 harg10 arg11 harg11 hc0 x0 x1 x2 x3 x4), (kernelRun0_D.sl.HS0_4 c i arg2 harg2 arg3 harg3 arg4 harg4 arg5 harg5 arg6 harg6 arg7 harg7 arg8 harg8 arg9 harg9 arg10 harg10 arg11 harg11 hc0 x0 x1 x2 x3 x4), (kernelRun0_D.sl.HS0_5 c i arg2 harg2 arg3 harg3 arg4 harg4 arg5 harg5 arg6 harg6 arg7 harg7 arg8 harg8 arg9 harg9 arg10 harg10 arg11 harg11 hc0 x0 x1 x2 x3 x4), (kernelRun0_D.sl.HS0_6 c i arg2 harg2 arg3 harg3 arg4 harg4 arg5 harg5 arg6 harg6 arg7 harg7 arg8 harg8 arg9 harg9 arg10 harg10 arg11 harg11 hc0 x0 x1 x2 x3 x4), (kernelRun0_D.sl.HS0_7 c i arg2 harg2 arg3 harg3 arg4 harg4 arg5 harg5 arg6 harg6 arg7 harg7 arg8 harg8 arg9 harg9 arg10 harg10 arg11 harg11 hc0 x0 x1 x2 x3 x4), (kernelRun0_D.sl.HS0_8 c i arg2 harg2 arg3 harg3 arg4 harg4 arg5 harg5 arg6 harg6 arg7 harg7 arg8 harg8 arg9 harg9 arg10 harg10 arg11 harg11 hc0 x0 x1 x2 x3 x4)] 8 = runM wide512 (tU i arg2 harg2 arg3 harg3 arg6 harg6 x0 x1 x4 g2) (look arg11 (slabs (gate arg5 (harg5.unread x3)) [] 8)) arg8 (b8 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)) 8
      ∧ (kernelRun0_D.sl.HS1_8 c i arg2 harg2 arg3 harg3 arg4 harg4 arg5 harg5 arg6 harg6 arg7 harg7 arg8 harg8 arg9 harg9 arg10 harg10 arg11 harg11 hc0 x0 x1 x2 x3 x4) = runL wide512 (tU i arg2 harg2 arg3 harg3 arg6 harg6 x0 x1 x4 g2) (look arg11 (slabs (gate arg5 (harg5.unread x3)) [] 8)) arg8 arg9 (b8 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)) (b9 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)) 8
      ∧ (kernelRun0_D.sl.HS2_8 c i arg2 harg2 arg3 harg3 arg4 harg4 arg5 harg5 arg6 harg6 arg7 harg7 arg8 harg8 arg9 harg9 arg10 harg10 arg11 harg11 hc0 x0 x1 x2 x3 x4) = runA wide512 (tU i arg2 harg2 arg3 harg3 arg6 harg6 x0 x1 x4 g2) (look arg11 (slabs (gate arg5 (harg5.unread x3)) [] 8)) (vs (offsU i g2) arg4 (harg4.unread x2)) arg8 arg10 (b8 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)) (b10 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)) 4 := by
  refine runs_of wide512 (tU i arg2 harg2 arg3 harg3 arg6 harg6 x0 x1 x4 g2) (look arg11 (slabs (gate arg5 (harg5.unread x3)) [] 8)) (vs (offsU i g2) arg4 (harg4.unread x2)) arg8 arg9 arg10 (b8 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)) (b9 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)) (b10 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i))
    (nth [] [(b8 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)),
    (kernelRun0_D.sl.HS0_1_1 c i arg2 harg2 arg3 harg3 arg4 harg4 arg5 harg5 arg6 harg6 arg7 harg7 arg8 harg8 arg9 harg9 arg10 harg10 arg11 harg11 hc0 x0 x1 x2 x3 x4),
    (kernelRun0_D.sl.HS0_2 c i arg2 harg2 arg3 harg3 arg4 harg4 arg5 harg5 arg6 harg6 arg7 harg7 arg8 harg8 arg9 harg9 arg10 harg10 arg11 harg11 hc0 x0 x1 x2 x3 x4),
    (kernelRun0_D.sl.HS0_3 c i arg2 harg2 arg3 harg3 arg4 harg4 arg5 harg5 arg6 harg6 arg7 harg7 arg8 harg8 arg9 harg9 arg10 harg10 arg11 harg11 hc0 x0 x1 x2 x3 x4),
    (kernelRun0_D.sl.HS0_4 c i arg2 harg2 arg3 harg3 arg4 harg4 arg5 harg5 arg6 harg6 arg7 harg7 arg8 harg8 arg9 harg9 arg10 harg10 arg11 harg11 hc0 x0 x1 x2 x3 x4),
    (kernelRun0_D.sl.HS0_5 c i arg2 harg2 arg3 harg3 arg4 harg4 arg5 harg5 arg6 harg6 arg7 harg7 arg8 harg8 arg9 harg9 arg10 harg10 arg11 harg11 hc0 x0 x1 x2 x3 x4),
    (kernelRun0_D.sl.HS0_6 c i arg2 harg2 arg3 harg3 arg4 harg4 arg5 harg5 arg6 harg6 arg7 harg7 arg8 harg8 arg9 harg9 arg10 harg10 arg11 harg11 hc0 x0 x1 x2 x3 x4),
    (kernelRun0_D.sl.HS0_7 c i arg2 harg2 arg3 harg3 arg4 harg4 arg5 harg5 arg6 harg6 arg7 harg7 arg8 harg8 arg9 harg9 arg10 harg10 arg11 harg11 hc0 x0 x1 x2 x3 x4),
    (kernelRun0_D.sl.HS0_8 c i arg2 harg2 arg3 harg3 arg4 harg4 arg5 harg5 arg6 harg6 arg7 harg7 arg8 harg8 arg9 harg9 arg10 harg10 arg11 harg11 hc0 x0 x1 x2 x3 x4)])
    (nth [] [(b9 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)),
    (kernelRun0_D.sl.HS1_1_1 c i arg2 harg2 arg3 harg3 arg4 harg4 arg5 harg5 arg6 harg6 arg7 harg7 arg8 harg8 arg9 harg9 arg10 harg10 arg11 harg11 hc0 x0 x1 x2 x3 x4),
    (kernelRun0_D.sl.HS1_2 c i arg2 harg2 arg3 harg3 arg4 harg4 arg5 harg5 arg6 harg6 arg7 harg7 arg8 harg8 arg9 harg9 arg10 harg10 arg11 harg11 hc0 x0 x1 x2 x3 x4),
    (kernelRun0_D.sl.HS1_3 c i arg2 harg2 arg3 harg3 arg4 harg4 arg5 harg5 arg6 harg6 arg7 harg7 arg8 harg8 arg9 harg9 arg10 harg10 arg11 harg11 hc0 x0 x1 x2 x3 x4),
    (kernelRun0_D.sl.HS1_4 c i arg2 harg2 arg3 harg3 arg4 harg4 arg5 harg5 arg6 harg6 arg7 harg7 arg8 harg8 arg9 harg9 arg10 harg10 arg11 harg11 hc0 x0 x1 x2 x3 x4),
    (kernelRun0_D.sl.HS1_5 c i arg2 harg2 arg3 harg3 arg4 harg4 arg5 harg5 arg6 harg6 arg7 harg7 arg8 harg8 arg9 harg9 arg10 harg10 arg11 harg11 hc0 x0 x1 x2 x3 x4),
    (kernelRun0_D.sl.HS1_6 c i arg2 harg2 arg3 harg3 arg4 harg4 arg5 harg5 arg6 harg6 arg7 harg7 arg8 harg8 arg9 harg9 arg10 harg10 arg11 harg11 hc0 x0 x1 x2 x3 x4),
    (kernelRun0_D.sl.HS1_7 c i arg2 harg2 arg3 harg3 arg4 harg4 arg5 harg5 arg6 harg6 arg7 harg7 arg8 harg8 arg9 harg9 arg10 harg10 arg11 harg11 hc0 x0 x1 x2 x3 x4),
    (kernelRun0_D.sl.HS1_8 c i arg2 harg2 arg3 harg3 arg4 harg4 arg5 harg5 arg6 harg6 arg7 harg7 arg8 harg8 arg9 harg9 arg10 harg10 arg11 harg11 hc0 x0 x1 x2 x3 x4)])
    (nth [] [(b10 c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i)),
    (kernelRun0_D.sl.HS2_1_1 c i arg2 harg2 arg3 harg3 arg4 harg4 arg5 harg5 arg6 harg6 arg7 harg7 arg8 harg8 arg9 harg9 arg10 harg10 arg11 harg11 hc0 x0 x1 x2 x3 x4),
    (kernelRun0_D.sl.HS2_2 c i arg2 harg2 arg3 harg3 arg4 harg4 arg5 harg5 arg6 harg6 arg7 harg7 arg8 harg8 arg9 harg9 arg10 harg10 arg11 harg11 hc0 x0 x1 x2 x3 x4),
    (kernelRun0_D.sl.HS2_3 c i arg2 harg2 arg3 harg3 arg4 harg4 arg5 harg5 arg6 harg6 arg7 harg7 arg8 harg8 arg9 harg9 arg10 harg10 arg11 harg11 hc0 x0 x1 x2 x3 x4),
    (kernelRun0_D.sl.HS2_4 c i arg2 harg2 arg3 harg3 arg4 harg4 arg5 harg5 arg6 harg6 arg7 harg7 arg8 harg8 arg9 harg9 arg10 harg10 arg11 harg11 hc0 x0 x1 x2 x3 x4),
    (kernelRun0_D.sl.HS2_5 c i arg2 harg2 arg3 harg3 arg4 harg4 arg5 harg5 arg6 harg6 arg7 harg7 arg8 harg8 arg9 harg9 arg10 harg10 arg11 harg11 hc0 x0 x1 x2 x3 x4),
    (kernelRun0_D.sl.HS2_6 c i arg2 harg2 arg3 harg3 arg4 harg4 arg5 harg5 arg6 harg6 arg7 harg7 arg8 harg8 arg9 harg9 arg10 harg10 arg11 harg11 hc0 x0 x1 x2 x3 x4),
    (kernelRun0_D.sl.HS2_7 c i arg2 harg2 arg3 harg3 arg4 harg4 arg5 harg5 arg6 harg6 arg7 harg7 arg8 harg8 arg9 harg9 arg10 harg10 arg11 harg11 hc0 x0 x1 x2 x3 x4),
    (kernelRun0_D.sl.HS2_8 c i arg2 harg2 arg3 harg3 arg4 harg4 arg5 harg5 arg6 harg6 arg7 harg7 arg8 harg8 arg9 harg9 arg10 harg10 arg11 harg11 hc0 x0 x1 x2 x3 x4)])
    rfl rfl rfl ?_ ?_ ?_
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> constructor <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)

set_option maxHeartbeats 8000000 in
/-- The last block. -/
theorem lastD (hc0 : cond0_0 i) (hc1 : cond0_1 i) (g1 : (i 1).val % 2 = 1) :
    nth [] [(kernelRun0_D.sl.HS0_8 c i arg2 harg2 arg3 harg3 arg4 harg4 arg5 harg5 arg6 harg6 arg7 harg7 arg8 harg8 arg9 harg9 arg10 harg10 arg11 harg11 hc0 x0 x1 x2 x3 x4), (kernelRun0_D.sl.HS0_9 c i arg2 harg2 arg3 harg3 arg4 harg4 arg5 harg5 arg6 harg6 arg7 harg7 arg8 harg8 arg9 harg9 arg10 harg10 arg11 harg11 hc0 hc1 x0 x1 x2 x3 x4), (kernelRun0_D.sl.HS0_10 c i arg2 harg2 arg3 harg3 arg4 harg4 arg5 harg5 arg6 harg6 arg7 harg7 arg8 harg8 arg9 harg9 arg10 harg10 arg11 harg11 hc0 hc1 x0 x1 x2 x3 x4), (kernelRun0_D.sl.HS0_11 c i arg2 harg2 arg3 harg3 arg4 harg4 arg5 harg5 arg6 harg6 arg7 harg7 arg8 harg8 arg9 harg9 arg10 harg10 arg11 harg11 hc0 hc1 x0 x1 x2 x3 x4), (kernelRun0_D.sl.HS0_12 c i arg2 harg2 arg3 harg3 arg4 harg4 arg5 harg5 arg6 harg6 arg7 harg7 arg8 harg8 arg9 harg9 arg10 harg10 arg11 harg11 hc0 hc1 x0 x1 x2 x3 x4), (kernelRun0_D.sl.HS0_13 c i arg2 harg2 arg3 harg3 arg4 harg4 arg5 harg5 arg6 harg6 arg7 harg7 arg8 harg8 arg9 harg9 arg10 harg10 arg11 harg11 hc0 hc1 x0 x1 x2 x3 x4), (kernelRun0_D.sl.HS0_14 c i arg2 harg2 arg3 harg3 arg4 harg4 arg5 harg5 arg6 harg6 arg7 harg7 arg8 harg8 arg9 harg9 arg10 harg10 arg11 harg11 hc0 hc1 x0 x1 x2 x3 x4), (kernelRun0_D.sl.HS0_15 c i arg2 harg2 arg3 harg3 arg4 harg4 arg5 harg5 arg6 harg6 arg7 harg7 arg8 harg8 arg9 harg9 arg10 harg10 arg11 harg11 hc0 hc1 x0 x1 x2 x3 x4), stM wide512 (tD i arg2 harg2 arg3 harg3 arg6 harg6 x0 x1 x4 g1) (look arg11 (slabs (gate arg5 (harg5.unread x3)) [] 8)) arg8 7 (kernelRun0_D.sl.HS0_15 c i arg2 harg2 arg3 harg3 arg4 harg4 arg5 harg5 arg6 harg6 arg7 harg7 arg8 harg8 arg9 harg9 arg10 harg10 arg11 harg11 hc0 hc1 x0 x1 x2 x3 x4)] 8 = runM wide512 (tD i arg2 harg2 arg3 harg3 arg6 harg6 x0 x1 x4 g1) (look arg11 (slabs (gate arg5 (harg5.unread x3)) [] 8)) arg8 (kernelRun0_D.sl.HS0_8 c i arg2 harg2 arg3 harg3 arg4 harg4 arg5 harg5 arg6 harg6 arg7 harg7 arg8 harg8 arg9 harg9 arg10 harg10 arg11 harg11 hc0 x0 x1 x2 x3 x4) 8
      ∧ (kernelRun0_D.sl.HS1_16 c i arg2 harg2 arg3 harg3 arg4 harg4 arg5 harg5 arg6 harg6 arg7 harg7 arg8 harg8 arg9 harg9 arg10 harg10 arg11 harg11 hc0 hc1 x0 x1 x2 x3 x4) = runL wide512 (tD i arg2 harg2 arg3 harg3 arg6 harg6 x0 x1 x4 g1) (look arg11 (slabs (gate arg5 (harg5.unread x3)) [] 8)) arg8 arg9 (kernelRun0_D.sl.HS0_8 c i arg2 harg2 arg3 harg3 arg4 harg4 arg5 harg5 arg6 harg6 arg7 harg7 arg8 harg8 arg9 harg9 arg10 harg10 arg11 harg11 hc0 x0 x1 x2 x3 x4) (kernelRun0_D.sl.HS1_8 c i arg2 harg2 arg3 harg3 arg4 harg4 arg5 harg5 arg6 harg6 arg7 harg7 arg8 harg8 arg9 harg9 arg10 harg10 arg11 harg11 hc0 x0 x1 x2 x3 x4) 8
      ∧ (kernelRun0_D.sl.HS2_16 c i arg2 harg2 arg3 harg3 arg4 harg4 arg5 harg5 arg6 harg6 arg7 harg7 arg8 harg8 arg9 harg9 arg10 harg10 arg11 harg11 hc0 hc1 x0 x1 x2 x3 x4) = runA wide512 (tD i arg2 harg2 arg3 harg3 arg6 harg6 x0 x1 x4 g1) (look arg11 (slabs (gate arg5 (harg5.unread x3)) [] 8)) (vs (offsD i g1) arg4 (harg4.unread x2)) arg8 arg10 (kernelRun0_D.sl.HS0_8 c i arg2 harg2 arg3 harg3 arg4 harg4 arg5 harg5 arg6 harg6 arg7 harg7 arg8 harg8 arg9 harg9 arg10 harg10 arg11 harg11 hc0 x0 x1 x2 x3 x4) (kernelRun0_D.sl.HS2_8 c i arg2 harg2 arg3 harg3 arg4 harg4 arg5 harg5 arg6 harg6 arg7 harg7 arg8 harg8 arg9 harg9 arg10 harg10 arg11 harg11 hc0 x0 x1 x2 x3 x4) 4 := by
  refine runs_of wide512 (tD i arg2 harg2 arg3 harg3 arg6 harg6 x0 x1 x4 g1) (look arg11 (slabs (gate arg5 (harg5.unread x3)) [] 8)) (vs (offsD i g1) arg4 (harg4.unread x2)) arg8 arg9 arg10 (kernelRun0_D.sl.HS0_8 c i arg2 harg2 arg3 harg3 arg4 harg4 arg5 harg5 arg6 harg6 arg7 harg7 arg8 harg8 arg9 harg9 arg10 harg10 arg11 harg11 hc0 x0 x1 x2 x3 x4) (kernelRun0_D.sl.HS1_8 c i arg2 harg2 arg3 harg3 arg4 harg4 arg5 harg5 arg6 harg6 arg7 harg7 arg8 harg8 arg9 harg9 arg10 harg10 arg11 harg11 hc0 x0 x1 x2 x3 x4) (kernelRun0_D.sl.HS2_8 c i arg2 harg2 arg3 harg3 arg4 harg4 arg5 harg5 arg6 harg6 arg7 harg7 arg8 harg8 arg9 harg9 arg10 harg10 arg11 harg11 hc0 x0 x1 x2 x3 x4)
    (nth [] [(kernelRun0_D.sl.HS0_8 c i arg2 harg2 arg3 harg3 arg4 harg4 arg5 harg5 arg6 harg6 arg7 harg7 arg8 harg8 arg9 harg9 arg10 harg10 arg11 harg11 hc0 x0 x1 x2 x3 x4),
    (kernelRun0_D.sl.HS0_9 c i arg2 harg2 arg3 harg3 arg4 harg4 arg5 harg5 arg6 harg6 arg7 harg7 arg8 harg8 arg9 harg9 arg10 harg10 arg11 harg11 hc0 hc1 x0 x1 x2 x3 x4),
    (kernelRun0_D.sl.HS0_10 c i arg2 harg2 arg3 harg3 arg4 harg4 arg5 harg5 arg6 harg6 arg7 harg7 arg8 harg8 arg9 harg9 arg10 harg10 arg11 harg11 hc0 hc1 x0 x1 x2 x3 x4),
    (kernelRun0_D.sl.HS0_11 c i arg2 harg2 arg3 harg3 arg4 harg4 arg5 harg5 arg6 harg6 arg7 harg7 arg8 harg8 arg9 harg9 arg10 harg10 arg11 harg11 hc0 hc1 x0 x1 x2 x3 x4),
    (kernelRun0_D.sl.HS0_12 c i arg2 harg2 arg3 harg3 arg4 harg4 arg5 harg5 arg6 harg6 arg7 harg7 arg8 harg8 arg9 harg9 arg10 harg10 arg11 harg11 hc0 hc1 x0 x1 x2 x3 x4),
    (kernelRun0_D.sl.HS0_13 c i arg2 harg2 arg3 harg3 arg4 harg4 arg5 harg5 arg6 harg6 arg7 harg7 arg8 harg8 arg9 harg9 arg10 harg10 arg11 harg11 hc0 hc1 x0 x1 x2 x3 x4),
    (kernelRun0_D.sl.HS0_14 c i arg2 harg2 arg3 harg3 arg4 harg4 arg5 harg5 arg6 harg6 arg7 harg7 arg8 harg8 arg9 harg9 arg10 harg10 arg11 harg11 hc0 hc1 x0 x1 x2 x3 x4),
    (kernelRun0_D.sl.HS0_15 c i arg2 harg2 arg3 harg3 arg4 harg4 arg5 harg5 arg6 harg6 arg7 harg7 arg8 harg8 arg9 harg9 arg10 harg10 arg11 harg11 hc0 hc1 x0 x1 x2 x3 x4),
    stM wide512 (tD i arg2 harg2 arg3 harg3 arg6 harg6 x0 x1 x4 g1) (look arg11 (slabs (gate arg5 (harg5.unread x3)) [] 8)) arg8 7 (kernelRun0_D.sl.HS0_15 c i arg2 harg2 arg3 harg3 arg4 harg4 arg5 harg5 arg6 harg6 arg7 harg7 arg8 harg8 arg9 harg9 arg10 harg10 arg11 harg11 hc0 hc1 x0 x1 x2 x3 x4)])
    (nth [] [(kernelRun0_D.sl.HS1_8 c i arg2 harg2 arg3 harg3 arg4 harg4 arg5 harg5 arg6 harg6 arg7 harg7 arg8 harg8 arg9 harg9 arg10 harg10 arg11 harg11 hc0 x0 x1 x2 x3 x4),
    (kernelRun0_D.sl.HS1_9 c i arg2 harg2 arg3 harg3 arg4 harg4 arg5 harg5 arg6 harg6 arg7 harg7 arg8 harg8 arg9 harg9 arg10 harg10 arg11 harg11 hc0 hc1 x0 x1 x2 x3 x4),
    (kernelRun0_D.sl.HS1_10 c i arg2 harg2 arg3 harg3 arg4 harg4 arg5 harg5 arg6 harg6 arg7 harg7 arg8 harg8 arg9 harg9 arg10 harg10 arg11 harg11 hc0 hc1 x0 x1 x2 x3 x4),
    (kernelRun0_D.sl.HS1_11 c i arg2 harg2 arg3 harg3 arg4 harg4 arg5 harg5 arg6 harg6 arg7 harg7 arg8 harg8 arg9 harg9 arg10 harg10 arg11 harg11 hc0 hc1 x0 x1 x2 x3 x4),
    (kernelRun0_D.sl.HS1_12 c i arg2 harg2 arg3 harg3 arg4 harg4 arg5 harg5 arg6 harg6 arg7 harg7 arg8 harg8 arg9 harg9 arg10 harg10 arg11 harg11 hc0 hc1 x0 x1 x2 x3 x4),
    (kernelRun0_D.sl.HS1_13 c i arg2 harg2 arg3 harg3 arg4 harg4 arg5 harg5 arg6 harg6 arg7 harg7 arg8 harg8 arg9 harg9 arg10 harg10 arg11 harg11 hc0 hc1 x0 x1 x2 x3 x4),
    (kernelRun0_D.sl.HS1_14 c i arg2 harg2 arg3 harg3 arg4 harg4 arg5 harg5 arg6 harg6 arg7 harg7 arg8 harg8 arg9 harg9 arg10 harg10 arg11 harg11 hc0 hc1 x0 x1 x2 x3 x4),
    (kernelRun0_D.sl.HS1_15 c i arg2 harg2 arg3 harg3 arg4 harg4 arg5 harg5 arg6 harg6 arg7 harg7 arg8 harg8 arg9 harg9 arg10 harg10 arg11 harg11 hc0 hc1 x0 x1 x2 x3 x4),
    (kernelRun0_D.sl.HS1_16 c i arg2 harg2 arg3 harg3 arg4 harg4 arg5 harg5 arg6 harg6 arg7 harg7 arg8 harg8 arg9 harg9 arg10 harg10 arg11 harg11 hc0 hc1 x0 x1 x2 x3 x4)])
    (nth [] [(kernelRun0_D.sl.HS2_8 c i arg2 harg2 arg3 harg3 arg4 harg4 arg5 harg5 arg6 harg6 arg7 harg7 arg8 harg8 arg9 harg9 arg10 harg10 arg11 harg11 hc0 x0 x1 x2 x3 x4),
    (kernelRun0_D.sl.HS2_9 c i arg2 harg2 arg3 harg3 arg4 harg4 arg5 harg5 arg6 harg6 arg7 harg7 arg8 harg8 arg9 harg9 arg10 harg10 arg11 harg11 hc0 hc1 x0 x1 x2 x3 x4),
    (kernelRun0_D.sl.HS2_10 c i arg2 harg2 arg3 harg3 arg4 harg4 arg5 harg5 arg6 harg6 arg7 harg7 arg8 harg8 arg9 harg9 arg10 harg10 arg11 harg11 hc0 hc1 x0 x1 x2 x3 x4),
    (kernelRun0_D.sl.HS2_11 c i arg2 harg2 arg3 harg3 arg4 harg4 arg5 harg5 arg6 harg6 arg7 harg7 arg8 harg8 arg9 harg9 arg10 harg10 arg11 harg11 hc0 hc1 x0 x1 x2 x3 x4),
    (kernelRun0_D.sl.HS2_12 c i arg2 harg2 arg3 harg3 arg4 harg4 arg5 harg5 arg6 harg6 arg7 harg7 arg8 harg8 arg9 harg9 arg10 harg10 arg11 harg11 hc0 hc1 x0 x1 x2 x3 x4),
    (kernelRun0_D.sl.HS2_13 c i arg2 harg2 arg3 harg3 arg4 harg4 arg5 harg5 arg6 harg6 arg7 harg7 arg8 harg8 arg9 harg9 arg10 harg10 arg11 harg11 hc0 hc1 x0 x1 x2 x3 x4),
    (kernelRun0_D.sl.HS2_14 c i arg2 harg2 arg3 harg3 arg4 harg4 arg5 harg5 arg6 harg6 arg7 harg7 arg8 harg8 arg9 harg9 arg10 harg10 arg11 harg11 hc0 hc1 x0 x1 x2 x3 x4),
    (kernelRun0_D.sl.HS2_15 c i arg2 harg2 arg3 harg3 arg4 harg4 arg5 harg5 arg6 harg6 arg7 harg7 arg8 harg8 arg9 harg9 arg10 harg10 arg11 harg11 hc0 hc1 x0 x1 x2 x3 x4),
    (kernelRun0_D.sl.HS2_16 c i arg2 harg2 arg3 harg3 arg4 harg4 arg5 harg5 arg6 harg6 arg7 harg7 arg8 harg8 arg9 harg9 arg10 harg10 arg11 harg11 hc0 hc1 x0 x1 x2 x3 x4)])
    rfl rfl rfl ?_ ?_ ?_
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)
  · intro n hn; interval_cases n <;> constructor <;> (dsimp only [stM, stL, stA₀, stA₁, tE, tD, tU, nM, nF, nP, nL, nV, nA, nA', dn, up, wide256, wide512, tile256, tile512, diag256, diag512, peek, look, qs, ks, cs, vs, gate, offsE, offsD, offsU, pick8, pick4, rc, hd]; rfl)

set_option maxHeartbeats 8000000 in
/-- The output block's stores. -/
theorem outsD (hc0 : cond0_0 i) (hc1 : cond0_1 i) (hc2 : ¬cond0_2 i) : (kernelRun0_D c i arg2 harg2 arg3 harg3 arg4 harg4 arg5 harg5 arg6 harg6 arg7 harg7 arg8 harg8 arg9 harg9 arg10 harg10 arg11 harg11 hc0 hc1 hc2 x0 x1 x2 x3 x4).1 = outs (look arg9 (kernelRun0_D.sl.HS1_16 c i arg2 harg2 arg3 harg3 arg4 harg4 arg5 harg5 arg6 harg6 arg7 harg7 arg8 harg8 arg9 harg9 arg10 harg10 arg11 harg11 hc0 hc1 x0 x1 x2 x3 x4)) (look arg10 (kernelRun0_D.sl.HS2_16 c i arg2 harg2 arg3 harg3 arg4 harg4 arg5 harg5 arg6 harg6 arg7 harg7 arg8 harg8 arg9 harg9 arg10 harg10 arg11 harg11 hc0 hc1 x0 x1 x2 x3 x4)) 8 := by
  dsimp only [outs, look, up, pick8, rc, hd]
  rfl
end

end Cert.AttnIdeal.Value

end
-- ==== Proof.AttnCells.lean ====
module

public import proofs.«01_k».proof.Proof.AttnRows
public import proofs.«01_k».proof.Proof.AttnCaseA
public import proofs.«01_k».proof.Proof.AttnCaseB
public import proofs.«01_k».proof.Proof.AttnCaseC
public import proofs.«01_k».proof.Proof.AttnCaseD
public import proofs.«01_k».proof.Proof.AttnI.Frame

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The output array. -/

section
variable (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S256x128 .f32) (harg5 : arg5.IsWhole) (arg6 : Memref sig .tc .vmem S1x8x2048 .f32) (harg6 : arg6.IsWhole) (arg7 : Memref sig .tc .vmem S256x1024 .bf16) (harg7 : arg7.IsWhole) (arg8 : Memref sig .tc .vmem S8x256x128 .f32) (harg8 : arg8.IsWhole) (arg9 : Memref sig .tc .vmem S8x256x128 .f32) (harg9 : arg9.IsWhole) (arg10 : Memref sig .tc .vmem S8x256x128 .f32) (harg10 : arg10.IsWhole) (arg11 : Memref sig .tc .vmem S8x256x128 .f32) (harg11 : arg11.IsWhole)
  (x0 : Vec Ideal S256x1024 .bf16) (x1 : Vec Ideal S2048x1024 .bf16) (x2 : Vec Ideal S2048x1024 .bf16) (x3 : Vec Ideal S256x128 .f32) (x4 : Vec Ideal S1x8x2048 .f32)
  {q : Fin 256 → Fin 1024 → ℝ} {k : Fin 2048 → Fin 1024 → ℝ} {g : Fin 256 → Fin 8 → ℝ} {t : Fin 8 → Fin 2048 → ℝ} (R : Reals x0 x1 x3 x4 q k g t)
include R

set_option maxHeartbeats 2000000 in
theorem rowsA (hc0 : ¬cond0_0 i) (hc1 : ¬cond0_1 i) (hc2 : cond0_2 i) (hi : (i 1).val % 4 = 0) (h : ℕ) (hh : h < 8) (r : Fin 256) (d : Fin 128) :
    out0_A_5 (F := Ideal) c i arg2 harg2 arg3 harg3 arg4 harg4 arg5 harg5 arg6 harg6 arg7 harg7 arg8 harg8 arg9 harg9 arg10 harg10 arg11 harg11 hc0 hc1 hc2 x0 x1 x2 x3 x4 (ix2 r (col h d)) = mean x2 (U q k g t) (last i) h r d := by
  have hi8 : (i 1).val < 8 := (i 1).isLt
  unfold out0_A_5
  rw [outsA]
  have H2 := lastEven i arg2 harg2 arg3 harg3 arg4 harg4 arg5 harg5 arg6 harg6 arg8 arg9 arg10 arg11 x0 x1 x2 x3 x4 R _ _ _ _ (by omega) (before c i arg2 harg2 arg3 harg3 arg4 harg4 arg5 harg5 arg6 harg6 arg7 harg7 arg8 harg8 arg9 harg9 arg10 harg10 arg11 harg11 x0 x1 x2 x3 x4 (kernelRun0_A.sl.r_1 c arg5 harg5 x3) (kernelRun0_A.sl.v81 i) R)
  obtain ⟨-, eL', eA'⟩ := lastA c i arg2 harg2 arg3 harg3 arg4 harg4 arg5 harg5 arg6 harg6 arg7 harg7 arg8 harg8 arg9 harg9 arg10 harg10 arg11 harg11 x0 x1 x2 x3 x4 hc2
  rw [eL', eA']
  exact finish VO0_5 x2 _ _ _ _ _ _ (fun r => by unfold last; omega) (by omega) H2 h hh r d

set_option maxHeartbeats 2000000 in
theorem rowsB (hc0 : ¬cond0_0 i) (hc1 : cond0_1 i) (hc2 : ¬cond0_2 i) (hi : (i 1).val % 4 = 1) (h : ℕ) (hh : h < 8) (r : Fin 256) (d : Fin 128) :
    out0_B_5 (F := Ideal) c i arg2 harg2 arg3 harg3 arg4 harg4 arg5 harg5 arg6 harg6 arg7 harg7 arg8 harg8 arg9 harg9 arg10 harg10 arg11 harg11 hc0 hc1 hc2 x0 x1 x2 x3 x4 (ix2 r (col h d)) = mean x2 (U q k g t) (last i) h r d := by
  have hi8 : (i 1).val < 8 := (i 1).isLt
  unfold out0_B_5
  rw [outsB]
  have H2 := lastOdd i arg2 harg2 arg3 harg3 arg4 harg4 arg5 harg5 arg6 harg6 arg8 arg9 arg10 arg11 x0 x1 x2 x3 x4 R (by omega) _ _ _ _ (by omega) (before c i arg2 harg2 arg3 harg3 arg4 harg4 arg5 harg5 arg6 harg6 arg7 harg7 arg8 harg8 arg9 harg9 arg10 harg10 arg11 harg11 x0 x1 x2 x3 x4 (kernelRun0_B.sl.r_1 c arg5 harg5 x3) (kernelRun0_B.sl.v81 i) R)
  obtain ⟨-, eL', eA'⟩ := lastB c i arg2 harg2 arg3 harg3 arg4 harg4 arg5 harg5 arg6 harg6 arg7 harg7 arg8 harg8 arg9 harg9 arg10 harg10 arg11 harg11 x0 x1 x2 x3 x4 hc1 (by omega)
  rw [eL', eA']
  exact finish VO0_5 x2 _ _ _ _ _ _ (fun r => by unfold last; omega) (by omega) H2 h hh r d

set_option maxHeartbeats 2000000 in
theorem rowsC (hc0 : cond0_0 i) (hc1 : ¬cond0_1 i) (hc2 : cond0_2 i) (hi : (i 1).val % 4 = 2) (h : ℕ) (hh : h < 8) (r : Fin 256) (d : Fin 128) :
    out0_C_5 (F := Ideal) c i arg2 harg2 arg3 harg3 arg4 harg4 arg5 harg5 arg6 harg6 arg7 harg7 arg8 harg8 arg9 harg9 arg10 harg10 arg11 harg11 hc0 hc1 hc2 x0 x1 x2 x3 x4 (ix2 r (col h d)) = mean x2 (U q k g t) (last i) h r d := by
  have hi8 : (i 1).val < 8 := (i 1).isLt
  unfold out0_C_5
  rw [outsC]
  obtain ⟨eM, eL, eA⟩ := upperC c i arg2 harg2 arg3 harg3 arg4 harg4 arg5 harg5 arg6 harg6 arg7 harg7 arg8 harg8 arg9 harg9 arg10 harg10 arg11 harg11 x0 x1 x2 x3 x4 hc0 (by omega)
  have H := between i arg2 harg2 arg3 harg3 arg4 harg4 arg5 harg5 arg6 harg6 arg8 arg9 arg10 arg11 x0 x1 x2 x3 x4 R (by omega) _ _ _ (before c i arg2 harg2 arg3 harg3 arg4 harg4 arg5 harg5 arg6 harg6 arg7 harg7 arg8 harg8 arg9 harg9 arg10 harg10 arg11 harg11 x0 x1 x2 x3 x4 (kernelRun0_C.sl.r_1 c arg5 harg5 x3) (kernelRun0_C.sl.v81 i) R)
  rw [← eL, ← eA] at H
  have H' : ∀ h < 8, Inv (U q k g t h) (V x2 h) (last i) (1024 * ((i 1).val / 4) + 512) (look arg8 (kernelRun0_C.sl.HS0_8 c i arg2 harg2 arg3 harg3 arg4 harg4 arg5 harg5 arg6 harg6 arg7 harg7 arg8 harg8 arg9 harg9 arg10 harg10 arg11 harg11 hc0 x0 x1 x2 x3 x4) h) (look arg9 (kernelRun0_C.sl.HS1_8 c i arg2 harg2 arg3 harg3 arg4 harg4 arg5 harg5 arg6 harg6 arg7 harg7 arg8 harg8 arg9 harg9 arg10 harg10 arg11 harg11 hc0 x0 x1 x2 x3 x4) h) (look arg10 (kernelRun0_C.sl.HS2_8 c i arg2 harg2 arg3 harg3 arg4 harg4 arg5 harg5 arg6 harg6 arg7 harg7 arg8 harg8 arg9 harg9 arg10 harg10 arg11 harg11 hc0 x0 x1 x2 x3 x4) h) := by
    intro h hh
    have e := H h hh
    rw [← eM] at e
    exact e
  have H2 := lastEven i arg2 harg2 arg3 harg3 arg4 harg4 arg5 harg5 arg6 harg6 arg8 arg9 arg10 arg11 x0 x1 x2 x3 x4 R _ _ _ _ (by omega) H'
  obtain ⟨-, eL', eA'⟩ := lastC c i arg2 harg2 arg3 harg3 arg4 harg4 arg5 harg5 arg6 harg6 arg7 harg7 arg8 harg8 arg9 harg9 arg10 harg10 arg11 harg11 x0 x1 x2 x3 x4 hc0 hc2
  rw [eL', eA']
  exact finish VO0_5 x2 _ _ _ _ _ _ (fun r => by unfold last; omega) (by omega) H2 h hh r d

set_option maxHeartbeats 2000000 in
theorem rowsD (hc0 : cond0_0 i) (hc1 : cond0_1 i) (hc2 : ¬cond0_2 i) (hi : (i 1).val % 4 = 3) (h : ℕ) (hh : h < 8) (r : Fin 256) (d : Fin 128) :
    out0_D_5 (F := Ideal) c i arg2 harg2 arg3 harg3 arg4 harg4 arg5 harg5 arg6 harg6 arg7 harg7 arg8 harg8 arg9 harg9 arg10 harg10 arg11 harg11 hc0 hc1 hc2 x0 x1 x2 x3 x4 (ix2 r (col h d)) = mean x2 (U q k g t) (last i) h r d := by
  have hi8 : (i 1).val < 8 := (i 1).isLt
  unfold out0_D_5
  rw [outsD]
  obtain ⟨eM, eL, eA⟩ := upperD c i arg2 harg2 arg3 harg3 arg4 harg4 arg5 harg5 arg6 harg6 arg7 harg7 arg8 harg8 arg9 harg9 arg10 harg10 arg11 harg11 x0 x1 x2 x3 x4 hc0 (by omega)
  have H := between i arg2 harg2 arg3 harg3 arg4 harg4 arg5 harg5 arg6 harg6 arg8 arg9 arg10 arg11 x0 x1 x2 x3 x4 R (by omega) _ _ _ (before c i arg2 harg2 arg3 harg3 arg4 harg4 arg5 harg5 arg6 harg6 arg7 harg7 arg8 harg8 arg9 harg9 arg10 harg10 arg11 harg11 x0 x1 x2 x3 x4 (kernelRun0_D.sl.r_1 c arg5 harg5 x3) (kernelRun0_D.sl.v81 i) R)
  rw [← eL, ← eA] at H
  have H' : ∀ h < 8, Inv (U q k g t h) (V x2 h) (last i) (1024 * ((i 1).val / 4) + 512) (look arg8 (kernelRun0_D.sl.HS0_8 c i arg2 harg2 arg3 harg3 arg4 harg4 arg5 harg5 arg6 harg6 arg7 harg7 arg8 harg8 arg9 harg9 arg10 harg10 arg11 harg11 hc0 x0 x1 x2 x3 x4) h) (look arg9 (kernelRun0_D.sl.HS1_8 c i arg2 harg2 arg3 harg3 arg4 harg4 arg5 harg5 arg6 harg6 arg7 harg7 arg8 harg8 arg9 harg9 arg10 harg10 arg11 harg11 hc0 x0 x1 x2 x3 x4) h) (look arg10 (kernelRun0_D.sl.HS2_8 c i arg2 harg2 arg3 harg3 arg4 harg4 arg5 harg5 arg6 harg6 arg7 harg7 arg8 harg8 arg9 harg9 arg10 harg10 arg11 harg11 hc0 x0 x1 x2 x3 x4) h) := by
    intro h hh
    have e := H h hh
    rw [← eM] at e
    exact e
  have H2 := lastOdd i arg2 harg2 arg3 harg3 arg4 harg4 arg5 harg5 arg6 harg6 arg8 arg9 arg10 arg11 x0 x1 x2 x3 x4 R (by omega) _ _ _ _ (by omega) H'
  obtain ⟨-, eL', eA'⟩ := lastD c i arg2 harg2 arg3 harg3 arg4 harg4 arg5 harg5 arg6 harg6 arg7 harg7 arg8 harg8 arg9 harg9 arg10 harg10 arg11 harg11 x0 x1 x2 x3 x4 hc0 hc1 (by omega)
  rw [eL', eA']
  exact finish VO0_5 x2 _ _ _ _ _ _ (fun r => by unfold last; omega) (by omega) H2 h hh r d
end

end Cert.AttnIdeal.Value

end
-- ==== Proof.AttnOut.lean ====
module

public import proofs.«01_k».proof.Proof.AttnCells
public import proofs.«01_k».proof.Proof.AttnI.Blocks

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-! The same over the whole arrays: batch `b`, head `h`, query `p`. -/

/-- Row `p` of batch `b`. -/
def grow (b : Fin 8) (p : Fin 2048) : Fin 16384 := ⟨2048 * b.val + p.val, by omega⟩

section
variable (q k : Fin 16384 → Fin 1024 → ℝ) (g : Fin 16384 → Fin 8 → ℝ) (t : Fin 8 → Fin 8 → Fin 2048 → ℝ) (v : FVec Ideal S16384x1024 .bf16)
/-- The scores, -/
def gsc (b : Fin 8) (h : ℕ) (p : Fin 2048) (j : ℕ) : ℝ :=
  if hj : j < 2048 then (∑ d : Fin 128, q (grow b p) (col h d) * k (grow b ⟨j, hj⟩) (col h d)) + g (grow b p) (hx h) - t b (hx h) ⟨j, hj⟩ else 0
/-- the values, -/
def gvl (b : Fin 8) (h : ℕ) (d : Fin 128) (j : ℕ) : EReal := if hj : j < 2048 then v (ix2 (grow b ⟨j, hj⟩) (col h d)) else 0
/-- and the weighted means. -/
def gmean (b : Fin 8) (h : ℕ) (p : Fin 2048) (d : Fin 128) : EReal :=
  ∑ j ∈ Finset.range 2048, ((Online.wt (gsc q k g t b h p) p.val j / ∑ i ∈ Finset.range 2048, Online.wt (gsc q k g t b h p) p.val i : ℝ) : EReal) * gvl v b h d j
/-- The mean that row `a` and column `e` of the output hold. -/
@[irreducible] def attn (a : Fin 16384) (e : Fin 1024) : EReal :=
  gmean q k g t v ⟨a.val / 2048, by omega⟩ (e.val / 128) ⟨a.val % 2048, by omega⟩ ⟨e.val % 128, by omega⟩
end

/-- The arrays' entries are these reals. -/
structure GReals (xq xk : FVec Ideal S16384x1024 .bf16) (xc : FVec Ideal S16384x128 .f32) (xt : FVec Ideal S8x8x2048 .f32)
    (q k : Fin 16384 → Fin 1024 → ℝ) (g : Fin 16384 → Fin 8 → ℝ) (t : Fin 8 → Fin 8 → Fin 2048 → ℝ) : Prop where
  q : ∀ r e, xq (ix2 r e) = ((q r e : ℝ) : EReal)
  k : ∀ r e, xk (ix2 r e) = ((k r e : ℝ) : EReal)
  g : ∀ r (h : ℕ), xc (ix2 r (hl h)) = ((g r (hx h) : ℝ) : EReal)
  t : ∀ b h j, xt (ix3 b h j) = ((t b h j : ℝ) : EReal)

variable (m : (ℓ : Loc nD τ sig) → Buf (Elt Ideal) ℓ)

theorem idx : ∀ t : Fin cfg0.N, win0_0.index t = ![t.val, 0] ∧ win0_1.index t = ![t.val / 8, 0]
    ∧ win0_2.index t = ![t.val / 8, 0] ∧ win0_3.index t = ![t.val, 0] ∧ win0_4.index t = ![t.val / 8, 0, 0] ∧ win0_5.index t = ![t.val, 0] :=
  (by decide +kernel : ∀ t : Fin grid0.N, _)
theorem coord1 : ∀ t : Fin cfg0.N, (grid0.coords t 1).val = t.val % 8 :=
  (by decide +kernel : ∀ t : Fin grid0.N, _)

abbrev XQ (c : Dev nD) : FVec Ideal S16384x1024 .bf16 := m ((c : Thread nD τ).loc main_arg0)
abbrev XK (c : Dev nD) : FVec Ideal S16384x1024 .bf16 := m ((c : Thread nD τ).loc main_arg1)
abbrev XV (c : Dev nD) : FVec Ideal S16384x1024 .bf16 := m ((c : Thread nD τ).loc main_arg2)
abbrev XC (c : Dev nD) : FVec Ideal S16384x128 .f32 := m ((c : Thread nD τ).loc main_arg3)
abbrev XT (c : Dev nD) : FVec Ideal S8x8x2048 .f32 := m ((c : Thread nD τ).loc main_arg4)

theorem lt_N (t : Fin cfg0.N) : t.val < 64 := lt_of_lt_of_eq t.isLt N_0
/-- The batch of a grid point, -/
abbrev bt (t : Fin cfg0.N) : Fin 8 := ⟨t.val / 8, by have := lt_N t; omega⟩
/-- and the position of its query `r`. -/
abbrev pos (t : Fin cfg0.N) (r : Fin 256) : Fin 2048 := ⟨256 * (t.val % 8) + r.val, by omega⟩
abbrev rowOf (t : Fin cfg0.N) (a : Fin 256) : Fin 16384 := ⟨t.val * 256 + a.val, by have := lt_N t; omega⟩
abbrev keyOf (t : Fin cfg0.N) (a : Fin 2048) : Fin 16384 := ⟨t.val / 8 * 2048 + a.val, by have := lt_N t; omega⟩
theorem rowOf_eq (t : Fin cfg0.N) (r : Fin 256) : rowOf t r = grow (bt t) (pos t r) := Fin.ext (by
  show t.val * 256 + r.val = 2048 * (t.val / 8) + (256 * (t.val % 8) + r.val); omega)
theorem keyOf_eq (t : Fin cfg0.N) (j : Fin 2048) : keyOf t j = grow (bt t) j := Fin.ext (by
  show t.val / 8 * 2048 + j.val = 2048 * (t.val / 8) + j.val; omega)

section
variable (c : Dev nD) (q k : Fin 16384 → Fin 1024 → ℝ) (g : Fin 16384 → Fin 8 → ℝ) (s : Fin 8 → Fin 8 → Fin 2048 → ℝ)

theorem blk0 (t : Fin cfg0.N) (r : Fin 256) (e : Fin 1024) :
    (show FVec Ideal S256x1024 .bf16 from iblk m c 0 t) (ix2 r e) = XQ m c (ix2 (rowOf t r) e) := by
  blk_ext [iblk, Gen.V, idx t]
theorem blk1 (t : Fin cfg0.N) (r : Fin 2048) (e : Fin 1024) :
    (show FVec Ideal S2048x1024 .bf16 from iblk m c 1 t) (ix2 r e) = XK m c (ix2 (keyOf t r) e) := by
  blk_ext [iblk, Gen.V, idx t]
theorem blk2 (t : Fin cfg0.N) (r : Fin 2048) (e : Fin 1024) :
    (show FVec Ideal S2048x1024 .bf16 from iblk m c 2 t) (ix2 r e) = XV m c (ix2 (keyOf t r) e) := by
  blk_ext [iblk, Gen.V, idx t]
theorem blk3 (t : Fin cfg0.N) (r : Fin 256) (e : Fin 128) :
    (show FVec Ideal S256x128 .f32 from iblk m c 3 t) (ix2 r e) = XC m c (ix2 (rowOf t r) e) := by
  blk_ext [iblk, Gen.V, idx t]
theorem blk4 (t : Fin cfg0.N) (h : Fin 8) (j : Fin 2048) :
    (show FVec Ideal S1x8x2048 .f32 from iblk m c 4 t) (ix3 0 h j) = XT m c (ix3 (bt t) h j) := by
  blk_ext [iblk, Gen.V, idx t]

/-- The queries of a grid point's block, its batch's keys, gates and sums. -/
abbrev bq (t : Fin cfg0.N) : Fin 256 → Fin 1024 → ℝ := fun r e => q (grow (bt t) (pos t r)) e
abbrev bk (t : Fin cfg0.N) : Fin 2048 → Fin 1024 → ℝ := fun j e => k (grow (bt t) j) e
abbrev bg (t : Fin cfg0.N) : Fin 256 → Fin 8 → ℝ := fun r h => g (grow (bt t) (pos t r)) h
abbrev bs (t : Fin cfg0.N) : Fin 8 → Fin 2048 → ℝ := fun h j => s (bt t) h j

theorem breals (R : GReals (XQ m c) (XK m c) (XC m c) (XT m c) q k g s) (t : Fin cfg0.N) :
    Reals (iblk m c 0 t) (iblk m c 1 t) (iblk m c 3 t) (iblk m c 4 t) (bq q t) (bk k t) (bg g t) (bs s t) :=
  ⟨fun r e => by unfold bq; rw [← rowOf_eq, ← R.q]; exact blk0 m c t r e, fun j e => by unfold bk; rw [← keyOf_eq, ← R.k]; exact blk1 m c t j e,
    fun r h => by unfold bg; rw [← rowOf_eq, ← R.g]; exact blk3 m c t r (hl h), fun h j => by unfold bs; rw [← R.t]; exact blk4 m c t h j⟩

/-- A block's weighted mean is the array's. -/
theorem mean_eq (t : Fin cfg0.N) (r : Fin 256) (h : ℕ) (hh : h < 8) (d : Fin 128) :
    mean (iblk m c 2 t) (U (bq q t) (bk k t) (bg g t) (bs s t)) (last (grid0.coords t)) h r d = attn q k g s (XV m c) (rowOf t r) (col h d) := by
  have hN := lt_N t
  have ec : (col h d).val = 128 * h + d.val := by
    have := hd_eq ⟨h, hh⟩
    show 128 * hd h + d.val = _
    simp only at this; omega
  have eb : (⟨(rowOf t r).val / 2048, by have := (rowOf t r).isLt; omega⟩ : Fin 8) = bt t := Fin.ext (by show (t.val * 256 + r.val) / 2048 = t.val / 8; omega)
  have ep : (⟨(rowOf t r).val % 2048, by omega⟩ : Fin 2048) = pos t r := Fin.ext (by show (t.val * 256 + r.val) % 2048 = 256 * (t.val % 8) + r.val; omega)
  have eh : (col h d).val / 128 = h := by omega
  have ed : (⟨(col h d).val % 128, by omega⟩ : Fin 128) = d := Fin.ext (by show (col h d).val % 128 = d.val; omega)
  unfold attn
  rw [eb, ep, eh, ed]
  unfold mean gmean
  have el : last (grid0.coords t) r = (pos t r).val := by unfold last; rw [coord1]
  rw [el]
  refine Finset.sum_congr rfl fun j _ => congrArg₂ (· * ·) rfl ?_
  unfold V gvl
  split_ifs with hj
  · rw [← keyOf_eq]; exact blk2 m c t ⟨j, hj⟩ _
  · rfl

/-- What a grid point leaves in the output's block. -/
theorem outs_at (R : GReals (XQ m c) (XK m c) (XC m c) (XT m c) q k g s) (t : Fin cfg0.N) (r : Fin 256) (h : ℕ) (hh : h < 8) (d : Fin 128) :
    (show FVec Ideal S256x1024 .bf16 from outsAt0 m c t.val t.isLt) (ix2 r (col h d)) = attn q k g s (XV m c) (rowOf t r) (col h d) := by
  have RR := breals m c q k g s R t
  have h4 := coord1 t
  refine Eq.trans ?_ (mean_eq m c q k g s t r h hh d)
  by_cases h0 : t.val % 4 = 2 ∨ t.val % 4 = 3 <;> by_cases h1 : t.val % 2 = 1
  · have h2 : ¬t.val % 2 = 0 := by omega
    refine (congrFun (outsAt0_D m c t h0 h1 h2) _).trans ?_
    exact rowsD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) RR ((hcond0_0 t).mpr h0) ((hcond0_1 t).mpr h1) (fun h => h2 ((hcond0_2 t).mp h)) (by omega) h hh r d
  · have h2 : t.val % 2 = 0 := by omega
    refine (congrFun (outsAt0_C m c t h0 h1 h2) _).trans ?_
    exact rowsC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) RR ((hcond0_0 t).mpr h0) (fun h => h1 ((hcond0_1 t).mp h)) ((hcond0_2 t).mpr h2) (by omega) h hh r d
  · have h2 : ¬t.val % 2 = 0 := by omega
    refine (congrFun (outsAt0_B m c t h0 h1 h2) _).trans ?_
    exact rowsB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) RR (fun h => h0 ((hcond0_0 t).mp h)) ((hcond0_1 t).mpr h1) (fun h => h2 ((hcond0_2 t).mp h)) (by omega) h hh r d
  · have h2 : t.val % 2 = 0 := by omega
    refine (congrFun (outsAt0_A m c t h0 h1 h2) _).trans ?_
    exact rowsA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) RR (fun h => h0 ((hcond0_0 t).mp h)) (fun h => h1 ((hcond0_1 t).mp h)) ((hcond0_2 t).mpr h2) (by omega) h hh r d
end

end Cert.AttnIdeal.Value

end
-- ==== Proof.AttnPre.lean ====
module

public import proofs.«01_k».proof.Pre_finite_inputs
public import proofs.«01_k».proof.Proof.AttnOut
public import Idealize.ShloMosaic.Lib.ReduceAll

@[expose] public section

set_option maxRecDepth 16384

noncomputable section

open Idealize.ShloMosaic Idealize.ShloMosaic.TcCoe Idealize.SL.Sem

namespace Cert.Pre_finite_inputs
open Cert.AttnIdeal.Value (hx hl hd hd_eq GReals)

/-! What the precondition says: each query, key, running sum of forget scores is a real number. -/

instance facts : Facts where
  bitsLt_bf16_f32 := by decide
  bcast_S_S16384x1024 := by decide
  reducesTo_S16384x1024_S_d0_1 := by decide
  h_S_ := by decide
  slices_S16384x128_S16384x8_0_0 := by decide
  bcast_S_S16384x8 := by decide
  reducesTo_S16384x8_S_d0_1 := by decide
  bcast_S_S8x8x2048 := by decide
  reducesTo_S8x8x2048_S_d0_1_2 := by decide

instance : Subsingleton S_.Idx := ⟨fun a b => funext fun d => d.elim0⟩

theorem word_top : Ideal.ofBits .f32 0x7F800000#32 = ⊤ := by simp [Ideal.ofBits, Ideal.ieee]

/-- A magnitude below infinity belongs to a real number. -/
theorem real_of_abs (x : EReal) (h : max x (-x) < ⊤) : x = ((x.toReal : ℝ) : EReal) := by
  refine (EReal.coe_toReal ?_ ?_).symm
  · rintro rfl; simp at h
  · rintro rfl; simp at h

/-- One array whose magnitudes are all compared below infinity holds real numbers. -/
theorem reals_of {s : Shape} {axes : List (Fin s.rank)} (x : s.Idx → EReal) (hb : S_.BroadcastsInDim s (![] : Fin 0 → Fin s.rank))
    (hr : s.ReducesTo axes S_) (h1 : 0 < S_.numel) (j : S_.Idx)
    (e : Host.reduce IntOp.andi (cmpf (F := Ideal) .olt (Host.absf (F := Ideal) (φ := .f32) x) (broadcastInDim s ![] hb (constant (F := Ideal) S_ .f32 0x7F800000#32)))
      (constantI S_ 1 1#1) hr h1 j = 1#1) (i : s.Idx) : x i = (((x i).toReal : ℝ) : EReal) := by
  have h := Host.reduce_andi_all _ _ _ _ j e i
  refine real_of_abs _ ?_
  have h2 : BitVec.ofBool (decide (max (x i) (-(x i)) < Ideal.ofBits .f32 0x7F800000#32)) = 1#1 := h
  rw [word_top] at h2
  by_contra hc
  rw [decide_eq_false hc] at h2
  exact absurd h2 (by decide)

/-- The first eight lanes of a row of running sums, one per head. -/
theorem slice_at (x : S16384x128.Idx → EReal) (hs : S16384x128.Slices ![0, 0] S16384x8) (r : Fin 16384) (h : ℕ) :
    extractStridedSlice S16384x8 ![0, 0] x hs (ix2 r (hx h)) = x (ix2 r (hl h)) := by
  unfold extractStridedSlice
  refine congrArg x (funext fun d => Fin.ext ?_)
  fin_cases d
  · show 0 + r.val = r.val; omega
  · show 0 + hd h = hd h; omega

theorem reals [Facts] (x0 x1 x2 : S16384x1024.Idx → EReal) (x3 : S16384x128.Idx → EReal) (x4 : S8x8x2048.Idx → EReal)
    (e : fn (F := Ideal) x0 x1 x2 x3 x4 = fun _ => 1#1) :
    GReals x0 x1 x3 x4 (fun r e => (x0 (ix2 r e)).toReal) (fun r e => (x1 (ix2 r e)).toReal)
      (fun r h => (x3 (ix2 r ⟨h.val, by omega⟩)).toReal) (fun b h j => (x4 (ix3 b h j)).toReal) := by
  have e0 := congrFun e (fun d => d.elim0)
  obtain ⟨e1, e4⟩ := IntOp.andi_eq_one.1 e0
  obtain ⟨e2, e3⟩ := IntOp.andi_eq_one.1 e1
  obtain ⟨eq, ek⟩ := IntOp.andi_eq_one.1 e2
  refine ⟨fun r e => reals_of x0 _ _ _ _ eq _, fun r e => reals_of x1 _ _ _ _ ek _, fun r h => ?_,
    fun b h j => reals_of x4 _ _ _ _ e4 _⟩
  have h3 := reals_of _ _ _ _ _ e3 (ix2 r (hx h))
  beta_reduce at h3
  have h4 := slice_at x3 Facts.slices_S16384x128_S16384x8_0_0 r h
  exact h4.symm.trans (h3.trans (congrArg (fun y : EReal => ((y.toReal : ℝ) : EReal)) h4))

end Cert.Pre_finite_inputs
-- ==== Proof.AttnFinal.lean ====
module

public import proofs.«01_k».proof.Proof.AttnOut

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

variable (m : (ℓ : Loc nD τ sig) → Buf (Elt Ideal) ℓ)
variable (c : Dev nD) (q k : Fin 16384 → Fin 1024 → ℝ) (g : Fin 16384 → Fin 8 → ℝ) (s : Fin 8 → Fin 8 → Fin 2048 → ℝ)

/-- The same at every column. -/
theorem outs_row (R : GReals (XQ m c) (XK m c) (XC m c) (XT m c) q k g s) (t : Fin cfg0.N) (y0 : Fin 256) (y1 : Fin 1024) :
    (show FVec Ideal S256x1024 .bf16 from outsAt0 m c t.val t.isLt) (ix2 y0 y1) = attn q k g s (XV m c) (rowOf t y0) y1 := by
  have hh : y1.val / 128 < 8 := by have := y1.isLt; omega
  have e : y1 = col (y1.val / 128) ⟨y1.val % 128, by omega⟩ := Fin.ext (by
    have := hd_eq ⟨y1.val / 128, hh⟩
    show y1.val = 128 * hd (y1.val / 128) + y1.val % 128
    simp only at this; omega)
  have H := outs_at m c q k g s R t y0 (y1.val / 128) hh ⟨y1.val % 128, by omega⟩
  rw [← e] at H
  exact H

theorem emb5 (t : Fin cfg0.N) (y0 : Fin 256) (y1 : Fin 1024) :
    (((View.whole main_v0).slice (win0_5.rect t)).emb (ix2 y0 y1) : S16384x1024.Idx) = ix2 (rowOf t y0) y1 := by
  blk_ext [idx t]

theorem attn_at (v : FVec Ideal S16384x1024 .bf16) (i : S16384x1024.Idx) (a : Fin 16384) (e : Fin 1024) (h : i = ix2 a e) :
    attn q k g s v a e = attn q k g s v (i 0) (i 1) := by
  subst h; rfl

theorem final (R : GReals (XQ m c) (XK m c) (XC m c) (XT m c) q k g s) : (dats m 0 c).arrAt 5 (cfgs 0).N
    = fun i : S16384x1024.Idx => attn q k g s (XV m c) (i 0) (i 1) := by
  refine (dats m 0 c).arrAt_eq_of_covers 5 _ (by decide +kernel) fun t hf y => ?_
  blk_simp
  rw [after0_5]
  idx_vars y
  exact (outs_row m c q k g s R t y0 y1).trans (attn_at q k g s (XV m c) _ _ _ (emb5 t y0 y1))

end Cert.AttnIdeal.Value

end
-- ==== Proof.AttnRef.lean ====
module

public import proofs.«01_k».proof.Proof.AttnOut
public import proofs.«01_k».proof.Proof.Gen.AttnRefIdeal.Run
public import proofs.«01_k».proof.Proof.Gen.AttnRefIdeal.Read

@[expose] public section

set_option maxRecDepth 16384

noncomputable section

open Idealize.ShloMosaic Idealize.ShloMosaic.TcCoe Idealize.SL.Sem

namespace Cert.AttnRefIdeal.Value
open Cert.AttnRefIdeal Cert.AttnRefIdeal.Read
open Cert.AttnIdeal.Value (attn gsc gvl gmean grow col hx hl hd hd_eq word_bot GReals)

/-! What the reference holds, operation by operation: the plain softmax of the masked scores, then the weighted mean. -/

theorem two : Ideal.ofBits .f32 0x40000000#32 = ((2 : ℝ) : EReal) := by
  simp [Ideal.ofBits, Ideal.ieee]
  rw [← EReal.coe_mul]
  congr 1
  norm_num

/-- A power of two is the base-two exponential, at the infinities too. -/
theorem pow_two (x : EReal) : Ideal.pow ((2 : ℝ) : EReal) x = Ideal.exp2 x := by
  induction x with
  | bot => rw [Online.exp2_bot, Ideal.pow_coe_bot]; norm_num
  | top => rw [Ideal.pow_coe_top]; norm_num
  | coe x => rfl

theorem choice0 (a b : ℕ) (h : a < 2 ^ 31) (h' : b < 2 ^ 31) (x y : EReal) :
    Scalar.select (IntOp.cmpi .sle (BitVec.ofNat 32 a) (BitVec.ofNat 32 b)) x y = if a ≤ b then x else y := by
  unfold Scalar.select
  have := WordCmp.cmpi_sle_ofNat_eq_one_iff (w := 32) (a := a) (b := b) h h'
  by_cases hc : a ≤ b <;> simp_all

theorem cl (h : Fin 8) (d : Fin 128) : (col h.val d).val = 128 * h.val + d.val := by
  show 128 * hd h.val + d.val = _
  rw [hd_eq]

theorem hx_eq (h : Fin 8) : hx h.val = h := Fin.ext (hd_eq h)

theorem at2 {A B : ℕ} (i : (⟨2, ![A, B]⟩ : Shape).Idx) (a : Fin A) (e : Fin B) (h0 : (i 0).val = a.val) (h1 : (i 1).val = e.val) : i = ix2 a e :=
  funext fun x => match x with | ⟨0, _⟩ => Fin.ext h0 | ⟨1, _⟩ => Fin.ext h1

theorem at3 {A B C : ℕ} (i : (⟨3, ![A, B, C]⟩ : Shape).Idx) (a : Fin A) (b : Fin B) (e : Fin C) (h0 : (i 0).val = a.val) (h1 : (i 1).val = b.val)
    (h2 : (i 2).val = e.val) : i = ix3 a b e :=
  funext fun x => match x with | ⟨0, _⟩ => Fin.ext h0 | ⟨1, _⟩ => Fin.ext h1 | ⟨2, _⟩ => Fin.ext h2

theorem at4 {A B C D : ℕ} (i : (⟨4, ![A, B, C, D]⟩ : Shape).Idx) (a : Fin A) (b : Fin B) (e : Fin C) (f : Fin D) (h0 : (i 0).val = a.val) (h1 : (i 1).val = b.val)
    (h2 : (i 2).val = e.val) (h3 : (i 3).val = f.val) : i = ix4 a b e f :=
  funext fun x => match x with | ⟨0, _⟩ => Fin.ext h0 | ⟨1, _⟩ => Fin.ext h1 | ⟨2, _⟩ => Fin.ext h2 | ⟨3, _⟩ => Fin.ext h3

variable (x0 x1 x2 : FVec Ideal S16384x1024 .bf16) (x3 : FVec Ideal S16384x128 .f32) (x4 : FVec Ideal S8x8x2048 .f32)
  {q k : Fin 16384 → Fin 1024 → ℝ} {g : Fin 16384 → Fin 8 → ℝ} {t : Fin 8 → Fin 8 → Fin 2048 → ℝ}

/-- A head's row of an array reshaped by heads. -/
theorem row_at (b : Fin 8) (p : Fin 2048) (h : Fin 8) (d : Fin 128) (i : S16384x1024.Idx)
    (h0 : (i 0).val = (((b.val * 2048 + p.val) * 8 + h.val) * 128 + d.val) / 1024)
    (h1 : (i 1).val = (((b.val * 2048 + p.val) * 8 + h.val) * 128 + d.val) % 1024) : i = ix2 (grow b p) (col h.val d) :=
  at2 i _ _ (h0.trans (by show _ = 2048 * b.val + p.val; omega)) (h1.trans (by rw [cl]; omega))

theorem v1_at (b : Fin 8) (p : Fin 2048) (h : Fin 8) (d : Fin 128) : val_main_v1 (F := Ideal) x0 (ix4 b p h d) = x0 (ix2 (grow b p) (col h.val d)) := by
  rw [val_main_v1_apply, val_main_v0_apply, row_at b p h d (idx_main_v1 (ix4 b p h d)) rfl rfl]
  rfl
theorem v3_at (b : Fin 8) (p : Fin 2048) (h : Fin 8) (d : Fin 128) : val_main_v3 (F := Ideal) x1 (ix4 b p h d) = x1 (ix2 (grow b p) (col h.val d)) := by
  rw [val_main_v3_apply, val_main_v2_apply, row_at b p h d (idx_main_v3 (ix4 b p h d)) rfl rfl]
  rfl
theorem v5_at (b : Fin 8) (p : Fin 2048) (h : Fin 8) (d : Fin 128) : val_main_v5 (F := Ideal) x2 (ix4 b p h d) = x2 (ix2 (grow b p) (col h.val d)) := by
  rw [val_main_v5_apply, val_main_v4_apply, row_at b p h d (idx_main_v5 (ix4 b p h d)) rfl rfl]
  rfl

theorem v11_at (b h : Fin 8) (p j : Fin 2048) : val_main_v11 (F := Ideal) x3 (ix4 b h p j) = x3 (ix2 (grow b p) (hl h.val)) := by
  rw [val_main_v11_apply, val_main_v10_apply, val_main_v9_apply, val_main_v7_apply, val_main_v6_apply]
  exact congrArg x3 (at2 _ _ _ (by show ((b.val * 2048 + p.val) * 128 + h.val) / 128 = 2048 * b.val + p.val; omega)
    (by show ((b.val * 2048 + p.val) * 128 + h.val) % 128 = hd h.val; rw [hd_eq]; omega))

theorem v14_at (b h : Fin 8) (p j : Fin 2048) : val_main_v14 (F := Ideal) x4 (ix4 b h p j) = x4 (ix3 b h j) := by
  rw [val_main_v14_apply, val_main_v13_apply]
  exact congrArg x4 (at3 _ _ _ _ rfl rfl rfl)

section
variable (R : GReals x0 x1 x3 x4 q k g t)
include R

/-- The scores are real. -/
theorem score_at (b h : Fin 8) (p j : Fin 2048) : val_main_v15 (F := Ideal) x0 x1 x3 x4 (ix4 b h p j) = ((gsc q k g t b h.val p j.val : ℝ) : EReal) := by
  rw [val_main_v15_apply, val_main_v12_apply, val_main_v8_apply, v11_at, v14_at, R.g, R.t]
  have e8 : ∀ d : Fin 128, val_main_v1 (F := Ideal) x0 (lidx_main_v8 (ix4 b h p j) d) * val_main_v3 (F := Ideal) x1 (ridx_main_v8 (ix4 b h p j) d)
      = ((q (grow b p) (col h.val d) * k (grow b j) (col h.val d) : ℝ) : EReal) := fun d => by
    rw [at4 (lidx_main_v8 (ix4 b h p j) d) b p h d rfl rfl rfl rfl, at4 (ridx_main_v8 (ix4 b h p j) d) b j h d rfl rfl rfl rfl, v1_at, v3_at, R.q, R.k, EReal.coe_mul]
  rw [Finset.sum_congr rfl fun d _ => e8 d, ← Online.coe_sum]
  unfold gsc
  rw [dif_pos j.isLt, EReal.coe_sub, EReal.coe_add, hx_eq]
  rfl

/-- Masked, a query sees the keys up to itself. -/
theorem masked_at (b h : Fin 8) (p j : Fin 2048) : val_main_v23 (F := Ideal) x0 x1 x3 x4 (ix4 b h p j)
    = if j.val ≤ p.val then ((gsc q k g t b h.val p j.val : ℝ) : EReal) else ⊥ := by
  rw [val_main_v23_apply, score_at x0 x1 x3 x4 R, val_main_call0_v2_apply, val_main_call0_v0_apply, val_main_cst_apply, val_main_call0_v1_apply, val_main_v22_apply,
    val_main_v21_apply, val_main_v19_apply, val_main_v17_apply, val_main_v16_apply, val_main_v20_apply, val_main_v18_apply, val_main_v16_apply]
  refine (choice0 j.val p.val (by omega) (by omega) _ _).trans ?_
  exact if_congr Iff.rfl rfl word_bot
end

/-- The row maximum. -/
theorem max_at (b h : Fin 8) (p : Fin 2048) : val_main_v24 (F := Ideal) x0 x1 x3 x4 (ix3 b h p)
    = Finset.univ.fold max (⊥ : EReal) fun j : Fin 2048 => val_main_v23 (F := Ideal) x0 x1 x3 x4 (ix4 b h p j) := by
  unfold val_main_v24
  generalize val_main_v23 (F := Ideal) x0 x1 x3 x4 = y
  have hr : S8x8x2048x2048.Reduces [3] S8x8x2048 := by decide
  rw [Host.reduce_eq_fold_single _ _ _ _ hr]
  rw [val_main_cst_0_apply, show FloatOps.ofBits (F := Ideal) .f32 0xFF800000#32 = (⊥ : EReal) from word_bot]
  exact congrArg (Finset.univ.fold max (⊥ : EReal)) (funext fun j => congrArg y (at4 _ _ _ _ _ rfl rfl rfl rfl))

theorem exp_at (b h : Fin 8) (p j : Fin 2048) : val_main_v29 (F := Ideal) x0 x1 x3 x4 (ix4 b h p j)
    = Ideal.exp2 (val_main_v23 (F := Ideal) x0 x1 x3 x4 (ix4 b h p j) - Finset.univ.fold max (⊥ : EReal) fun j : Fin 2048 => val_main_v23 (F := Ideal) x0 x1 x3 x4 (ix4 b h p j)) := by
  rw [val_main_v29_apply, val_main_v28_apply, val_main_cst_1_apply, val_main_v27_apply, val_main_v26_apply, val_main_v25_apply,
    at3 (idx_main_v25 (idx_main_v26 (ix4 b h p j))) b h p rfl rfl rfl, max_at]
  refine Eq.trans ?_ (pow_two _)
  rw [← two]; rfl

theorem sum_at (b h : Fin 8) (p j : Fin 2048) : val_main_v32 (F := Ideal) x0 x1 x3 x4 (ix4 b h p j)
    = ∑ i : Fin 2048, val_main_v29 (F := Ideal) x0 x1 x3 x4 (ix4 b h p i) := by
  rw [val_main_v32_apply, val_main_v31_apply, val_main_v30_apply, val_main_cst_2_apply, show FloatOps.ofBits (F := Ideal) .f32 0x00000000#32 = (0 : EReal) from Ideal.ofBits_zero .f32, zero_add]
  exact Finset.sum_congr rfl fun i _ => congrArg _ (at4 _ _ _ _ _ rfl rfl rfl rfl)

theorem mean_at (R : GReals x0 x1 x3 x4 q k g t) (b h : Fin 8) (d : Fin 128) (p : Fin 2048) :
    val_main_v34 (F := Ideal) x0 x1 x2 x3 x4 (ix4 b h d p) = gmean q k g t x2 b h.val p d := by
  rw [val_main_v34_apply]
  refine Eq.trans ?_ (Online.plain (u := gsc q k g t b h.val p) (Q := p.val) (v := gvl x2 b h.val) 2048 p.isLt (fun j => val_main_v23 (F := Ideal) x0 x1 x3 x4 (ix4 b h p j))
    (fun j => masked_at x0 x1 x3 x4 R b h p j) d)
  refine Finset.sum_congr rfl fun j _ => ?_
  rw [at4 (lidx_main_v34 (ix4 b h d p) j) b j h d rfl rfl rfl rfl, at4 (ridx_main_v34 (ix4 b h d p) j) b h p j rfl rfl rfl rfl, v5_at, val_main_v33_apply, sum_at, exp_at,
    Finset.sum_congr rfl fun i _ => exp_at x0 x1 x3 x4 b h p i, mul_comm]
  refine congrArg₂ (· * ·) rfl ?_
  unfold gvl
  rw [dif_pos j.isLt]

/-- The reference's result. -/
theorem ref_at (R : GReals x0 x1 x3 x4 q k g t) (a : Fin 16384) (e : Fin 1024) :
    val_main_v37 (F := Ideal) x0 x1 x2 x3 x4 (ix2 a e) = attn q k g t x2 a e := by
  rw [val_main_v37_apply, val_main_v36_apply, val_main_v35_apply,
    at4 (idx_main_v35 (idx_main_v36 (ix2 a e))) (⟨a.val / 2048, by omega⟩ : Fin 8) (⟨e.val / 128, by omega⟩ : Fin 8) (⟨e.val % 128, by omega⟩ : Fin 128) (⟨a.val % 2048, by omega⟩ : Fin 2048)
      (by show (a.val * 1024 + e.val) / 2097152 = a.val / 2048; omega) (by show (a.val * 1024 + e.val) / 128 % 8 = e.val / 128; omega)
      (by show (a.val * 1024 + e.val) % 128 = e.val % 128; omega) (by show (a.val * 1024 + e.val) / 1024 % 2048 = a.val % 2048; omega)]
  unfold attn
  exact mean_at x0 x1 x2 x3 x4 R _ _ _ _

end Cert.AttnRefIdeal.Value

end
-- ==== Proof.AttnClaim.lean ====
module

public import proofs.«01_k».proof.Defs
public import proofs.«01_k».proof.Proof.AttnFinal
public import proofs.«01_k».proof.Proof.AttnRef
public import proofs.«01_k».proof.Proof.AttnPre
public import proofs.«01_k».proof.Proof.AttnI.Blocks
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

/-- On finite queries, keys and gate sums the kernel's result and the reference's are the same array. -/
theorem attn_algebraic : Cert.algebraic_AttnIdeal_AttnRefIdeal_pre_finite_inputs (hAttnIdeal := Cert.AttnIdeal.Gen.facts)
    (hAttnRefIdeal := Cert.AttnRefIdeal.Gen.facts) (hPre_finite_inputs := Cert.Pre_finite_inputs.facts) := by
  pair_intro
  · run_from Cert.AttnIdeal.Value.run_blocks m g
  · run_from Cert.AttnRefIdeal.Value.run m' g'
    have R := Cert.Pre_finite_inputs.reals  _ _ _ _ _ (hpre c)
    rw [Cert.AttnRefIdeal.Read.val_main_v37_eq]
    refine Eq.trans ?_ (Cert.AttnIdeal.Value.final m c _ _ _ _ R).symm
    obtain ⟨a0, a1, a2, a3, a4⟩ := hagree c
    rw [a0, a1, a2, a3, a4]
    funext i
    idx_vars i
    exact Cert.AttnRefIdeal.Value.ref_at _ _ _ _ _ R i0 i1

end Cert.Proof
end
-- ==== Proof.PrepMath.lean ====
module

public import proofs.«01_k».proof.Proof.ConstMath
public import Idealize.ShloMosaic.PureOps.Ideal
public import Idealize.ShloMosaic.Lib.Pipeline.ValueKit
public import Idealize.ShloMosaic.Lib.Pointwise

@[expose] public section

noncomputable section

open Idealize.ShloMosaic

namespace Cert.PrepMath

/-- The log of a forget gate. -/
def lsg (z : EReal) : EReal := min z 0 - Ideal.log1p (Ideal.exp (0 - max z (-z)))

theorem exp_nonneg (x : EReal) : 0 ≤ Ideal.exp x := by
  induction x with
  | bot => exact le_refl (0 : EReal)
  | top => exact (le_top : (0 : EReal) ≤ ⊤)
  | coe r => exact EReal.coe_nonneg.mpr (Real.exp_pos r).le

theorem log1p_ne_bot {x : EReal} (h : 0 ≤ x) : Ideal.log1p x ≠ ⊥ := by
  induction x with
  | bot => simp at h
  | top =>
    have e : (1 : EReal) + ⊤ = ⊤ := rfl
    rw [Ideal.log1p, e]
    exact (top_ne_bot : (⊤ : EReal) ≠ ⊥)
  | coe r =>
    have hr : 0 ≤ r := EReal.coe_nonneg.mp h
    have e : (1 : EReal) + (r : EReal) = ((1 + r : ℝ) : EReal) := by push_cast; rfl
    rw [Ideal.log1p, e]
    show (if (1 + r : ℝ) ≤ 0 then (⊥ : EReal) else (Real.log (1 + r) : EReal)) ≠ ⊥
    rw [if_neg (by linarith)]
    exact EReal.coe_ne_bot _

/-- A log of a gate is not the positive infinity. -/
theorem lsg_ne_top (z : EReal) : lsg z ≠ ⊤ := by
  unfold lsg
  have h1 : min z 0 ≠ ⊤ := ne_top_of_le_ne_top EReal.zero_ne_top (min_le_right z 0)
  have h2 := log1p_ne_bot (exp_nonneg (0 - max z (-z)))
  revert h1 h2
  generalize min z 0 = a
  generalize Ideal.log1p (Ideal.exp (0 - max z (-z))) = b
  intro h1 h2
  rw [sub_eq_add_neg]
  exact EReal.add_ne_top h1 (fun h => h2 (EReal.neg_eq_top_iff.mp h))

/-- A number split in what rounding keeps and two remainders adds up to itself. -/
theorem three (y : EReal) (h : y ≠ ⊤) : y + (y - y) + (y - y - (y - y)) = y := by
  induction y with
  | bot => simp
  | top => exact absurd rfl h
  | coe r => norm_cast; simp

/-- The three triangular products are the running sum. -/
theorem tri_sum {n : ℕ} (y : Fin n → EReal) (h : ∀ j, y j ≠ ⊤) (r : Fin n) :
    ∑ j, (if j ≤ r then (1 : EReal) else 0) * y j + ∑ j, (if j ≤ r then (1 : EReal) else 0) * (y j - y j)
      + ∑ j, (if j ≤ r then (1 : EReal) else 0) * (y j - y j - (y j - y j)) = ∑ j, if j ≤ r then y j else 0 := by
  rw [← Finset.sum_add_distrib, ← Finset.sum_add_distrib]
  refine Finset.sum_congr rfl fun j _ => ?_
  by_cases hj : j ≤ r
  · simp only [if_pos hj, one_mul, three _ (h j)]
  · simp only [if_neg hj, zero_mul, add_zero]

/-- A sum over the first numbers, written over ranges. -/
theorem sum_le {n : ℕ} (f : ℕ → EReal) (r : Fin n) : (∑ j : Fin n, if j ≤ r then f j.val else 0) = ∑ j ∈ Finset.range (r.val + 1), f j := by
  have e : ∀ j : Fin n, (if j ≤ r then f j.val else 0) = (fun k : ℕ => if k ≤ r.val then f k else 0) j.val := fun j => rfl
  rw [Finset.sum_congr rfl fun j _ => e j, Fin.sum_univ_eq_sum_range (fun k : ℕ => if k ≤ r.val then f k else 0) n]
  obtain ⟨d, hd⟩ : ∃ d, n = (r.val + 1) + d := ⟨n - (r.val + 1), by have := r.isLt; omega⟩
  generalize r.val = k at hd ⊢
  rw [hd, Finset.sum_range_add]
  rw [Finset.sum_congr rfl fun j hj => if_pos (Nat.lt_succ_iff.mp (Finset.mem_range.mp hj))]
  rw [Finset.sum_eq_zero (s := Finset.range d) fun j _ => if_neg (by omega), add_zero]

/-- The window that ends at `s`, padded low, holds the first `s + 1` numbers. -/
theorem sum_window (f : ℕ → EReal) (s : Fin 2048) :
    (∑ w : Fin 2048, if 2047 ≤ s.val + w.val then f (s.val + w.val - 2047) else 0) = ∑ j ∈ Finset.range (s.val + 1), f j := by
  rw [Fin.sum_univ_eq_sum_range (fun w : ℕ => if 2047 ≤ s.val + w then f (s.val + w - 2047) else 0) 2048]
  have hs := s.isLt
  generalize s.val = k at hs ⊢
  have hd : Finset.range 2048 = Finset.range ((2047 - k) + (k + 1)) := congrArg Finset.range (by omega)
  rw [hd, Finset.sum_range_add]
  rw [Finset.sum_eq_zero (s := Finset.range (2047 - k)) fun j hj => if_neg (by have := Finset.mem_range.mp hj; omega), zero_add]
  refine Finset.sum_congr rfl fun j _ => ?_
  exact (if_pos (by omega)).trans (congrArg f (by omega))

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The reference's form of the log of a gate. -/
theorem lsg_neg (z : EReal) : -(max (-z) 0 + Ideal.log1p (Ideal.exp (-max (-z) (- -z)))) = lsg z := by
  unfold lsg
  have h2 := log1p_ne_bot (exp_nonneg (-max (-z) (- -z)))
  have e : (0 : EReal) - max z (-z) = -max (-z) (- -z) := by rw [neg_neg, max_comm, zero_sub]
  rw [e]
  revert h2
  generalize Ideal.log1p (Ideal.exp (-max (-z) (- -z))) = b
  intro h2
  have hm : max (-z) 0 ≠ ⊥ := ne_bot_of_le_ne_bot EReal.zero_ne_bot (le_max_right _ _)
  rw [EReal.neg_add (Or.inl hm) (Or.inr h2)]
  congr 1
  rcases le_total z 0 with hz | hz
  · rw [min_eq_left hz, max_eq_left (EReal.neg_nonneg.mpr hz), neg_neg]
  · rw [min_eq_right hz, max_eq_right (by simpa using EReal.neg_le_neg_iff.mpr hz), neg_zero]

end Cert.PrepMath
end
-- ==== Proof.PrepValue.lean ====
module

public import proofs.«01_k».proof.Proof.Gen.PrepIdeal.Value
public import proofs.«01_k».proof.Proof.PrepMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepIdeal.Value
open Cert.PrepIdeal Cert.PrepIdeal.Gen

open Cert.PrepMath

theorem gate_at (x : FVec Ideal S256x128 .f32) (g : FVec Ideal S1x128 .f32) (r : Fin 256) (l : Fin 128) :
    k0_pay4 (F := Ideal) x g (ix2 r l) = lsg (x (ix2 r l) + g (ix2 0 l)) := by
  pointwise [k0_pay4]
  simp only [lsg, zero_sub]
  rfl

theorem tri_at (r j : Fin 256) : k0_pay3 (F := Ideal) (ix2 r j) = if j ≤ r then 1 else 0 := by
  pointwise [k0_pay3]
  rw [WordCmp.cmpi_sge_ofNat (by have := r.isLt; omega) (by have := j.isLt; omega)]
  show (((BitVec.setWidth 32 (BitVec.ofBool (decide (j.val ≤ r.val)))).toInt : ℝ) : EReal) = _
  by_cases h : j ≤ r
  · rw [if_pos h, decide_eq_true (show j.val ≤ r.val from h)]
    have e : (BitVec.setWidth 32 (BitVec.ofBool true)).toInt = 1 := by decide
    rw [e]; norm_num
  · rw [if_neg h, decide_eq_false (show ¬ j.val ≤ r.val from h)]; norm_num

theorem dot_at (x : FVec Ideal S256x128 .f32) (g : FVec Ideal S1x128 .f32) (r : Fin 256) (l : Fin 128) :
    k0_pay7 (F := Ideal) x g (ix2 r l) = ∑ j : Fin 256, if j ≤ r then lsg (x (ix2 j l) + g (ix2 0 l)) else 0 := by
  have h := tri_sum (fun j : Fin 256 => lsg (x (ix2 j l) + g (ix2 0 l))) (fun j => lsg_ne_top _) r
  rw [← h]
  simp only [← gate_at, ← tri_at]
  pointwise [k0_pay7]

/-- A block's running sums over the carried one. -/
abbrev cumB (x : FVec Ideal S256x128 .f32) (g cr : FVec Ideal S1x128 .f32) : FVec Ideal S256x128 .f32 :=
  k0_pay9 (F := Ideal) (k0_pay7 x g) (broadcastTo S256x128 cr broadcasts_S1x128_S256x128)

abbrev carry (x : FVec Ideal S256x128 .f32) (g cr : FVec Ideal S1x128 .f32) : FVec Ideal S1x128 .f32 :=
  extractStridedSlice S1x128 ![255, 0] (cumB x g cr) slices_S256x128_o255_0_S1x128

abbrev scaled (v : FVec Ideal S256x128 .f32) : FVec Ideal S256x128 .f32 :=
  mulf v (broadcast S256x128 (Named.named κ "log2e" 0x3FB8AA3B#32 : Ideal .f32))

variable (x0 : Vec Ideal S2048x128 .f32) (x1 : Vec Ideal S1x128 .f32)

abbrev xb0 : FVec Ideal S256x128 .f32 := View.ld x0 r0_0
abbrev xb1 : FVec Ideal S256x128 .f32 := View.ld x0 r0_4
abbrev xb2 : FVec Ideal S256x128 .f32 := View.ld x0 r0_7
abbrev xb3 : FVec Ideal S256x128 .f32 := View.ld x0 r0_10
abbrev xb4 : FVec Ideal S256x128 .f32 := View.ld x0 r0_13
abbrev xb5 : FVec Ideal S256x128 .f32 := View.ld x0 r0_16
abbrev xb6 : FVec Ideal S256x128 .f32 := View.ld x0 r0_19
abbrev xb7 : FVec Ideal S256x128 .f32 := View.ld x0 r0_22
abbrev gb : FVec Ideal S1x128 .f32 := View.ld x1 r0_1
abbrev cr0 : FVec Ideal S1x128 .f32 := broadcast S1x128 (Scalar.ofBits (F := Ideal) .f32 0x00000000#32)
abbrev cr1 := carry (xb0 x0) (gb x1) cr0
abbrev cr2 := carry (xb1 x0) (gb x1) (cr1 x0 x1)
abbrev cr3 := carry (xb2 x0) (gb x1) (cr2 x0 x1)
abbrev cr4 := carry (xb3 x0) (gb x1) (cr3 x0 x1)
abbrev cr5 := carry (xb4 x0) (gb x1) (cr4 x0 x1)
abbrev cr6 := carry (xb5 x0) (gb x1) (cr5 x0 x1)
abbrev cr7 := carry (xb6 x0) (gb x1) (cr6 x0 x1)

theorem p0 : k0_pay11 (k0_pay75 x0 x1) (k0_pay76 x0 x1) = scaled (cumB (xb0 x0) (gb x1) cr0) := rfl
theorem c1 : k0_pay77 x0 x1 = cr1 x0 x1 := rfl
theorem p1 : k0_pay23 (k0_pay74 x0 x1) (k0_pay77 x0 x1) (k0_pay78 x0 x1) (k0_pay79 x0 x1) (k0_pay80 x0 x1) (Scalar.ofBits .f32 0x00000000#32)
    = scaled (cumB (xb1 x0) (gb x1) (cr1 x0 x1)) := rfl
theorem c2 : k0_pay81 x0 x1 = cr2 x0 x1 := rfl
theorem p2 : k0_pay31 (k0_pay74 x0 x1) (k0_pay81 x0 x1) (k0_pay82 x0 x1) (k0_pay83 x0 x1) = scaled (cumB (xb2 x0) (gb x1) (cr2 x0 x1)) := by
  rw [c2]; rfl
theorem c3 : k0_pay84 x0 x1 = cr3 x0 x1 := by unfold k0_pay84; rw [c2]; rfl
theorem p3 : k0_pay39 (k0_pay74 x0 x1) (k0_pay84 x0 x1) (k0_pay85 x0 x1) = scaled (cumB (xb3 x0) (gb x1) (cr3 x0 x1)) := by
  rw [c3]; rfl
theorem c4 : k0_pay86 x0 x1 = cr4 x0 x1 := by unfold k0_pay86; rw [c3]; rfl
theorem p4 : k0_pay49 (k0_pay74 x0 x1) (k0_pay86 x0 x1) (k0_pay87 x0 x1) (k0_pay88 x0 x1) = scaled (cumB (xb4 x0) (gb x1) (cr4 x0 x1)) := by
  rw [c4]; rfl
theorem c5 : k0_pay89 x0 x1 = cr5 x0 x1 := by unfold k0_pay89; rw [c4]; rfl
theorem p5 : k0_pay56 (k0_pay74 x0 x1) (k0_pay89 x0 x1) (View.ld x0 r0_16) (View.ld x1 r0_1) = scaled (cumB (xb5 x0) (gb x1) (cr5 x0 x1)) := by
  rw [c5]; rfl
theorem c6 : k0_pay90 x0 x1 = cr6 x0 x1 := by unfold k0_pay90; rw [c5]; rfl
theorem p6 : k0_pay92 x0 x1 = scaled (cumB (xb6 x0) (gb x1) (cr6 x0 x1)) := by
  unfold k0_pay92; rw [c6]; rfl
theorem c7 : k0_pay91 x0 x1 = cr7 x0 x1 := by unfold k0_pay91; rw [c6]; rfl
theorem p7 : k0_pay1 (k0_pay74 x0 x1) (k0_pay91 x0 x1) (k0_pay94 x0 x1) (k0_pay95 x0 x1) (k0_pay93 x0 x1) = scaled (cumB (xb7 x0) (gb x1) (cr7 x0 x1)) := by
  rw [c7]; rfl

/-- The logs of one sequence's gates, by time. -/
def seqF (x : FVec Ideal S2048x128 .f32) (g : FVec Ideal S1x128 .f32) (l : Fin 128) (n : ℕ) : EReal :=
  if h : n < 2048 then lsg (x (ix2 ⟨n, h⟩ l) + g (ix2 0 l)) else 0

section Block
variable (o : ℕ) (ho : o + 256 ≤ 2048) (x : FVec Ideal S256x128 .f32) (g cr : FVec Ideal S1x128 .f32)
  (hx : ∀ (j : Fin 256) (l : Fin 128), x (ix2 j l) = x0 (ix2 ⟨o + j.val, by omega⟩ l)) (hg : ∀ l : Fin 128, g (ix2 0 l) = x1 (ix2 0 l))
  (hc : ∀ l : Fin 128, cr (ix2 0 l) = ∑ n ∈ Finset.range o, seqF x0 x1 l n)
include ho hx hg hc

theorem cum_of (r : Fin 256) (l : Fin 128) : cumB x g cr (ix2 r l) = ∑ n ∈ Finset.range (o + r.val + 1), seqF x0 x1 l n := by
  have e : cumB x g cr (ix2 r l) = k0_pay7 (F := Ideal) x g (ix2 r l) + cr (ix2 0 l) := by pointwise [k0_pay9]
  have e2 : ∀ j : Fin 256, (if j ≤ r then lsg (x (ix2 j l) + g (ix2 0 l)) else 0) = if j ≤ r then (fun k => seqF x0 x1 l (o + k)) j.val else 0 := fun j => by
    have hj : o + j.val < 2048 := by omega
    simp only [seqF, dif_pos hj, hx j l, hg l]
  rw [e, dot_at, Finset.sum_congr rfl fun j _ => e2 j, (sum_le (fun k => seqF x0 x1 l (o + k)) r), hc, add_comm, ← Finset.sum_range_add, Nat.add_assoc]

theorem carry_of (l : Fin 128) : carry x g cr (ix2 0 l) = ∑ n ∈ Finset.range (o + 256), seqF x0 x1 l n := by
  rw [← cum_of x0 x1 o ho x g cr hx hg hc ⟨255, by omega⟩ l]
  pointwise []

end Block

theorem scaled_at (v : FVec Ideal S256x128 .f32) (r : Fin 256) (l : Fin 128) :
    scaled v (ix2 r l) = v (ix2 r l) * Cert.ConstMath.invLog := by
  pointwise []
  rfl

theorem g_at (l : Fin 128) : gb x1 (ix2 0 l) = x1 (ix2 0 l) := by
  refine congrArg x1 (funext fun a => Fin.ext ?_)
  match a with
  | ⟨0, _⟩ => rfl
  | ⟨1, _⟩ => show 0 + 1 * l.val = l.val; omega
theorem x0_at (j : Fin 256) (l : Fin 128) : xb0 x0 (ix2 j l) = x0 (ix2 ⟨0 + j.val, by omega⟩ l) := by
  refine congrArg x0 (funext fun a => Fin.ext ?_)
  match a with
  | ⟨0, _⟩ => show 0 + 1 * j.val = 0 + j.val; omega
  | ⟨1, _⟩ => show 0 + 1 * l.val = l.val; omega
theorem x1_at (j : Fin 256) (l : Fin 128) : xb1 x0 (ix2 j l) = x0 (ix2 ⟨256 + j.val, by omega⟩ l) := by
  refine congrArg x0 (funext fun a => Fin.ext ?_)
  match a with
  | ⟨0, _⟩ => show 256 + 1 * j.val = 256 + j.val; omega
  | ⟨1, _⟩ => show 0 + 1 * l.val = l.val; omega
theorem x2_at (j : Fin 256) (l : Fin 128) : xb2 x0 (ix2 j l) = x0 (ix2 ⟨512 + j.val, by omega⟩ l) := by
  refine congrArg x0 (funext fun a => Fin.ext ?_)
  match a with
  | ⟨0, _⟩ => show 512 + 1 * j.val = 512 + j.val; omega
  | ⟨1, _⟩ => show 0 + 1 * l.val = l.val; omega
theorem x3_at (j : Fin 256) (l : Fin 128) : xb3 x0 (ix2 j l) = x0 (ix2 ⟨768 + j.val, by omega⟩ l) := by
  refine congrArg x0 (funext fun a => Fin.ext ?_)
  match a with
  | ⟨0, _⟩ => show 768 + 1 * j.val = 768 + j.val; omega
  | ⟨1, _⟩ => show 0 + 1 * l.val = l.val; omega
theorem x4_at (j : Fin 256) (l : Fin 128) : xb4 x0 (ix2 j l) = x0 (ix2 ⟨1024 + j.val, by omega⟩ l) := by
  refine congrArg x0 (funext fun a => Fin.ext ?_)
  match a with
  | ⟨0, _⟩ => show 1024 + 1 * j.val = 1024 + j.val; omega
  | ⟨1, _⟩ => show 0 + 1 * l.val = l.val; omega
theorem x5_at (j : Fin 256) (l : Fin 128) : xb5 x0 (ix2 j l) = x0 (ix2 ⟨1280 + j.val, by omega⟩ l) := by
  refine congrArg x0 (funext fun a => Fin.ext ?_)
  match a with
  | ⟨0, _⟩ => show 1280 + 1 * j.val = 1280 + j.val; omega
  | ⟨1, _⟩ => show 0 + 1 * l.val = l.val; omega
theorem x6_at (j : Fin 256) (l : Fin 128) : xb6 x0 (ix2 j l) = x0 (ix2 ⟨1536 + j.val, by omega⟩ l) := by
  refine congrArg x0 (funext fun a => Fin.ext ?_)
  match a with
  | ⟨0, _⟩ => show 1536 + 1 * j.val = 1536 + j.val; omega
  | ⟨1, _⟩ => show 0 + 1 * l.val = l.val; omega
theorem x7_at (j : Fin 256) (l : Fin 128) : xb7 x0 (ix2 j l) = x0 (ix2 ⟨1792 + j.val, by omega⟩ l) := by
  refine congrArg x0 (funext fun a => Fin.ext ?_)
  match a with
  | ⟨0, _⟩ => show 1792 + 1 * j.val = 1792 + j.val; omega
  | ⟨1, _⟩ => show 0 + 1 * l.val = l.val; omega

theorem cr0_at (l : Fin 128) : cr0 (ix2 0 l) = ∑ n ∈ Finset.range 0, seqF x0 x1 l n := by
  pointwise []
  exact Finset.sum_range_zero _ |>.symm
theorem cr1_at (l : Fin 128) : cr1 x0 x1 (ix2 0 l) = ∑ n ∈ Finset.range 256, seqF x0 x1 l n :=
  carry_of x0 x1 0 (by omega) _ _ _ (x0_at x0) (g_at x1) (cr0_at x0 x1) l
theorem cr2_at (l : Fin 128) : cr2 x0 x1 (ix2 0 l) = ∑ n ∈ Finset.range 512, seqF x0 x1 l n :=
  carry_of x0 x1 256 (by omega) _ _ _ (x1_at x0) (g_at x1) (cr1_at x0 x1) l
theorem cr3_at (l : Fin 128) : cr3 x0 x1 (ix2 0 l) = ∑ n ∈ Finset.range 768, seqF x0 x1 l n :=
  carry_of x0 x1 512 (by omega) _ _ _ (x2_at x0) (g_at x1) (cr2_at x0 x1) l
theorem cr4_at (l : Fin 128) : cr4 x0 x1 (ix2 0 l) = ∑ n ∈ Finset.range 1024, seqF x0 x1 l n :=
  carry_of x0 x1 768 (by omega) _ _ _ (x3_at x0) (g_at x1) (cr3_at x0 x1) l
theorem cr5_at (l : Fin 128) : cr5 x0 x1 (ix2 0 l) = ∑ n ∈ Finset.range 1280, seqF x0 x1 l n :=
  carry_of x0 x1 1024 (by omega) _ _ _ (x4_at x0) (g_at x1) (cr4_at x0 x1) l
theorem cr6_at (l : Fin 128) : cr6 x0 x1 (ix2 0 l) = ∑ n ∈ Finset.range 1536, seqF x0 x1 l n :=
  carry_of x0 x1 1280 (by omega) _ _ _ (x5_at x0) (g_at x1) (cr5_at x0 x1) l
theorem cr7_at (l : Fin 128) : cr7 x0 x1 (ix2 0 l) = ∑ n ∈ Finset.range 1792, seqF x0 x1 l n :=
  carry_of x0 x1 1536 (by omega) _ _ _ (x6_at x0) (g_at x1) (cr6_at x0 x1) l
theorem cum0_at (r : Fin 256) (l : Fin 128) :
    cumB (xb0 x0) (gb x1) (cr0) (ix2 r l) = ∑ n ∈ Finset.range (0 + r.val + 1), seqF x0 x1 l n :=
  cum_of x0 x1 0 (by omega) _ _ _ (x0_at x0) (g_at x1) (cr0_at x0 x1) r l
theorem cum1_at (r : Fin 256) (l : Fin 128) :
    cumB (xb1 x0) (gb x1) ((cr1 x0 x1)) (ix2 r l) = ∑ n ∈ Finset.range (256 + r.val + 1), seqF x0 x1 l n :=
  cum_of x0 x1 256 (by omega) _ _ _ (x1_at x0) (g_at x1) (cr1_at x0 x1) r l
theorem cum2_at (r : Fin 256) (l : Fin 128) :
    cumB (xb2 x0) (gb x1) ((cr2 x0 x1)) (ix2 r l) = ∑ n ∈ Finset.range (512 + r.val + 1), seqF x0 x1 l n :=
  cum_of x0 x1 512 (by omega) _ _ _ (x2_at x0) (g_at x1) (cr2_at x0 x1) r l
theorem cum3_at (r : Fin 256) (l : Fin 128) :
    cumB (xb3 x0) (gb x1) ((cr3 x0 x1)) (ix2 r l) = ∑ n ∈ Finset.range (768 + r.val + 1), seqF x0 x1 l n :=
  cum_of x0 x1 768 (by omega) _ _ _ (x3_at x0) (g_at x1) (cr3_at x0 x1) r l
theorem cum4_at (r : Fin 256) (l : Fin 128) :
    cumB (xb4 x0) (gb x1) ((cr4 x0 x1)) (ix2 r l) = ∑ n ∈ Finset.range (1024 + r.val + 1), seqF x0 x1 l n :=
  cum_of x0 x1 1024 (by omega) _ _ _ (x4_at x0) (g_at x1) (cr4_at x0 x1) r l
theorem cum5_at (r : Fin 256) (l : Fin 128) :
    cumB (xb5 x0) (gb x1) ((cr5 x0 x1)) (ix2 r l) = ∑ n ∈ Finset.range (1280 + r.val + 1), seqF x0 x1 l n :=
  cum_of x0 x1 1280 (by omega) _ _ _ (x5_at x0) (g_at x1) (cr5_at x0 x1) r l
theorem cum6_at (r : Fin 256) (l : Fin 128) :
    cumB (xb6 x0) (gb x1) ((cr6 x0 x1)) (ix2 r l) = ∑ n ∈ Finset.range (1536 + r.val + 1), seqF x0 x1 l n :=
  cum_of x0 x1 1536 (by omega) _ _ _ (x6_at x0) (g_at x1) (cr6_at x0 x1) r l
theorem cum7_at (r : Fin 256) (l : Fin 128) :
    cumB (xb7 x0) (gb x1) ((cr7 x0 x1)) (ix2 r l) = ∑ n ∈ Finset.range (1792 + r.val + 1), seqF x0 x1 l n :=
  cum_of x0 x1 1792 (by omega) _ _ _ (x7_at x0) (g_at x1) (cr7_at x0 x1) r l

/-- The first eight columns. -/
abbrev hd (v : FVec Ideal S256x128 .f32) : FVec Ideal S256x8 .f32 :=
  extractStridedSlice S256x8 ![0, 0] v slices_S256x128_o0_0_S256x8

/-- The first eight columns, turned. -/
abbrev tp (v : FVec Ideal S256x128 .f32) : FVec Ideal S1x8x256 .f32 :=
  shapeCast S1x8x256 (extractStridedSlice S8x256 ![0, 0] (transpose S128x256 [1, 0] v transposes_S256x128_p1_0_S128x256)
    slices_S128x256_o0_0_S8x256) shapeCasts_S8x256_S1x8x256

theorem hd_at (v : FVec Ideal S256x128 .f32) (r : Fin 256) (l : Fin 8) : hd v (ix2 r l) = v (ix2 r ⟨l.val, by omega⟩) := by
  pointwise []

theorem tp_at (v : FVec Ideal S256x128 .f32) (a : Fin 1) (l : Fin 8) (r : Fin 256) : tp v (ix3 a l r) = v (ix2 r ⟨l.val, by omega⟩) := by
  pointwise []

theorem out2_eq : out0_2 (F := Ideal) x0 x1 = View.canon [⟨r0_23, hd (k0_pay4 (xb7 x0) (gb x1))⟩,
    ⟨r0_20, hd (k0_pay4 (xb6 x0) (gb x1))⟩,
    ⟨r0_17, hd (k0_pay4 (xb5 x0) (gb x1))⟩,
    ⟨r0_14, hd (k0_pay4 (xb4 x0) (gb x1))⟩,
    ⟨r0_11, hd (k0_pay4 (xb3 x0) (gb x1))⟩,
    ⟨r0_8, hd (k0_pay4 (xb2 x0) (gb x1))⟩,
    ⟨r0_5, hd (k0_pay4 (xb1 x0) (gb x1))⟩,
    ⟨r0_2, hd (k0_pay4 (xb0 x0) (gb x1))⟩] := rfl

theorem out3_eq : out0_3 (F := Ideal) x0 x1 = View.canon [⟨r0_24, tp (k0_pay4 (xb7 x0) (gb x1))⟩,
    ⟨r0_21, tp (k0_pay4 (xb6 x0) (gb x1))⟩,
    ⟨r0_18, tp (k0_pay4 (xb5 x0) (gb x1))⟩,
    ⟨r0_15, tp (k0_pay4 (xb4 x0) (gb x1))⟩,
    ⟨r0_12, tp (k0_pay4 (xb3 x0) (gb x1))⟩,
    ⟨r0_9, tp (k0_pay4 (xb2 x0) (gb x1))⟩,
    ⟨r0_6, tp (k0_pay4 (xb1 x0) (gb x1))⟩,
    ⟨r0_3, tp (k0_pay4 (xb0 x0) (gb x1))⟩] := rfl

theorem out4_eq : out0_4 (F := Ideal) x0 x1 = View.canon [⟨r0_22, scaled (cumB (xb7 x0) (gb x1) (cr7 x0 x1))⟩,
    ⟨r0_19, scaled (cumB (xb6 x0) (gb x1) (cr6 x0 x1))⟩,
    ⟨r0_16, scaled (cumB (xb5 x0) (gb x1) (cr5 x0 x1))⟩,
    ⟨r0_13, scaled (cumB (xb4 x0) (gb x1) (cr4 x0 x1))⟩,
    ⟨r0_10, scaled (cumB (xb3 x0) (gb x1) (cr3 x0 x1))⟩,
    ⟨r0_7, scaled (cumB (xb2 x0) (gb x1) (cr2 x0 x1))⟩,
    ⟨r0_4, scaled (cumB (xb1 x0) (gb x1) (cr1 x0 x1))⟩,
    ⟨r0_0, scaled (cumB (xb0 x0) (gb x1) cr0)⟩] := by
  unfold out0_4
  rw [p0 x0 x1, p1 x0 x1, p2 x0 x1, p3 x0 x1, p4 x0 x1, p5 x0 x1, p6 x0 x1, p7 x0 x1]

theorem out5_eq : out0_5 (F := Ideal) x0 x1 = View.canon [⟨r0_24, tp (scaled (cumB (xb7 x0) (gb x1) (cr7 x0 x1)))⟩,
    ⟨r0_21, tp (scaled (cumB (xb6 x0) (gb x1) (cr6 x0 x1)))⟩,
    ⟨r0_18, tp (scaled (cumB (xb5 x0) (gb x1) (cr5 x0 x1)))⟩,
    ⟨r0_15, tp (scaled (cumB (xb4 x0) (gb x1) (cr4 x0 x1)))⟩,
    ⟨r0_12, tp (scaled (cumB (xb3 x0) (gb x1) (cr3 x0 x1)))⟩,
    ⟨r0_9, tp (scaled (cumB (xb2 x0) (gb x1) (cr2 x0 x1)))⟩,
    ⟨r0_6, tp (scaled (cumB (xb1 x0) (gb x1) (cr1 x0 x1)))⟩,
    ⟨r0_3, tp (scaled (cumB (xb0 x0) (gb x1) cr0))⟩] := by
  rw [← p0 x0 x1, ← p1 x0 x1, ← p2 x0 x1, ← p3 x0 x1, ← p4 x0 x1, ← p5 x0 x1, ← p6 x0 x1, ← p7 x0 x1]
  rfl

/-- A running sum in units of log 2. -/
def runF (x : FVec Ideal S2048x128 .f32) (g : FVec Ideal S1x128 .f32) (s : ℕ) (l : Fin 128) : EReal :=
  (∑ n ∈ Finset.range (s + 1), seqF x g l n) * Cert.ConstMath.invLog

theorem lsg0_at (r : Fin 256) (l : Fin 128) : k0_pay4 (F := Ideal) (xb0 x0) (gb x1) (ix2 r l) = seqF x0 x1 l (0 + r.val) := by
  rw [gate_at, x0_at, g_at, seqF, dif_pos (by omega)]

theorem sc0_at (r : Fin 256) (l : Fin 128) : scaled (cumB (xb0 x0) (gb x1) cr0) (ix2 r l) = runF x0 x1 (0 + r.val) l := by
  rw [scaled_at, cum0_at, runF]

theorem lsg1_at (r : Fin 256) (l : Fin 128) : k0_pay4 (F := Ideal) (xb1 x0) (gb x1) (ix2 r l) = seqF x0 x1 l (256 + r.val) := by
  rw [gate_at, x1_at, g_at, seqF, dif_pos (by omega)]

theorem sc1_at (r : Fin 256) (l : Fin 128) : scaled (cumB (xb1 x0) (gb x1) (cr1 x0 x1)) (ix2 r l) = runF x0 x1 (256 + r.val) l := by
  rw [scaled_at, cum1_at, runF]

theorem lsg2_at (r : Fin 256) (l : Fin 128) : k0_pay4 (F := Ideal) (xb2 x0) (gb x1) (ix2 r l) = seqF x0 x1 l (512 + r.val) := by
  rw [gate_at, x2_at, g_at, seqF, dif_pos (by omega)]

theorem sc2_at (r : Fin 256) (l : Fin 128) : scaled (cumB (xb2 x0) (gb x1) (cr2 x0 x1)) (ix2 r l) = runF x0 x1 (512 + r.val) l := by
  rw [scaled_at, cum2_at, runF]

theorem lsg3_at (r : Fin 256) (l : Fin 128) : k0_pay4 (F := Ideal) (xb3 x0) (gb x1) (ix2 r l) = seqF x0 x1 l (768 + r.val) := by
  rw [gate_at, x3_at, g_at, seqF, dif_pos (by omega)]

theorem sc3_at (r : Fin 256) (l : Fin 128) : scaled (cumB (xb3 x0) (gb x1) (cr3 x0 x1)) (ix2 r l) = runF x0 x1 (768 + r.val) l := by
  rw [scaled_at, cum3_at, runF]

theorem lsg4_at (r : Fin 256) (l : Fin 128) : k0_pay4 (F := Ideal) (xb4 x0) (gb x1) (ix2 r l) = seqF x0 x1 l (1024 + r.val) := by
  rw [gate_at, x4_at, g_at, seqF, dif_pos (by omega)]

theorem sc4_at (r : Fin 256) (l : Fin 128) : scaled (cumB (xb4 x0) (gb x1) (cr4 x0 x1)) (ix2 r l) = runF x0 x1 (1024 + r.val) l := by
  rw [scaled_at, cum4_at, runF]

theorem lsg5_at (r : Fin 256) (l : Fin 128) : k0_pay4 (F := Ideal) (xb5 x0) (gb x1) (ix2 r l) = seqF x0 x1 l (1280 + r.val) := by
  rw [gate_at, x5_at, g_at, seqF, dif_pos (by omega)]

theorem sc5_at (r : Fin 256) (l : Fin 128) : scaled (cumB (xb5 x0) (gb x1) (cr5 x0 x1)) (ix2 r l) = runF x0 x1 (1280 + r.val) l := by
  rw [scaled_at, cum5_at, runF]

theorem lsg6_at (r : Fin 256) (l : Fin 128) : k0_pay4 (F := Ideal) (xb6 x0) (gb x1) (ix2 r l) = seqF x0 x1 l (1536 + r.val) := by
  rw [gate_at, x6_at, g_at, seqF, dif_pos (by omega)]

theorem sc6_at (r : Fin 256) (l : Fin 128) : scaled (cumB (xb6 x0) (gb x1) (cr6 x0 x1)) (ix2 r l) = runF x0 x1 (1536 + r.val) l := by
  rw [scaled_at, cum6_at, runF]

theorem lsg7_at (r : Fin 256) (l : Fin 128) : k0_pay4 (F := Ideal) (xb7 x0) (gb x1) (ix2 r l) = seqF x0 x1 l (1792 + r.val) := by
  rw [gate_at, x7_at, g_at, seqF, dif_pos (by omega)]

theorem sc7_at (r : Fin 256) (l : Fin 128) : scaled (cumB (xb7 x0) (gb x1) (cr7 x0 x1)) (ix2 r l) = runF x0 x1 (1792 + r.val) l := by
  rw [scaled_at, cum7_at, runF]

theorem z128_eta (z : S256x128.Idx) : z = ix2 (z 0) (z 1) := by
  idx_vars z
  rfl

theorem z8_eta (z : S256x8.Idx) : z = ix2 (z 0) (z 1) := by
  idx_vars z
  rfl

theorem z3_eta (z : S1x8x256.Idx) : z = ix3 (z 0) (z 1) (z 2) := by
  idx_vars z
  rfl

theorem out2_at (r : Fin 2048) (l : Fin 8) : out0_2 (F := Ideal) x0 x1 (ix2 r l) = seqF x0 x1 ⟨l.val, by omega⟩ r.val := by
  rw [out2_eq]
  canon_tiles z h
  · have hr : r.val = 1792 + (z 0).val := h0
    obtain rfl : l = z 1 := Fin.ext h1
    rw [hr]
    exact (congrArg _ (z8_eta z)).trans ((hd_at _ _ _).trans (lsg7_at x0 x1 (z 0) _))
  · have hr : r.val = 1536 + (z 0).val := h0
    obtain rfl : l = z 1 := Fin.ext h1
    rw [hr]
    exact (congrArg _ (z8_eta z)).trans ((hd_at _ _ _).trans (lsg6_at x0 x1 (z 0) _))
  · have hr : r.val = 1280 + (z 0).val := h0
    obtain rfl : l = z 1 := Fin.ext h1
    rw [hr]
    exact (congrArg _ (z8_eta z)).trans ((hd_at _ _ _).trans (lsg5_at x0 x1 (z 0) _))
  · have hr : r.val = 1024 + (z 0).val := h0
    obtain rfl : l = z 1 := Fin.ext h1
    rw [hr]
    exact (congrArg _ (z8_eta z)).trans ((hd_at _ _ _).trans (lsg4_at x0 x1 (z 0) _))
  · have hr : r.val = 768 + (z 0).val := h0
    obtain rfl : l = z 1 := Fin.ext h1
    rw [hr]
    exact (congrArg _ (z8_eta z)).trans ((hd_at _ _ _).trans (lsg3_at x0 x1 (z 0) _))
  · have hr : r.val = 512 + (z 0).val := h0
    obtain rfl : l = z 1 := Fin.ext h1
    rw [hr]
    exact (congrArg _ (z8_eta z)).trans ((hd_at _ _ _).trans (lsg2_at x0 x1 (z 0) _))
  · have hr : r.val = 256 + (z 0).val := h0
    obtain rfl : l = z 1 := Fin.ext h1
    rw [hr]
    exact (congrArg _ (z8_eta z)).trans ((hd_at _ _ _).trans (lsg1_at x0 x1 (z 0) _))
  · have hr : r.val = 0 + (z 0).val := h0.trans (Nat.zero_add _).symm
    obtain rfl : l = z 1 := Fin.ext h1
    rw [hr]
    exact (congrArg _ (z8_eta z)).trans ((hd_at _ _ _).trans (lsg0_at x0 x1 (z 0) _))

theorem out3_at (a : Fin 1) (l : Fin 8) (r : Fin 2048) : out0_3 (F := Ideal) x0 x1 (ix3 a l r) = seqF x0 x1 ⟨l.val, by omega⟩ r.val := by
  rw [out3_eq]
  canon_tiles z h
  · have hr : r.val = 1792 + (z 2).val := h2
    obtain rfl : l = z 1 := Fin.ext h1
    rw [hr]
    exact (congrArg _ (z3_eta z)).trans ((tp_at _ _ _ _).trans (lsg7_at x0 x1 (z 2) _))
  · have hr : r.val = 1536 + (z 2).val := h2
    obtain rfl : l = z 1 := Fin.ext h1
    rw [hr]
    exact (congrArg _ (z3_eta z)).trans ((tp_at _ _ _ _).trans (lsg6_at x0 x1 (z 2) _))
  · have hr : r.val = 1280 + (z 2).val := h2
    obtain rfl : l = z 1 := Fin.ext h1
    rw [hr]
    exact (congrArg _ (z3_eta z)).trans ((tp_at _ _ _ _).trans (lsg5_at x0 x1 (z 2) _))
  · have hr : r.val = 1024 + (z 2).val := h2
    obtain rfl : l = z 1 := Fin.ext h1
    rw [hr]
    exact (congrArg _ (z3_eta z)).trans ((tp_at _ _ _ _).trans (lsg4_at x0 x1 (z 2) _))
  · have hr : r.val = 768 + (z 2).val := h2
    obtain rfl : l = z 1 := Fin.ext h1
    rw [hr]
    exact (congrArg _ (z3_eta z)).trans ((tp_at _ _ _ _).trans (lsg3_at x0 x1 (z 2) _))
  · have hr : r.val = 512 + (z 2).val := h2
    obtain rfl : l = z 1 := Fin.ext h1
    rw [hr]
    exact (congrArg _ (z3_eta z)).trans ((tp_at _ _ _ _).trans (lsg2_at x0 x1 (z 2) _))
  · have hr : r.val = 256 + (z 2).val := h2
    obtain rfl : l = z 1 := Fin.ext h1
    rw [hr]
    exact (congrArg _ (z3_eta z)).trans ((tp_at _ _ _ _).trans (lsg1_at x0 x1 (z 2) _))
  · have hr : r.val = 0 + (z 2).val := h2.trans (Nat.zero_add _).symm
    obtain rfl : l = z 1 := Fin.ext h1
    rw [hr]
    exact (congrArg _ (z3_eta z)).trans ((tp_at _ _ _ _).trans (lsg0_at x0 x1 (z 2) _))

theorem out4_at (r : Fin 2048) (l : Fin 128) : out0_4 (F := Ideal) x0 x1 (ix2 r l) = runF x0 x1 r.val l := by
  rw [out4_eq]
  canon_tiles z h
  · have hr : r.val = 1792 + (z 0).val := h0
    obtain rfl : l = z 1 := Fin.ext h1
    rw [hr]
    exact (congrArg _ (z128_eta z)).trans (sc7_at x0 x1 (z 0) _)
  · have hr : r.val = 1536 + (z 0).val := h0
    obtain rfl : l = z 1 := Fin.ext h1
    rw [hr]
    exact (congrArg _ (z128_eta z)).trans (sc6_at x0 x1 (z 0) _)
  · have hr : r.val = 1280 + (z 0).val := h0
    obtain rfl : l = z 1 := Fin.ext h1
    rw [hr]
    exact (congrArg _ (z128_eta z)).trans (sc5_at x0 x1 (z 0) _)
  · have hr : r.val = 1024 + (z 0).val := h0
    obtain rfl : l = z 1 := Fin.ext h1
    rw [hr]
    exact (congrArg _ (z128_eta z)).trans (sc4_at x0 x1 (z 0) _)
  · have hr : r.val = 768 + (z 0).val := h0
    obtain rfl : l = z 1 := Fin.ext h1
    rw [hr]
    exact (congrArg _ (z128_eta z)).trans (sc3_at x0 x1 (z 0) _)
  · have hr : r.val = 512 + (z 0).val := h0
    obtain rfl : l = z 1 := Fin.ext h1
    rw [hr]
    exact (congrArg _ (z128_eta z)).trans (sc2_at x0 x1 (z 0) _)
  · have hr : r.val = 256 + (z 0).val := h0
    obtain rfl : l = z 1 := Fin.ext h1
    rw [hr]
    exact (congrArg _ (z128_eta z)).trans (sc1_at x0 x1 (z 0) _)
  · have hr : r.val = 0 + (z 0).val := h0.trans (Nat.zero_add _).symm
    obtain rfl : l = z 1 := Fin.ext h1
    rw [hr]
    exact (congrArg _ (z128_eta z)).trans (sc0_at x0 x1 (z 0) _)

theorem out5_at (a : Fin 1) (l : Fin 8) (r : Fin 2048) : out0_5 (F := Ideal) x0 x1 (ix3 a l r) = runF x0 x1 r.val ⟨l.val, by omega⟩ := by
  rw [out5_eq]
  canon_tiles z h
  · have hr : r.val = 1792 + (z 2).val := h2
    obtain rfl : l = z 1 := Fin.ext h1
    rw [hr]
    exact (congrArg _ (z3_eta z)).trans ((tp_at _ _ _ _).trans (sc7_at x0 x1 (z 2) _))
  · have hr : r.val = 1536 + (z 2).val := h2
    obtain rfl : l = z 1 := Fin.ext h1
    rw [hr]
    exact (congrArg _ (z3_eta z)).trans ((tp_at _ _ _ _).trans (sc6_at x0 x1 (z 2) _))
  · have hr : r.val = 1280 + (z 2).val := h2
    obtain rfl : l = z 1 := Fin.ext h1
    rw [hr]
    exact (congrArg _ (z3_eta z)).trans ((tp_at _ _ _ _).trans (sc5_at x0 x1 (z 2) _))
  · have hr : r.val = 1024 + (z 2).val := h2
    obtain rfl : l = z 1 := Fin.ext h1
    rw [hr]
    exact (congrArg _ (z3_eta z)).trans ((tp_at _ _ _ _).trans (sc4_at x0 x1 (z 2) _))
  · have hr : r.val = 768 + (z 2).val := h2
    obtain rfl : l = z 1 := Fin.ext h1
    rw [hr]
    exact (congrArg _ (z3_eta z)).trans ((tp_at _ _ _ _).trans (sc3_at x0 x1 (z 2) _))
  · have hr : r.val = 512 + (z 2).val := h2
    obtain rfl : l = z 1 := Fin.ext h1
    rw [hr]
    exact (congrArg _ (z3_eta z)).trans ((tp_at _ _ _ _).trans (sc2_at x0 x1 (z 2) _))
  · have hr : r.val = 256 + (z 2).val := h2
    obtain rfl : l = z 1 := Fin.ext h1
    rw [hr]
    exact (congrArg _ (z3_eta z)).trans ((tp_at _ _ _ _).trans (sc1_at x0 x1 (z 2) _))
  · have hr : r.val = 0 + (z 2).val := h2.trans (Nat.zero_add _).symm
    obtain rfl : l = z 1 := Fin.ext h1
    rw [hr]
    exact (congrArg _ (z3_eta z)).trans ((tp_at _ _ _ _).trans (sc0_at x0 x1 (z 2) _))

end Cert.PrepIdeal.Value
end
-- ==== Proof.PrepFinal.lean ====
module

public import proofs.«01_k».proof.Proof.PrepValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepIdeal.Value
open Cert.PrepIdeal Cert.PrepIdeal.Gen Cert.PrepMath

variable (m : (ℓ : Loc nD τ sig) → Buf (Elt Ideal) ℓ)

abbrev X (c : Dev nD) : FVec Ideal S16384x128 .f32 := m ((c : Thread nD τ).loc main_arg0)
abbrev G (c : Dev nD) : FVec Ideal S1x128 .f32 := m ((c : Thread nD τ).loc main_arg1)

/-- The log of the gate of head `l` at time `n` of sequence `b`. -/
def logAt (x : FVec Ideal S16384x128 .f32) (g : FVec Ideal S1x128 .f32) (b : Fin 8) (l : Fin 128) (n : ℕ) : EReal :=
  if h : n < 2048 then lsg (x (ix2 ⟨b.val * 2048 + n, by omega⟩ l) + g (ix2 0 l)) else 0

/-- Their running sum, in units of log 2. -/
def runAt (x : FVec Ideal S16384x128 .f32) (g : FVec Ideal S1x128 .f32) (b : Fin 8) (s : ℕ) (l : Fin 128) : EReal :=
  (∑ n ∈ Finset.range (s + 1), logAt x g b l n) * Cert.ConstMath.invLog

theorem idx : ∀ t : Fin cfg0.N, win0_0.index t = ![t.val, 0] ∧ win0_1.index t = ![0, 0] ∧ win0_2.index t = ![t.val, 0]
    ∧ win0_3.index t = ![t.val, 0, 0] ∧ win0_4.index t = ![t.val, 0] ∧ win0_5.index t = ![t.val, 0, 0] :=
  (by decide +kernel : ∀ t : Fin grid0.N, _)

theorem lt_N (t : Fin cfg0.N) : t.val < 8 := lt_of_lt_of_eq t.isLt N_0

abbrev seqOf (t : Fin cfg0.N) : Fin 8 := ⟨t.val, lt_N t⟩
abbrev rowOf (t : Fin cfg0.N) (a : Fin 2048) : Fin 16384 := ⟨t.val * 2048 + a.val, by have := lt_N t; omega⟩

theorem row_at (c : Dev nD) (t : Fin cfg0.N) (r : Fin 2048) (l : Fin 128) :
    (show FVec Ideal S2048x128 .f32 from iblk m c 0 t) (ix2 r l) = X m c (ix2 (rowOf t r) l) := by
  blk_ext [iblk, V, idx t]

theorem bias_at (c : Dev nD) (t : Fin cfg0.N) (l : Fin 128) :
    (show FVec Ideal S1x128 .f32 from iblk m c 1 t) (ix2 0 l) = G m c (ix2 0 l) := by
  blk_ext [iblk, V, idx t]

theorem seq_eq (c : Dev nD) (t : Fin cfg0.N) (l : Fin 128) (n : ℕ) :
    seqF (iblk m c 0 t) (iblk m c 1 t) l n = logAt (X m c) (G m c) (seqOf t) l n := by
  unfold seqF logAt
  by_cases h : n < 2048
  · rw [dif_pos h, dif_pos h]
    exact congrArg lsg (congrArg₂ (· + ·) (row_at m c t ⟨n, h⟩ l) (bias_at m c t l))
  · rw [dif_neg h, dif_neg h]

theorem run_eq (c : Dev nD) (t : Fin cfg0.N) (s : ℕ) (l : Fin 128) :
    runF (iblk m c 0 t) (iblk m c 1 t) s l = runAt (X m c) (G m c) (seqOf t) s l := by
  unfold runF runAt
  rw [Finset.sum_congr rfl fun n _ => seq_eq m c t l n]

abbrev bOf (r : Fin 16384) : Fin 8 := ⟨r.val / 2048, by omega⟩

theorem bOf_row (t : Fin cfg0.N) (r : Fin 2048) : bOf (rowOf t r) = seqOf t :=
  Fin.ext (show (t.val * 2048 + r.val) / 2048 = t.val by omega)

theorem sOf_row (t : Fin cfg0.N) (r : Fin 2048) : (rowOf t r).val % 2048 = r.val :=
  show (t.val * 2048 + r.val) % 2048 = r.val by omega

/-- What output 0 holds. -/
def val2 (c : Dev nD) (i : S16384x8.Idx) : EReal :=
  logAt (X m c) (G m c) (bOf (i 0)) ⟨(i 1).val, lt_trans (i 1).isLt (by decide : (8 : ℕ) < 128)⟩ ((i 0).val % 2048)

/-- What output 1 holds. -/
def val3 (c : Dev nD) (i : S8x8x2048.Idx) : EReal :=
  logAt (X m c) (G m c) (i 0) ⟨(i 1).val, lt_trans (i 1).isLt (by decide : (8 : ℕ) < 128)⟩ (i 2).val

/-- What output 2 holds. -/
def val4 (c : Dev nD) (i : S16384x128.Idx) : EReal :=
  runAt (X m c) (G m c) (bOf (i 0)) ((i 0).val % 2048) (i 1)

/-- What output 3 holds. -/
def val5 (c : Dev nD) (i : S8x8x2048.Idx) : EReal :=
  runAt (X m c) (G m c) (i 0) (i 2).val ⟨(i 1).val, lt_trans (i 1).isLt (by decide : (8 : ℕ) < 128)⟩

theorem val2_row (c : Dev nD) (t : Fin cfg0.N) (r : Fin 2048) (l : Fin 8) :
    val2 m c (ix2 (rowOf t r) l) = logAt (X m c) (G m c) (seqOf t) ⟨l.val, by omega⟩ r.val := by
  show logAt _ _ (bOf (rowOf t r)) _ ((rowOf t r).val % 2048) = _
  rw [bOf_row, sOf_row]
  rfl

theorem val4_row (c : Dev nD) (t : Fin cfg0.N) (r : Fin 2048) (l : Fin 128) :
    val4 m c (ix2 (rowOf t r) l) = runAt (X m c) (G m c) (seqOf t) r.val l := by
  show runAt _ _ (bOf (rowOf t r)) ((rowOf t r).val % 2048) _ = _
  rw [bOf_row, sOf_row]
  rfl

theorem final2 (c : Dev nD) : (dats m 0 c).arrAt 2 (cfgs 0).N = val2 m c := by
  refine (dats m 0 c).arrAt_eq_of_covers 2 _ (by decide +kernel) fun t hf y => ?_
  blk_simp
  rw [after0_2]
  idx_vars y
  have e0 : (((cfg0.win 2).blk t).view.emb (ix2 y0 y1) : S16384x8.Idx) = ix2 (rowOf t y0) y1 := by blk_ext [idx t]
  exact (out2_at _ _ y0 y1).trans ((seq_eq m c t _ _).trans ((val2_row m c t y0 y1).symm.trans (congrArg (val2 m c) e0).symm))

theorem final3 (c : Dev nD) : (dats m 0 c).arrAt 3 (cfgs 0).N = val3 m c := by
  refine (dats m 0 c).arrAt_eq_of_covers 3 _ (by decide +kernel) fun t hf y => ?_
  blk_simp
  rw [after0_3]
  idx_vars y
  have e0 : (((cfg0.win 3).blk t).view.emb (ix3 y0 y1 y2) : S8x8x2048.Idx) = ix3 (seqOf t) y1 y2 := by blk_ext [idx t]
  exact (out3_at _ _ y0 y1 y2).trans ((seq_eq m c t _ _).trans (congrArg (val3 m c) e0).symm)

theorem final4 (c : Dev nD) : (dats m 0 c).arrAt 4 (cfgs 0).N = val4 m c := by
  refine (dats m 0 c).arrAt_eq_of_covers 4 _ (by decide +kernel) fun t hf y => ?_
  blk_simp
  rw [after0_4]
  idx_vars y
  have e0 : (((cfg0.win 4).blk t).view.emb (ix2 y0 y1) : S16384x128.Idx) = ix2 (rowOf t y0) y1 := by blk_ext [idx t]
  exact (out4_at _ _ y0 y1).trans ((run_eq m c t _ _).trans ((val4_row m c t y0 y1).symm.trans (congrArg (val4 m c) e0).symm))

theorem final5 (c : Dev nD) : (dats m 0 c).arrAt 5 (cfgs 0).N = val5 m c := by
  refine (dats m 0 c).arrAt_eq_of_covers 5 _ (by decide +kernel) fun t hf y => ?_
  blk_simp
  rw [after0_5]
  idx_vars y
  have e0 : (((cfg0.win 5).blk t).view.emb (ix3 y0 y1 y2) : S8x8x2048.Idx) = ix3 (seqOf t) y1 y2 := by blk_ext [idx t]
  exact (out5_at _ _ y0 y1 y2).trans ((run_eq m c t _ _).trans (congrArg (val5 m c) e0).symm)

end Cert.PrepIdeal.Value
end
-- ==== Proof.PrepRef.lean ====
module

public import proofs.«01_k».proof.Proof.PrepFinal
public import proofs.«01_k».proof.Proof.Gen.PrepRefIdeal.Run
public import proofs.«01_k».proof.Proof.Gen.PrepRefIdeal.Read
public import Idealize.ShloMosaic.Lib.Pointwise

@[expose] public section

set_option maxRecDepth 16384

noncomputable section

open Idealize.ShloMosaic Idealize.ShloMosaic.TcCoe Idealize.SL.Sem

namespace Cert.PrepRefIdeal.Value
open Cert.PrepRefIdeal Cert.PrepRefIdeal.Gen Cert.PrepRefIdeal.Read Cert.PrepMath
open Cert.PrepIdeal.Value (logAt runAt bOf)

variable (x : FVec Ideal S16384x128 .f32) (g : FVec Ideal S1x128 .f32)

theorem sum_at (b : Fin 8) (s : Fin 2048) (l : Fin 128) :
    val_main_v2 (F := Ideal) x g (ix3 b s l) = x (ix2 ⟨b.val * 2048 + s.val, by omega⟩ l) + g (ix2 0 l) := by
  pointwise [val_main_v2, val_main_v1, val_main_v0]

theorem log_at (b : Fin 8) (s : Fin 2048) (l : Fin 128) : val_main_v3 (F := Ideal) x g (ix3 b s l) = logAt x g b l s.val := by
  rw [logAt, dif_pos s.isLt, ← sum_at, ← lsg_neg]
  pointwise [val_main_v3, val_main_call0_v1, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [if_neg (not_not.mpr rfl)]
  rfl

abbrev W : Shape := ⟨3, ![1, 2048, 1]⟩

theorem w_numel : W.numel = 2048 := by decide

theorem w_val (n : Fin W.numel) : (W.rowMajor.symm n 0).val = 0 ∧ (W.rowMajor.symm n 1).val = n.val ∧ (W.rowMajor.symm n 2).val = 0 := by
  have h0 : (W.rowMajor.symm n 0).val < 1 := (W.rowMajor.symm n 0).isLt
  have h2 : (W.rowMajor.symm n 2).val < 1 := (W.rowMajor.symm n 2).isLt
  have h := Shape.rowMajor_val_three (W.rowMajor.symm n)
  rw [Equiv.apply_symm_apply] at h
  have h' : n.val = ((W.rowMajor.symm n 0).val * 2048 + (W.rowMajor.symm n 1).val) * 1 + (W.rowMajor.symm n 2).val := h
  omega

theorem sum_val (b : Fin 8) (s : Fin 2048) (l : Fin 128) :
    val_main_v4 (F := Ideal) x g (ix3 b s l) = ∑ n ∈ Finset.range (s.val + 1), logAt x g b l n := by
  rw [← sum_window (logAt x g b l) s]
  have hv : val_main_call1_call0_v0 (F := Ideal) (Shape.Idx.first h_S_) = 0 := by
    rw [val_main_call1_call0_v0_apply, val_main_call1_call0_cst_apply]
    exact Ideal.ofBits_zero_f32
  unfold val_main_v4 Host.reduceWindowAdd
  rw [Ideal.hostReduceWindowAdd_def, hv]
  unfold Ideal.hostReduceWindowAdd Host.reduceWindow
  refine (List.foldl_ext _ (fun r (n : Fin W.numel) => r + if 2047 ≤ s.val + n.val then logAt x g b l (s.val + n.val - 2047) else 0) _ ?_).trans ?_
  · intro r n _
    obtain ⟨h0, h1, h2⟩ := w_val n
    have hb := b.isLt
    have hs := s.isLt
    have hl := l.isLt
    have hn : n.val < 2048 := lt_of_lt_of_eq n.isLt w_numel
    refine congrArg (r + ·) ?_
    split
    · next hin =>
      have k1 := hin 1
      change 2047 ≤ s.val * 1 + (W.rowMajor.symm n 1).val ∧ s.val * 1 + (W.rowMajor.symm n 1).val - 2047 < 2048 at k1
      rw [h1] at k1
      rw [if_pos (by omega), ← log_at x g b ⟨s.val + n.val - 2047, by omega⟩ l]
      refine congrArg _ (funext fun a => Fin.ext ?_)
      match a with
      | ⟨0, _⟩ =>
        show b.val * 1 + (W.rowMajor.symm n 0).val - 0 = b.val
        omega
      | ⟨1, _⟩ =>
        show s.val * 1 + (W.rowMajor.symm n 1).val - 2047 = s.val + n.val - 2047
        omega
      | ⟨2, _⟩ =>
        show l.val * 1 + (W.rowMajor.symm n 2).val - 0 = l.val
        omega
    · next hin =>
      rw [if_neg fun hle => hin fun a => by
        match a with
        | ⟨0, _⟩ =>
          show 0 ≤ b.val * 1 + (W.rowMajor.symm n 0).val ∧ b.val * 1 + (W.rowMajor.symm n 0).val - 0 < 8
          omega
        | ⟨1, _⟩ =>
          show 2047 ≤ s.val * 1 + (W.rowMajor.symm n 1).val ∧ s.val * 1 + (W.rowMajor.symm n 1).val - 2047 < 2048
          omega
        | ⟨2, _⟩ =>
          show 0 ≤ l.val * 1 + (W.rowMajor.symm n 2).val ∧ l.val * 1 + (W.rowMajor.symm n 2).val - 0 < 128
          omega]
  · rw [foldl_add, zero_add, ← Fin.sum_univ_def]
    exact Fin.sum_congr' (fun w : Fin 2048 => if 2047 ≤ s.val + w.val then logAt x g b l (s.val + w.val - 2047) else 0) w_numel

theorem run_at (b : Fin 8) (s : Fin 2048) (l : Fin 128) : val_main_v7 (F := Ideal) x g (ix3 b s l) = runAt x g b s.val l := by
  rw [runAt, ← sum_val, ← Cert.ConstMath.div_log]
  pointwise [val_main_v7, val_main_v6, val_main_v5, val_main_cst]

theorem ref2_at (r : Fin 16384) (l : Fin 8) :
    val_main_v9 (F := Ideal) x g (ix2 r l) = logAt x g (bOf r) ⟨l.val, by omega⟩ (r.val % 2048) := by
  rw [← log_at x g (bOf r) ⟨r.val % 2048, by omega⟩]
  pointwise [val_main_v9, val_main_v8]

theorem ref3_at (b : Fin 8) (l : Fin 8) (s : Fin 2048) :
    val_main_v11 (F := Ideal) x g (ix3 b l s) = logAt x g b ⟨l.val, by omega⟩ s.val := by
  rw [← log_at x g b s]
  pointwise [val_main_v11, val_main_v10]

theorem ref4_at (r : Fin 16384) (l : Fin 128) :
    val_main_v12 (F := Ideal) x g (ix2 r l) = runAt x g (bOf r) (r.val % 2048) l := by
  rw [← run_at x g (bOf r) ⟨r.val % 2048, by omega⟩]
  pointwise [val_main_v12]

theorem ref5_at (b : Fin 8) (l : Fin 8) (s : Fin 2048) :
    val_main_v14 (F := Ideal) x g (ix3 b l s) = runAt x g b s.val ⟨l.val, by omega⟩ := by
  rw [← run_at x g b s]
  pointwise [val_main_v14, val_main_v13]

end Cert.PrepRefIdeal.Value
end
-- ==== Proof.PrepClaim.lean ====
module

public import proofs.«01_k».proof.Defs
public import proofs.«01_k».proof.Proof.PrepRef
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem prep_algebraic : Cert.algebraic_PrepIdeal_PrepRefIdeal (hPrepIdeal := Cert.PrepIdeal.Gen.facts)
    (hPrepRefIdeal := Cert.PrepRefIdeal.Gen.facts) := by
  pair_intro
  · run_from Cert.PrepIdeal.Value.run_blocks m g
  · refine (θ_run _ _ _).mono (fun r h c => ?_) (Cert.PrepRefIdeal.Value.run m' g')
    obtain ⟨a0, a1⟩ := hagree c
    obtain ⟨r2, r3, r4, r5, hk⟩ := h c
    rw [a0, a1] at r2 r3 r4 r5
    refine ⟨r2.trans ?_, r3.trans ?_, r4.trans ?_, r5.trans ?_, hk⟩
    · rw [Cert.PrepIdeal.Value.final2 m c]; funext i; idx_vars i; exact Cert.PrepRefIdeal.Value.ref2_at _ _ i0 i1
    · rw [Cert.PrepIdeal.Value.final3 m c]; funext i; idx_vars i; exact Cert.PrepRefIdeal.Value.ref3_at _ _ i0 i1 i2
    · rw [Cert.PrepIdeal.Value.final4 m c]; funext i; idx_vars i; exact Cert.PrepRefIdeal.Value.ref4_at _ _ i0 i1
    · rw [Cert.PrepIdeal.Value.final5 m c]; funext i; idx_vars i; exact Cert.PrepRefIdeal.Value.ref5_at _ _ i0 i1 i2

end Cert.Proof
end
-- ==== Proof.PrepsValue.lean ====
module

public import proofs.«01_k».proof.Proof.Gen.PrepsIdeal.Value
public import proofs.«01_k».proof.Proof.Gen.PrepsRefIdeal.Run
public import proofs.«01_k».proof.Proof.Gen.PrepsRefIdeal.Read
public import proofs.«01_k».proof.Proof.PrepMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PrepsIdeal.Value
open Cert.PrepsIdeal Cert.PrepsIdeal.Gen Cert.PrepMath

/-- The log of the gate of head `l` at row `r`. -/
def logRow (x : FVec Ideal S512x128 .f32) (g : FVec Ideal S1x128 .f32) (l : Fin 128) (r : Fin 512) : EReal :=
  lsg (x (ix2 r l) + g (ix2 0 l))

theorem gate_at (x : FVec Ideal S256x128 .f32) (g : FVec Ideal S1x128 .f32) (r : Fin 256) (l : Fin 128) :
    k0_pay4 (F := Ideal) x g (ix2 r l) = lsg (x (ix2 r l) + g (ix2 0 l)) := by
  pointwise [k0_pay4]
  simp only [lsg, zero_sub]
  rfl

/-- The first eight columns. -/
abbrev hd (v : FVec Ideal S256x128 .f32) : FVec Ideal S256x8 .f32 :=
  extractStridedSlice S256x8 ![0, 0] v slices_S256x128_o0_0_S256x8

theorem hd_at (v : FVec Ideal S256x128 .f32) (r : Fin 256) (l : Fin 8) : hd v (ix2 r l) = v (ix2 r ⟨l.val, by omega⟩) := by
  pointwise []

variable (x0 : FVec Ideal S512x128 .f32) (x1 : FVec Ideal S1x128 .f32)

abbrev lo : FVec Ideal S256x128 .f32 := View.ld (Val := Elt Ideal) (e' := .f32) x0 r0_0
abbrev hi : FVec Ideal S256x128 .f32 := View.ld (Val := Elt Ideal) (e' := .f32) x0 r0_4
abbrev gb : FVec Ideal S1x128 .f32 := View.ld (Val := Elt Ideal) (e' := .f32) x1 r0_1

theorem g_at (l : Fin 128) : gb x1 (ix2 0 l) = x1 (ix2 0 l) := by
  refine congrArg x1 (funext fun a => Fin.ext ?_)
  match a with
  | ⟨0, _⟩ => rfl
  | ⟨1, _⟩ => show 0 + 1 * l.val = l.val; omega
theorem lo_at (j : Fin 256) (l : Fin 128) : lo x0 (ix2 j l) = x0 (ix2 ⟨j.val, by omega⟩ l) := by
  refine congrArg x0 (funext fun a => Fin.ext ?_)
  match a with
  | ⟨0, _⟩ => show 0 + 1 * j.val = j.val; omega
  | ⟨1, _⟩ => show 0 + 1 * l.val = l.val; omega
theorem hi_at (j : Fin 256) (l : Fin 128) : hi x0 (ix2 j l) = x0 (ix2 ⟨256 + j.val, by omega⟩ l) := by
  refine congrArg x0 (funext fun a => Fin.ext ?_)
  match a with
  | ⟨0, _⟩ => show 256 + 1 * j.val = 256 + j.val; omega
  | ⟨1, _⟩ => show 0 + 1 * l.val = l.val; omega

theorem lsg0_at (r : Fin 256) (l : Fin 128) : k0_pay4 (F := Ideal) (lo x0) (gb x1) (ix2 r l) = logRow x0 x1 l ⟨r.val, by omega⟩ := by
  rw [gate_at, lo_at, g_at, logRow]
theorem lsg1_at (r : Fin 256) (l : Fin 128) : k0_pay4 (F := Ideal) (hi x0) (gb x1) (ix2 r l) = logRow x0 x1 l ⟨256 + r.val, by omega⟩ := by
  rw [gate_at, hi_at, g_at, logRow]

theorem z8_eta (z : S256x8.Idx) : z = ix2 (z 0) (z 1) := by
  idx_vars z
  rfl

theorem out2_canon : out0_2 (F := Ideal) x0 x1 = View.canon [⟨r0_5, hd (k0_pay4 (hi x0) (gb x1))⟩,
    ⟨r0_2, hd (k0_pay4 (lo x0) (gb x1))⟩] := rfl

theorem out2_at (r : Fin 512) (l : Fin 8) : out0_2 (F := Ideal) x0 x1 (ix2 r l) = logRow x0 x1 ⟨l.val, by omega⟩ r := by
  rw [out2_canon]
  canon_tiles z h
  · have hr : r = ⟨256 + (z 0).val, by have h : (z 0).val < 256 := (z 0).isLt; omega⟩ := Fin.ext h0
    rw [hr]
    obtain rfl : l = z 1 := Fin.ext h1
    exact (congrArg _ (z8_eta z)).trans ((hd_at _ _ _).trans (lsg1_at x0 x1 (z 0) _))
  · have hr : r = ⟨(z 0).val, by have h : (z 0).val < 256 := (z 0).isLt; omega⟩ := Fin.ext h0
    rw [hr]
    obtain rfl : l = z 1 := Fin.ext h1
    exact (congrArg _ (z8_eta z)).trans ((hd_at _ _ _).trans (lsg0_at x0 x1 (z 0) _))

/-- The run, with the first output only. -/
theorem run_first (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1, (h c).2.2.2.2⟩) (run m ρ)

end Cert.PrepsIdeal.Value

namespace Cert.PrepsRefIdeal.Value
open Cert.PrepsRefIdeal Cert.PrepsRefIdeal.Gen Cert.PrepsRefIdeal.Read Cert.PrepMath
open Cert.PrepsIdeal.Value (logRow)

variable (x : FVec Ideal S512x128 .f32) (g : FVec Ideal S1x128 .f32)

theorem sum_at (r : Fin 512) (l : Fin 8) :
    val_main_v3 (F := Ideal) x g (ix2 r l) = x (ix2 r ⟨l.val, by omega⟩) + g (ix2 0 ⟨l.val, by omega⟩) := by
  pointwise [val_main_v3, val_main_v2, val_main_v1, val_main_v0]

theorem log_at (r : Fin 512) (l : Fin 8) : val_main_v4 (F := Ideal) x g (ix2 r l) = logRow x g ⟨l.val, by omega⟩ r := by
  rw [logRow, ← sum_at, ← lsg_neg]
  pointwise [val_main_v4, val_main_call0_v1, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [if_neg (not_not.mpr rfl)]
  rfl

end Cert.PrepsRefIdeal.Value
end
-- ==== Proof.PrepsClaim.lean ====
module

public import proofs.«01_k».proof.Defs
public import proofs.«01_k».proof.Proof.PrepsValue
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

set_option maxHeartbeats 2000000 in
theorem preps_algebraic : Cert.algebraic_PrepsIdeal_PrepsRefIdeal (hPrepsIdeal := Cert.PrepsIdeal.Gen.facts)
    (hPrepsRefIdeal := Cert.PrepsRefIdeal.Gen.facts) := by
  pair_intro
  · run_from Cert.PrepsIdeal.Value.run_first m g
  · refine (θ_run _ _ _).mono (fun r h c => ?_) (Cert.PrepsRefIdeal.Value.run m' g')
    obtain ⟨a0, a1⟩ := hagree c
    obtain ⟨r2, hk⟩ := h c
    rw [a0, a1] at r2
    refine ⟨r2.trans ?_, hk⟩
    funext i; idx_vars i
    exact (Cert.PrepsRefIdeal.Value.log_at _ _ i0 i1).trans ((Cert.PrepsIdeal.Value.out2_at _ _ i0 i1).symm.trans
      (congrFun (Cert.PrepsIdeal.Value.out2_eq _ _) _))

end Cert.Proof
end
-- ==== Proof.lean ====
module

public import proofs.«01_k».proof.Proof.AttnP.Frame
public import proofs.«01_k».proof.Proof.AttnI.Frame
public import proofs.«01_k».proof.Proof.AttnI.Blocks
public import proofs.«01_k».proof.Proof.Gen.AttnRefIdeal.Run
public import proofs.«01_k».proof.Proof.Gen.AttnRefIdeal.Read
public import proofs.«01_k».proof.Defs
public import proofs.«01_k».proof.Proof.Gen.Ffn.Frame
public import proofs.«01_k».proof.Proof.FfnClaim
public import proofs.«01_k».proof.Proof.Gen.Ple.Frame
public import proofs.«01_k».proof.Proof.PleClaim
public import proofs.«01_k».proof.Proof.Gen.Out.Frame
public import proofs.«01_k».proof.Proof.OutClaim
public import proofs.«01_k».proof.Proof.Gen.Inp.Frame
public import proofs.«01_k».proof.Proof.InpClaim
public import proofs.«01_k».proof.Proof.Gen.Ples.Frame
public import proofs.«01_k».proof.Proof.PlesClaim
public import proofs.«01_k».proof.Proof.Gen.Inps.Frame
public import proofs.«01_k».proof.Proof.InpsClaim
public import proofs.«01_k».proof.Proof.AttnPre
public import proofs.«01_k».proof.Proof.AttnClaim
public import proofs.«01_k».proof.Proof.Gen.Prep.Frame
public import proofs.«01_k».proof.Proof.PrepClaim
public import proofs.«01_k».proof.Proof.Gen.Preps.Frame
public import proofs.«01_k».proof.Proof.PrepsClaim
public import Idealize.ShloMosaic.Adequacy
public import Idealize.ShloMosaic.Lib.Claim
public import Idealize.ShloMosaic.Lib.Pointwise

@[expose] public section

set_option maxRecDepth 16384

namespace Cert.Proof

open Idealize.ShloMosaic Idealize.SL.Sem

theorem claim : Cert.Claim := ⟨Cert.Ffn.Gen.facts, Cert.FfnIdeal.Gen.facts, Cert.FfnRefIdeal.Gen.facts, Cert.Ple.Gen.facts, Cert.PleIdeal.Gen.facts, Cert.PleRefIdeal.Gen.facts, Cert.Out.Gen.facts, Cert.OutIdeal.Gen.facts, Cert.OutRefIdeal.Gen.facts, Cert.Inp.Gen.facts, Cert.InpIdeal.Gen.facts, Cert.InpRefIdeal.Gen.facts, Cert.Ples.Gen.facts, Cert.PlesIdeal.Gen.facts, Cert.PlesRefIdeal.Gen.facts,
    Cert.Inps.Gen.facts, Cert.InpsIdeal.Gen.facts, Cert.InpsRefIdeal.Gen.facts, Cert.Attn.Gen.facts, Cert.AttnIdeal.Gen.facts, Cert.AttnRefIdeal.Gen.facts,
    Cert.Prep.Gen.facts, Cert.PrepIdeal.Gen.facts, Cert.PrepRefIdeal.Gen.facts, Cert.Preps.Gen.facts, Cert.PrepsIdeal.Gen.facts, Cert.PrepsRefIdeal.Gen.facts,
    Cert.Pre_finite_inputs.facts,
  fun m ρ _ => Cert.Ffn.Gen.frame m ρ,
  fun m ρ _ => Cert.FfnIdeal.Gen.frame m ρ,
  fun m ρ _ => (θ_run _ _ _).mono (fun r h => ⟨fun c => (h c).2, sem_eq_zero_of_no_sems rfl r.2⟩) (Cert.FfnRefIdeal.Value.run m ρ),
  fun m ρ _ => Cert.Ple.Gen.frame m ρ,
  fun m ρ _ => Cert.PleIdeal.Gen.frame m ρ,
  fun m ρ _ => (θ_run _ _ _).mono (fun r h => ⟨fun c => (h c).2, sem_eq_zero_of_no_sems rfl r.2⟩) (Cert.PleRefIdeal.Value.run m ρ),
  fun m ρ _ => Cert.Out.Gen.frame m ρ,
  fun m ρ _ => Cert.OutIdeal.Gen.frame m ρ,
  fun m ρ _ => (θ_run _ _ _).mono (fun r h => ⟨fun c => (h c).2, sem_eq_zero_of_no_sems rfl r.2⟩) (Cert.OutRefIdeal.Value.run m ρ),
  fun m ρ _ => Cert.Inp.Gen.frame m ρ,
  fun m ρ _ => Cert.InpIdeal.Gen.frame m ρ,
  fun m ρ _ => (θ_run _ _ _).mono (fun r h => ⟨fun c => (h c).2.2.2.2.2.2.2.2.2.2, sem_eq_zero_of_no_sems rfl r.2⟩) (Cert.InpRefIdeal.Value.run m ρ),
  fun m ρ _ => Cert.Ples.Gen.frame m ρ,
  fun m ρ _ => Cert.PlesIdeal.Gen.frame m ρ,
  fun m ρ _ => (θ_run _ _ _).mono (fun r h => ⟨fun c => (h c).2, sem_eq_zero_of_no_sems rfl r.2⟩) (Cert.PlesRefIdeal.Value.run m ρ),
  fun m ρ _ => Cert.Inps.Gen.frame m ρ,
  fun m ρ _ => Cert.InpsIdeal.Gen.frame m ρ,
  fun m ρ _ => (θ_run _ _ _).mono (fun r h => ⟨fun c => (h c).2.2.2.2.2.2.2.2.2.2, sem_eq_zero_of_no_sems rfl r.2⟩) (Cert.InpsRefIdeal.Value.run m ρ),
  fun m ρ _ => Cert.Attn.Gen.frame m ρ,
  fun m ρ _ => Cert.AttnIdeal.Gen.frame m ρ,
  fun m ρ _ => Cert.AttnIdeal.Gen.frame m ρ,
  fun m ρ _ => (θ_run _ _ _).mono (fun r h => ⟨fun c => (h c).2, sem_eq_zero_of_no_sems rfl r.2⟩) (Cert.AttnRefIdeal.Value.run m ρ),
  fun m ρ _ => (θ_run _ _ _).mono (fun r h => ⟨fun c => (h c).2, sem_eq_zero_of_no_sems rfl r.2⟩) (Cert.AttnRefIdeal.Value.run m ρ),
  fun m ρ _ => Cert.Prep.Gen.frame m ρ,
  fun m ρ _ => Cert.PrepIdeal.Gen.frame m ρ,
  fun m ρ _ => (θ_run _ _ _).mono (fun r h => ⟨fun c => (h c).2.2.2.2, sem_eq_zero_of_no_sems rfl r.2⟩) (Cert.PrepRefIdeal.Value.run m ρ),
  fun m ρ _ => Cert.Preps.Gen.frame m ρ,
  fun m ρ _ => Cert.PrepsIdeal.Gen.frame m ρ,
  fun m ρ _ => (θ_run _ _ _).mono (fun r h => ⟨fun c => (h c).2, sem_eq_zero_of_no_sems rfl r.2⟩) (Cert.PrepsRefIdeal.Value.run m ρ),
  trivial,
  ffn_algebraic,
  trivial,
  ple_algebraic,
  trivial,
  out_algebraic,
  ⟨IdealRules.named_const.statement Cert.InpIdeal.κ "scale_a" .f32 0x3E0293EE#32 (((Real.sqrt 128)⁻¹ * (Real.log 2)⁻¹ : ℝ) : EReal) rfl,
    IdealRules.named_const.statement Cert.InpIdeal.κ "scale_b" .f32 0x3DB504F3#32 (((Real.sqrt 128)⁻¹ : ℝ) : EReal) rfl⟩,
  inp_algebraic,
  trivial,
  ples_algebraic,
  ⟨IdealRules.named_const.statement Cert.InpsIdeal.κ "scale_a" .f32 0x3E0293EE#32 (((Real.sqrt 128)⁻¹ * (Real.log 2)⁻¹ : ℝ) : EReal) rfl,
    IdealRules.named_const.statement Cert.InpsIdeal.κ "scale_b" .f32 0x3DB504F3#32 (((Real.sqrt 128)⁻¹ : ℝ) : EReal) rfl⟩,
  inps_algebraic,
  IdealRules.named_const.statement Cert.AttnIdeal.κ "mask" .f32 0xF149F2CA#32 ⊥ rfl,
  attn_algebraic,
  IdealRules.named_const.statement Cert.PrepIdeal.κ "log2e" .f32 0x3FB8AA3B#32 (((Real.log 2)⁻¹ : ℝ) : EReal) rfl,
  prep_algebraic,
  trivial,
  preps_algebraic⟩

end Cert.Proof
